-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ring (m : (ℓ : Loc Cert.Ring.nD Cert.Ring.τ Cert.Ring.sig) → Buf (Elt Bits) ℓ) : Prop :=
  True

def Pre_Gather (m : (ℓ : Loc Cert.Gather.nD Cert.Gather.τ Cert.Gather.sig) → Buf (Elt Bits) ℓ) : Prop :=
  True

def Pre_Written (m : (ℓ : Loc Cert.Written.nD Cert.Written.τ Cert.Written.sig) → Buf (Elt Bits) ℓ) : Prop :=
  True

def Pre_Gathers (m : (ℓ : Loc Cert.Gathers.nD Cert.Gathers.τ Cert.Gathers.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ring [hRing : Cert.Ring.Facts] : Prop :=
  ∀ (m : (ℓ : Loc Cert.Ring.nD Cert.Ring.τ Cert.Ring.sig) → Buf (Elt Bits) ℓ) (g : Dev Cert.Ring.nD → PrngReg), Pre_Ring m →
    θ_run (Cert.Ring.defs (F := Bits)) (onTc (τ := Cert.Ring.τ) (Cert.Ring.main (F := Bits))) ⟨m, fun _ => 0, g⟩ (fun r => (∀ c : Dev Cert.Ring.nD,
      r.2.mem ((c.tc : Thread Cert.Ring.nD Cert.Ring.τ).loc Cert.Ring.main_arg0) = m ((c.tc : Thread Cert.Ring.nD Cert.Ring.τ).loc Cert.Ring.main_arg0)
      ∧ r.2.mem ((c.tc : Thread Cert.Ring.nD Cert.Ring.τ).loc Cert.Ring.main_arg1) = m ((c.tc : Thread Cert.Ring.nD Cert.Ring.τ).loc Cert.Ring.main_arg1))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_Written [hWritten : Cert.Written.Facts] : Prop :=
  ∀ (m : (ℓ : Loc Cert.Written.nD Cert.Written.τ Cert.Written.sig) → Buf (Elt Bits) ℓ) (g : Dev Cert.Written.nD → PrngReg), Pre_Written m →
    θ_run (Cert.Written.defs (F := Bits)) (onTc (τ := Cert.Written.τ) (Cert.Written.main (F := Bits))) ⟨m, fun _ => 0, g⟩ (fun r => (∀ c : Dev Cert.Written.nD,
      r.2.mem ((c.tc : Thread Cert.Written.nD Cert.Written.τ).loc Cert.Written.main_arg0) = m ((c.tc : Thread Cert.Written.nD Cert.Written.τ).loc Cert.Written.main_arg0)
      ∧ r.2.mem ((c.tc : Thread Cert.Written.nD Cert.Written.τ).loc Cert.Written.main_arg1) = m ((c.tc : Thread Cert.Written.nD Cert.Written.τ).loc Cert.Written.main_arg1))
      ∧ r.2.sem = fun _ => 0)

def quiescent_Gathers [hGathers : Cert.Gathers.Facts] : Prop :=
  ∀ (m : (ℓ : Loc Cert.Gathers.nD Cert.Gathers.τ Cert.Gathers.sig) → Buf (Elt Bits) ℓ) (g : Dev Cert.Gathers.nD → PrngReg), Pre_Gathers m →
    θ_run (Cert.Gathers.defs (F := Bits)) (onTc (τ := Cert.Gathers.τ) (Cert.Gathers.main (F := Bits))) ⟨m, fun _ => 0, g⟩ (fun r => (∀ c : Dev Cert.Gathers.nD,
      r.2.mem ((c.tc : Thread Cert.Gathers.nD Cert.Gathers.τ).loc Cert.Gathers.main_arg0) = m ((c.tc : Thread Cert.Gathers.nD Cert.Gathers.τ).loc Cert.Gathers.main_arg0)
      ∧ r.2.mem ((c.tc : Thread Cert.Gathers.nD Cert.Gathers.τ).loc Cert.Gathers.main_arg1) = m ((c.tc : Thread Cert.Gathers.nD Cert.Gathers.τ).loc Cert.Gathers.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Ring_Gather [hRing : Cert.Ring.Facts] [hGather : Cert.Gather.Facts] : Prop :=
  ∀ (m : (ℓ : Loc Cert.Ring.nD Cert.Ring.τ Cert.Ring.sig) → Buf (Elt Bits) ℓ) (g : Dev Cert.Ring.nD → PrngReg)
    (m' : (ℓ : Loc Cert.Gather.nD Cert.Gather.τ Cert.Gather.sig) → Buf (Elt Bits) ℓ) (g' : Dev Cert.Gather.nD → PrngReg), Pre_Ring m →
    (∀ c : Dev Cert.Ring.nD,
      m ((c.tc : Thread Cert.Ring.nD Cert.Ring.τ).loc Cert.Ring.main_arg0) = Layout.block ⟨2, ![512, 256]⟩ ⟨2, ![512, 4096]⟩ 1 16 c (m' (((0 : Dev Cert.Gather.nD).tc : Thread Cert.Gather.nD Cert.Gather.τ).loc Cert.Gather.main_arg0))
      ∧ m ((c.tc : Thread Cert.Ring.nD Cert.Ring.τ).loc Cert.Ring.main_arg1) = Layout.block ⟨2, ![256, 512]⟩ ⟨2, ![4096, 512]⟩ 0 16 c (m' (((0 : Dev Cert.Gather.nD).tc : Thread Cert.Gather.nD Cert.Gather.τ).loc Cert.Gather.main_arg1))) →
    ∃ (v0 : Buf (Elt Bits) (((0 : Dev Cert.Gather.nD).tc : Thread Cert.Gather.nD Cert.Gather.τ).loc Cert.Gather.main_v1)) (v1 : Buf (Elt Bits) (((0 : Dev Cert.Gather.nD).tc : Thread Cert.Gather.nD Cert.Gather.τ).loc Cert.Gather.main_v2)),
      θ_run (Cert.Ring.defs (F := Bits)) (onTc (τ := Cert.Ring.τ) (Cert.Ring.main (F := Bits))) ⟨m, fun _ => 0, g⟩ (fun r => ∀ c : Dev Cert.Ring.nD,
          r.2.mem ((c.tc : Thread Cert.Ring.nD Cert.Ring.τ).loc Cert.Ring.main_v1_0) = v0
          ∧ r.2.mem ((c.tc : Thread Cert.Ring.nD Cert.Ring.τ).loc Cert.Ring.main_v1_1) = v1
          ∧ r.2.mem ((c.tc : Thread Cert.Ring.nD Cert.Ring.τ).loc Cert.Ring.main_arg0) = m ((c.tc : Thread Cert.Ring.nD Cert.Ring.τ).loc Cert.Ring.main_arg0)
          ∧ r.2.mem ((c.tc : Thread Cert.Ring.nD Cert.Ring.τ).loc Cert.Ring.main_arg1) = m ((c.tc : Thread Cert.Ring.nD Cert.Ring.τ).loc Cert.Ring.main_arg1))
      ∧ θ_run (Cert.Gather.defs (F := Bits)) (onTc (τ := Cert.Gather.τ) (Cert.Gather.main (F := Bits))) ⟨m', fun _ => 0, g'⟩ (fun r =>
          r.2.mem (((0 : Dev Cert.Gather.nD).tc : Thread Cert.Gather.nD Cert.Gather.τ).loc Cert.Gather.main_v1) = v0
          ∧ r.2.mem (((0 : Dev Cert.Gather.nD).tc : Thread Cert.Gather.nD Cert.Gather.τ).loc Cert.Gather.main_v2) = v1
          ∧ r.2.mem (((0 : Dev Cert.Gather.nD).tc : Thread Cert.Gather.nD Cert.Gather.τ).loc Cert.Gather.main_arg0) = m' (((0 : Dev Cert.Gather.nD).tc : Thread Cert.Gather.nD Cert.Gather.τ).loc Cert.Gather.main_arg0)
          ∧ r.2.mem (((0 : Dev Cert.Gather.nD).tc : Thread Cert.Gather.nD Cert.Gather.τ).loc Cert.Gather.main_arg1) = m' (((0 : Dev Cert.Gather.nD).tc : Thread Cert.Gather.nD Cert.Gather.τ).loc Cert.Gather.main_arg1))

def bitexact_Written_Gathers_on_first_hop [hWritten : Cert.Written.Facts] [hGathers : Cert.Gathers.Facts] [hOn_first_hop : Cert.On_first_hop.Facts] : Prop :=
  ∀ (m : (ℓ : Loc Cert.Written.nD Cert.Written.τ Cert.Written.sig) → Buf (Elt Bits) ℓ) (g : Dev Cert.Written.nD → PrngReg)
    (m' : (ℓ : Loc Cert.Gathers.nD Cert.Gathers.τ Cert.Gathers.sig) → Buf (Elt Bits) ℓ) (g' : Dev Cert.Gathers.nD → PrngReg), Pre_Written m →
    (∀ c : Dev Cert.Written.nD,
      m ((c.tc : Thread Cert.Written.nD Cert.Written.τ).loc Cert.Written.main_arg0) = Layout.block ⟨2, ![512, 256]⟩ ⟨2, ![512, 4096]⟩ 1 16 c (m' (((0 : Dev Cert.Gathers.nD).tc : Thread Cert.Gathers.nD Cert.Gathers.τ).loc Cert.Gathers.main_arg0))
      ∧ m ((c.tc : Thread Cert.Written.nD Cert.Written.τ).loc Cert.Written.main_arg1) = Layout.block ⟨2, ![256, 512]⟩ ⟨2, ![4096, 512]⟩ 0 16 c (m' (((0 : Dev Cert.Gathers.nD).tc : Thread Cert.Gathers.nD Cert.Gathers.τ).loc Cert.Gathers.main_arg1))) →
    ∃ (v0 : Buf (Elt Bits) (((0 : Dev Cert.Gathers.nD).tc : Thread Cert.Gathers.nD Cert.Gathers.τ).loc Cert.Gathers.main_v5)) (v1 : Buf (Elt Bits) (((0 : Dev Cert.Gathers.nD).tc : Thread Cert.Gathers.nD Cert.Gathers.τ).loc Cert.Gathers.main_v8)),
      θ_run (Cert.Written.defs (F := Bits)) (onTc (τ := Cert.Written.τ) (Cert.Written.main (F := Bits))) ⟨m, fun _ => 0, g⟩ (fun r => ∀ c : Dev Cert.Written.nD,
          (∀ i : (⟨3, ![16, 512, 256]⟩ : Shape).Idx, (Layout.block ⟨3, ![16, 512, 256]⟩ ⟨3, ![256, 512, 256]⟩ 0 16 c ((Cert.On_first_hop.fn (F := Bits) (m' (((0 : Dev Cert.Gathers.nD).tc : Thread Cert.Gathers.nD Cert.Gathers.τ).loc Cert.Gathers.main_arg0)) (m' (((0 : Dev Cert.Gathers.nD).tc : Thread Cert.Gathers.nD Cert.Gathers.τ).loc Cert.Gathers.main_arg1))).1) : (⟨3, ![16, 512, 256]⟩ : Shape).Idx → _) i = 1#1 → r.2.mem ((c.tc : Thread Cert.Written.nD Cert.Written.τ).loc Cert.Written.main_v1_0) i = (Layout.block ⟨3, ![16, 512, 256]⟩ ⟨3, ![256, 512, 256]⟩ 0 16 c v0 : (⟨3, ![16, 512, 256]⟩ : Shape).Idx → _) i)
          ∧ (∀ i : (⟨3, ![16, 256, 512]⟩ : Shape).Idx, (Layout.block ⟨3, ![16, 256, 512]⟩ ⟨3, ![256, 256, 512]⟩ 0 16 c ((Cert.On_first_hop.fn (F := Bits) (m' (((0 : Dev Cert.Gathers.nD).tc : Thread Cert.Gathers.nD Cert.Gathers.τ).loc Cert.Gathers.main_arg0)) (m' (((0 : Dev Cert.Gathers.nD).tc : Thread Cert.Gathers.nD Cert.Gathers.τ).loc Cert.Gathers.main_arg1))).2) : (⟨3, ![16, 256, 512]⟩ : Shape).Idx → _) i = 1#1 → r.2.mem ((c.tc : Thread Cert.Written.nD Cert.Written.τ).loc Cert.Written.main_v1_1) i = (Layout.block ⟨3, ![16, 256, 512]⟩ ⟨3, ![256, 256, 512]⟩ 0 16 c v1 : (⟨3, ![16, 256, 512]⟩ : Shape).Idx → _) i)
          ∧ r.2.mem ((c.tc : Thread Cert.Written.nD Cert.Written.τ).loc Cert.Written.main_arg0) = m ((c.tc : Thread Cert.Written.nD Cert.Written.τ).loc Cert.Written.main_arg0)
          ∧ r.2.mem ((c.tc : Thread Cert.Written.nD Cert.Written.τ).loc Cert.Written.main_arg1) = m ((c.tc : Thread Cert.Written.nD Cert.Written.τ).loc Cert.Written.main_arg1))
      ∧ θ_run (Cert.Gathers.defs (F := Bits)) (onTc (τ := Cert.Gathers.τ) (Cert.Gathers.main (F := Bits))) ⟨m', fun _ => 0, g'⟩ (fun r =>
          (∀ i : (⟨3, ![256, 512, 256]⟩ : Shape).Idx, (Cert.On_first_hop.fn (F := Bits) (m' (((0 : Dev Cert.Gathers.nD).tc : Thread Cert.Gathers.nD Cert.Gathers.τ).loc Cert.Gathers.main_arg0)) (m' (((0 : Dev Cert.Gathers.nD).tc : Thread Cert.Gathers.nD Cert.Gathers.τ).loc Cert.Gathers.main_arg1))).1 i = 1#1 → r.2.mem (((0 : Dev Cert.Gathers.nD).tc : Thread Cert.Gathers.nD Cert.Gathers.τ).loc Cert.Gathers.main_v5) i = v0 i)
          ∧ (∀ i : (⟨3, ![256, 256, 512]⟩ : Shape).Idx, (Cert.On_first_hop.fn (F := Bits) (m' (((0 : Dev Cert.Gathers.nD).tc : Thread Cert.Gathers.nD Cert.Gathers.τ).loc Cert.Gathers.main_arg0)) (m' (((0 : Dev Cert.Gathers.nD).tc : Thread Cert.Gathers.nD Cert.Gathers.τ).loc Cert.Gathers.main_arg1))).2 i = 1#1 → r.2.mem (((0 : Dev Cert.Gathers.nD).tc : Thread Cert.Gathers.nD Cert.Gathers.τ).loc Cert.Gathers.main_v8) i = v1 i)
          ∧ r.2.mem (((0 : Dev Cert.Gathers.nD).tc : Thread Cert.Gathers.nD Cert.Gathers.τ).loc Cert.Gathers.main_arg0) = m' (((0 : Dev Cert.Gathers.nD).tc : Thread Cert.Gathers.nD Cert.Gathers.τ).loc Cert.Gathers.main_arg0)
          ∧ r.2.mem (((0 : Dev Cert.Gathers.nD).tc : Thread Cert.Gathers.nD Cert.Gathers.τ).loc Cert.Gathers.main_arg1) = m' (((0 : Dev Cert.Gathers.nD).tc : Thread Cert.Gathers.nD Cert.Gathers.τ).loc Cert.Gathers.main_arg1))

def Claim : Prop :=
  ∃ (hKernel : Cert.Kernel.Facts) (hKernelIdeal : Cert.KernelIdeal.Facts) (hReferenceIdeal : Cert.ReferenceIdeal.Facts) (hRing : Cert.Ring.Facts) (hGather : Cert.Gather.Facts) (hWritten : Cert.Written.Facts) (hGathers : Cert.Gathers.Facts) (hOn_first_hop : Cert.On_first_hop.Facts),
    quiescent_Kernel (hKernel := hKernel)
    ∧ quiescent_KernelIdeal (hKernelIdeal := hKernelIdeal)
    ∧ quiescent_ReferenceIdeal (hReferenceIdeal := hReferenceIdeal)
    ∧ quiescent_Ring (hRing := hRing)
    ∧ quiescent_Gather (hGather := hGather)
    ∧ quiescent_Written (hWritten := hWritten)
    ∧ quiescent_Gathers (hGathers := hGathers)
    ∧ preserves_Kernel_KernelIdeal
    ∧ algebraic_KernelIdeal_ReferenceIdeal (hKernelIdeal := hKernelIdeal) (hReferenceIdeal := hReferenceIdeal)
    ∧ bitexact_Ring_Gather (hRing := hRing) (hGather := hGather)
    ∧ bitexact_Written_Gathers_on_first_hop (hWritten := hWritten) (hGathers := hGathers) (hOn_first_hop := hOn_first_hop)
-- ==== On_first_hop.lean ====
abbrev S512x4096 : Shape := ⟨2, ![512, 4096]⟩
abbrev S4096x512 : Shape := ⟨2, ![4096, 512]⟩
abbrev S256x512x256 : Shape := ⟨3, ![256, 512, 256]⟩
abbrev S_ : Shape := ⟨0, ![]⟩
abbrev S256x256x512 : Shape := ⟨3, ![256, 256, 512]⟩

class Facts : Prop where
  bcast_S_S256x512x256 : S_.BroadcastsInDim S256x512x256 (![] : Fin 0 → Fin S256x512x256.rank)
  bcast_S_S256x256x512 : S_.BroadcastsInDim S256x256x512 (![] : Fin 0 → Fin S256x256x512.rank)

variable [Facts]

def fn_part1 {F : FTy → Type} [FloatOps F] (main_v11 : IVec S256x512x256 1) (main_v12 : IVec S256x256x512 32) (main_v16 : IVec S256x256x512 32) : IVec S256x512x256 1 × IVec S256x256x512 1 :=
  let main_c_6 : IVec S_ 32 := constantI S_ 32 16#32
  let main_v17 : IVec S256x256x512 32 := broadcastInDim S256x256x512 ![] bcast_S_S256x256x512 main_c_6
  let main_v18 : IVec S256x256x512 32 := Host.remsi main_v12 main_v17
  let main_v19 : IVec S256x256x512 32 := subi main_v16 main_v18
  let main_c_7 : IVec S_ 32 := constantI S_ 32 16#32
  let main_v20 : IVec S256x256x512 32 := broadcastInDim S256x256x512 ![] bcast_S_S256x256x512 main_c_7
  let main_v21 : IVec S256x256x512 32 := Host.remsi main_v19 main_v20
  let main_c_8 : IVec S_ 32 := constantI S_ 32 2#32
  let main_v22 : IVec S256x256x512 32 := broadcastInDim S256x256x512 ![] bcast_S_S256x256x512 main_c_8
  let main_v23 : IVec S256x256x512 1 := cmpi .slt main_v21 main_v22
  (main_v11, main_v23)

def fn {F : FTy → Type} [FloatOps F] (main_arg0 : FVec F S512x4096 .bf16) (main_arg1 : FVec F S4096x512 .bf16) : IVec S256x512x256 1 × IVec S256x256x512 1 :=
  let main_v0 : IVec S256x512x256 32 := iotaInDim S256x512x256 32 0
  let main_c : IVec S_ 32 := constantI S_ 32 16#32
  let main_v1 : IVec S256x512x256 32 := broadcastInDim S256x512x256 ![] bcast_S_S256x512x256 main_c
  let main_v2 : IVec S256x512x256 32 := Host.divsi main_v0 main_v1
  let main_c_0 : IVec S_ 32 := constantI S_ 32 16#32
  let main_v3 : IVec S256x512x256 32 := broadcastInDim S256x512x256 ![] bcast_S_S256x512x256 main_c_0
  let main_v4 : IVec S256x512x256 32 := addi main_v2 main_v3
  let main_c_1 : IVec S_ 32 := constantI S_ 32 16#32
  let main_v5 : IVec S256x512x256 32 := broadcastInDim S256x512x256 ![] bcast_S_S256x512x256 main_c_1
  let main_v6 : IVec S256x512x256 32 := Host.remsi main_v0 main_v5
  let main_v7 : IVec S256x512x256 32 := subi main_v4 main_v6
  let main_c_2 : IVec S_ 32 := constantI S_ 32 16#32
  let main_v8 : IVec S256x512x256 32 := broadcastInDim S256x512x256 ![] bcast_S_S256x512x256 main_c_2
  let main_v9 : IVec S256x512x256 32 := Host.remsi main_v7 main_v8
  let main_c_3 : IVec S_ 32 := constantI S_ 32 2#32
  let main_v10 : IVec S256x512x256 32 := broadcastInDim S256x512x256 ![] bcast_S_S256x512x256 main_c_3
  let main_v11 : IVec S256x512x256 1 := cmpi .slt main_v9 main_v10
  let main_v12 : IVec S256x256x512 32 := iotaInDim S256x256x512 32 0
  let main_c_4 : IVec S_ 32 := constantI S_ 32 16#32
  let main_v13 : IVec S256x256x512 32 := broadcastInDim S256x256x512 ![] bcast_S_S256x256x512 main_c_4
  let main_v14 : IVec S256x256x512 32 := Host.divsi main_v12 main_v13
  let main_c_5 : IVec S_ 32 := constantI S_ 32 16#32
  let main_v15 : IVec S256x256x512 32 := broadcastInDim S256x256x512 ![] bcast_S_S256x256x512 main_c_5
  let main_v16 : IVec S256x256x512 32 := addi main_v14 main_v15
  fn_part1 (F := F) main_v11 main_v12 main_v16
-- ==== Kernel.lean ====
abbrev S2x256x512 : Shape := ⟨3, ![2, 256, 512]⟩
abbrev S16x512x256 : Shape := ⟨3, ![16, 512, 256]⟩
abbrev S16x256x512 : Shape := ⟨3, ![16, 256, 512]⟩
abbrev S2x64x256x64 : Shape := ⟨4, ![2, 64, 256, 64]⟩
abbrev S1x256x512 : Shape := ⟨3, ![1, 256, 512]⟩
abbrev S256x512 : Shape := ⟨2, ![256, 512]⟩
abbrev S1x512x256 : Shape := ⟨3, ![1, 512, 256]⟩
abbrev S512x256 : Shape := ⟨2, ![512, 256]⟩
abbrev S256x256 : Shape := ⟨2, ![256, 256]⟩
abbrev S256x64 : Shape := ⟨2, ![256, 64]⟩
abbrev S1x1x256x64 : Shape := ⟨4, ![1, 1, 256, 64]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S2x256x512, .bf16⟩
  | .hbm, ⟨1, _⟩ => ⟨S16x512x256, .bf16⟩
  | .hbm, ⟨2, _⟩ => ⟨S16x256x512, .bf16⟩
  | .hbm, ⟨3, _⟩ => ⟨S2x64x256x64, .bf16⟩
  | .hbm, ⟨4, _⟩ => ⟨S2x64x256x64, .bf16⟩
  | .hbm, ⟨5, _⟩ => ⟨S2x256x512, .f32⟩
  | .local _ .vmem, ⟨0, _⟩ => ⟨S2x256x512, .bf16⟩
  | .local _ .vmem, ⟨1, _⟩ => ⟨S16x512x256, .bf16⟩
  | .local _ .vmem, ⟨2, _⟩ => ⟨S16x256x512, .bf16⟩
  | .local _ .vmem, ⟨3, _⟩ => ⟨S2x64x256x64, .bf16⟩
  | .local _ .vmem, ⟨4, _⟩ => ⟨S2x64x256x64, .bf16⟩
  | .local _ .vmem, ⟨5, _⟩ => ⟨S2x256x512, .f32⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg0 : BitVec 32 := BitVec.ofNat 32 (i 0).val
  let v0 : Index := Scalar.indexCast arg0
  let c0 : Index := 0#32
  let c0_0 : Index := 0#32
  ![v0.toNat, 0, 0]
def k0_off2 (i : grid0.Coords) : Fin 3 → Nat :=
  let arg1 : BitVec 32 := BitVec.ofNat 32 (i 1).val
  let v3 : Index := Scalar.indexCast arg1
  let c0_1 : Index := 0#32
  let c0_2 : Index := 0#32
  ![v3.toNat, 0, 0]
def k0_off3 (i : grid0.Coords) (c0_i32_14 : BitVec 32) : Fin 4 → Nat :=
  let arg0 : BitVec 32 := BitVec.ofNat 32 (i 0).val
  let v62 : Index := Scalar.indexCast arg0
  let arg1 : BitVec 32 := BitVec.ofNat 32 (i 1).val
  let c4_i32 : BitVec 32 := 4#32
  let v60 : BitVec 32 := Scalar.muli arg1 c4_i32
  let v61 : BitVec 32 := Scalar.addi v60 c0_i32_14
  let v63 : Index := Scalar.indexCast v61
  let c0_15 : Index := 0#32
  let c0_16 : Index := 0#32
  ![v62.toNat, v63.toNat, 0, 0]
def k0_off4 (i : grid0.Coords) : Fin 3 → Nat :=
  let arg1 : BitVec 32 := BitVec.ofNat 32 (i 1).val
  let v177 : Index := Scalar.indexCast arg1
  let c0_67 : Index := 0#32
  let c0_68 : Index := 0#32
  ![v177.toNat, 0, 0]
def k0_cond1 (i : grid0.Coords) : BitVec 1 :=
  let arg1 : BitVec 32 := BitVec.ofNat 32 (i 1).val
  let c0_i32_70 : BitVec 32 := 0#32
  let v181 : BitVec 1 := Scalar.cmpi .eq arg1 c0_i32_70
  let v182 : BitVec 32 := Scalar.extui v181
  let c0_i32_71 : BitVec 32 := 0#32
  let v183 : BitVec 1 := Scalar.cmpi .ne v182 c0_i32_71
  v183

def k0_off5 (i : grid0.Coords) : Fin 3 → Nat :=
  let arg0 : BitVec 32 := BitVec.ofNat 32 (i 0).val
  let v187 : Index := Scalar.indexCast arg0
  let c0_74 : Index := 0#32
  let c0_75 : Index := 0#32
  ![v187.toNat, 0, 0]
def k0_cond2 (i : grid0.Coords) : BitVec 1 :=
  let arg1 : BitVec 32 := BitVec.ofNat 32 (i 1).val
  let c0_i32_72 : BitVec 32 := 0#32
  let v184 : BitVec 1 := Scalar.cmpi .sgt arg1 c0_i32_72
  let v185 : BitVec 32 := Scalar.extui v184
  let c0_i32_73 : BitVec 32 := 0#32
  let v186 : BitVec 1 := Scalar.cmpi .ne v185 c0_i32_73
  v186

def k0_off6 (i : grid0.Coords) : Fin 3 → Nat :=
  let arg0 : BitVec 32 := BitVec.ofNat 32 (i 0).val
  let v187 : Index := Scalar.indexCast arg0
  let c0_74 : Index := 0#32
  let c0_75 : Index := 0#32
  ![v187.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S16x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x64x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x64x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S2x256x512 : Shape := ⟨3, ![2, 256, 512]⟩
abbrev S16x512x256 : Shape := ⟨3, ![16, 512, 256]⟩
abbrev S16x256x512 : Shape := ⟨3, ![16, 256, 512]⟩
abbrev S2x64x256x64 : Shape := ⟨4, ![2, 64, 256, 64]⟩
abbrev S512x16x256 : Shape := ⟨3, ![512, 16, 256]⟩
abbrev S512x4096 : Shape := ⟨2, ![512, 4096]⟩
abbrev S4096x512 : Shape := ⟨2, ![4096, 512]⟩
abbrev S2x256x64x64 : Shape := ⟨4, ![2, 256, 64, 64]⟩
abbrev S2x256x4096 : Shape := ⟨3, ![2, 256, 4096]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x64x256x256 : Shape := ⟨4, ![2, 64, 256, 256]⟩
abbrev S1x1x256x256 : Shape := ⟨4, ![1, 1, 256, 256]⟩
abbrev S2x64x256 : Shape := ⟨3, ![2, 64, 256]⟩
abbrev S2x64x256x1 : Shape := ⟨4, ![2, 64, 256, 1]⟩
abbrev S1x1x256x1 : Shape := ⟨4, ![1, 1, 256, 1]⟩
abbrev S2x64x64x256 : Shape := ⟨4, ![2, 64, 64, 256]⟩

abbrev nBuf : Space → Nat
  | .hbm => 147
  | .vmem => 0
  | .smem => 0
  | _ => 0

abbrev hbmTy0_0 (i : Nat) : BufTy := match i % 128 with
  | 0 => ⟨S2x256x512, .bf16⟩
  | 1 => ⟨S16x512x256, .bf16⟩
  | 2 => ⟨S16x256x512, .bf16⟩
  | 3 => ⟨S2x64x256x64, .bf16⟩
  | 4 => ⟨S2x64x256x64, .bf16⟩
  | 5 => ⟨S2x256x512, .f32⟩
  | 6 => ⟨S16x512x256, .f32⟩
  | 7 => ⟨S512x16x256, .f32⟩
  | 8 => ⟨S512x4096, .f32⟩
  | 9 => ⟨S16x256x512, .f32⟩
  | 10 => ⟨S4096x512, .f32⟩
  | 11 => ⟨S2x64x256x64, .f32⟩
  | 12 => ⟨S2x256x64x64, .f32⟩
  | 13 => ⟨S2x64x256x64, .f32⟩
  | 14 => ⟨S2x256x64x64, .f32⟩
  | 15 => ⟨S2x256x4096, .f32⟩
  | 16 => ⟨S2x256x64x64, .f32⟩
  | 17 => ⟨S256, .i32⟩
  | 18 => ⟨S_, .i32⟩
  | 19 => ⟨S_, .i32⟩
  | 20 => ⟨S256, .i32⟩
  | 21 => ⟨S256, .i32⟩
  | 22 => ⟨S256, .i32⟩
  | 23 => ⟨S_, .i32⟩
  | 24 => ⟨S256, .i32⟩
  | 25 => ⟨S256, .i1⟩
  | 26 => ⟨S256, .i32⟩
  | 27 => ⟨S256, .i32⟩
  | 28 => ⟨S_, .i32⟩
  | 29 => ⟨S256, .i32⟩
  | 30 => ⟨S256, .i1⟩
  | 31 => ⟨S256, .i1⟩
  | 32 => ⟨S_, .i32⟩
  | 33 => ⟨S256, .i32⟩
  | 34 => ⟨S256, .i32⟩
  | 35 => ⟨S256, .i32⟩
  | 36 => ⟨S256x1, .i32⟩
  | 37 => ⟨S256, .i32⟩
  | 38 => ⟨S_, .i32⟩
  | 39 => ⟨S_, .i32⟩
  | 40 => ⟨S256, .i32⟩
  | 41 => ⟨S256, .i32⟩
  | 42 => ⟨S256, .i32⟩
  | 43 => ⟨S_, .i32⟩
  | 44 => ⟨S256, .i32⟩
  | 45 => ⟨S256, .i1⟩
  | 46 => ⟨S256, .i32⟩
  | 47 => ⟨S256, .i32⟩
  | 48 => ⟨S_, .i32⟩
  | 49 => ⟨S256, .i32⟩
  | 50 => ⟨S256, .i1⟩
  | 51 => ⟨S256, .i1⟩
  | 52 => ⟨S_, .i32⟩
  | 53 => ⟨S256, .i32⟩
  | 54 => ⟨S256, .i32⟩
  | 55 => ⟨S256, .i32⟩
  | 56 => ⟨S1x256, .i32⟩
  | 57 => ⟨S256x256, .i32⟩
  | 58 => ⟨S256x256, .i32⟩
  | 59 => ⟨S256x256, .i1⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S1x256, .i32⟩
  | 67 => ⟨S1x256, .i32⟩
  | 68 => ⟨S_, .i32⟩
  | 69 => ⟨S1x256, .i32⟩
  | 70 => ⟨S1x256, .i1⟩
  | 71 => ⟨S_, .i32⟩
  | 72 => ⟨S1x256, .i32⟩
  | 73 => ⟨S1x256, .i1⟩
  | 74 => ⟨S_, .i32⟩
  | 75 => ⟨S_, .i1⟩
  | 76 => ⟨S1x256, .i1⟩
  | 77 => ⟨S1x256, .i1⟩
  | 78 => ⟨S1x256, .i1⟩
  | 79 => ⟨S1x256, .i32⟩
  | 80 => ⟨S1x256, .i32⟩
  | 81 => ⟨S1x256, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S256x1, .i32⟩
  | 89 => ⟨S256x1, .i32⟩
  | 90 => ⟨S_, .i32⟩
  | 91 => ⟨S256x1, .i32⟩
  | 92 => ⟨S256x1, .i1⟩
  | 93 => ⟨S_, .i32⟩
  | 94 => ⟨S256x1, .i32⟩
  | 95 => ⟨S256x1, .i1⟩
  | 96 => ⟨S_, .i32⟩
  | 97 => ⟨S_, .i1⟩
  | 98 => ⟨S256x1, .i1⟩
  | 99 => ⟨S256x1, .i1⟩
  | 100 => ⟨S256x1, .i1⟩
  | 101 => ⟨S256x1, .i32⟩
  | 102 => ⟨S256x1, .i32⟩
  | 103 => ⟨S256x1, .i32⟩
  | 104 => ⟨S256x256, .i32⟩
  | 105 => ⟨S256x256, .i32⟩
  | 106 => ⟨S256x256, .i1⟩
  | 107 => ⟨S256x256, .i1⟩
  | 108 => ⟨S2x64x256x256, .f32⟩
  | 109 => ⟨S_, .f32⟩
  | 110 => ⟨S2x64x256x256, .f32⟩
  | 111 => ⟨S2x64x256x256, .f32⟩
  | 112 => ⟨S1x1x256x256, .i1⟩
  | 113 => ⟨S_, .f32⟩
  | 114 => ⟨S_, .f32⟩
  | 115 => ⟨S2x64x256x256, .i1⟩
  | 116 => ⟨S2x64x256x256, .f32⟩
  | 117 => ⟨S2x64x256x256, .f32⟩
  | 118 => ⟨S_, .f32⟩
  | 119 => ⟨S2x64x256, .f32⟩
  | 120 => ⟨S2x64x256x1, .f32⟩
  | 121 => ⟨S2x64x256x256, .f32⟩
  | 122 => ⟨S2x64x256x256, .f32⟩
  | 123 => ⟨S2x64x256x256, .f32⟩
  | 124 => ⟨S_, .i1⟩
  | 125 => ⟨S256, .i1⟩
  | 126 => ⟨S1x1x256x1, .i1⟩
  | 127 => ⟨S_, .f32⟩
  | _ => ⟨S2x256x512, .bf16⟩

abbrev hbmTy0_1 (i : Nat) : BufTy := match i % 128 with
  | 0 => ⟨S2x64x256, .f32⟩
  | 1 => ⟨S2x64x256x1, .f32⟩
  | 2 => ⟨S_, .f32⟩
  | 3 => ⟨S_, .f32⟩
  | 4 => ⟨S2x64x256x1, .i1⟩
  | 5 => ⟨S2x64x256x1, .f32⟩
  | 6 => ⟨S2x64x256x1, .f32⟩
  | 7 => ⟨S2x64x256x256, .f32⟩
  | 8 => ⟨S2x64x256x256, .f32⟩
  | 9 => ⟨S1x1x256x1, .i1⟩
  | 10 => ⟨S_, .f32⟩
  | 11 => ⟨S_, .f32⟩
  | 12 => ⟨S2x64x256x256, .i1⟩
  | 13 => ⟨S2x64x256x256, .f32⟩
  | 14 => ⟨S2x64x256x256, .f32⟩
  | 15 => ⟨S2x64x64x256, .f32⟩
  | 16 => ⟨S2x256x64x64, .f32⟩
  | 17 => ⟨S2x256x4096, .f32⟩
  | 18 => ⟨S2x256x512, .f32⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_c_1 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_v5 : Ref sig .tc := ⟨.hbm, 69, rfl⟩
abbrev main_call2_v6 : Ref sig .tc := ⟨.hbm, 70, rfl⟩
abbrev main_call2_c_2 : Ref sig .tc := ⟨.hbm, 71, rfl⟩
abbrev main_call2_v7 : Ref sig .tc := ⟨.hbm, 72, rfl⟩
abbrev main_call2_v8 : Ref sig .tc := ⟨.hbm, 73, rfl⟩
abbrev main_call2_c_3 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_v21 : Ref sig .tc := ⟨.hbm, 81, rfl⟩
abbrev main_c_2 : Ref sig .tc := ⟨.hbm, 82, rfl⟩
abbrev main_call3_v0 : Ref sig .tc := ⟨.hbm, 83, rfl⟩
abbrev main_call3_c : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_c_1 : Ref sig .tc := ⟨.hbm, 90, rfl⟩
abbrev main_call3_v5 : Ref sig .tc := ⟨.hbm, 91, rfl⟩
abbrev main_call3_v6 : Ref sig .tc := ⟨.hbm, 92, rfl⟩
abbrev main_call3_c_2 : Ref sig .tc := ⟨.hbm, 93, rfl⟩
abbrev main_call3_v7 : Ref sig .tc := ⟨.hbm, 94, rfl⟩
abbrev main_call3_v8 : Ref sig .tc := ⟨.hbm, 95, rfl⟩
abbrev main_call3_c_3 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_v25 : Ref sig .tc := ⟨.hbm, 106, rfl⟩
abbrev main_v26 : Ref sig .tc := ⟨.hbm, 107, rfl⟩
abbrev main_v27 : Ref sig .tc := ⟨.hbm, 108, rfl⟩
abbrev main_cst : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev main_cst_3 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v31 : Ref sig .tc := ⟨.hbm, 117, rfl⟩
abbrev main_cst_4 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev main_c_5 : Ref sig .tc := ⟨.hbm, 124, rfl⟩
abbrev main_v37 : Ref sig .tc := ⟨.hbm, 125, rfl⟩
abbrev main_v38 : Ref sig .tc := ⟨.hbm, 126, rfl⟩
abbrev main_cst_6 : Ref sig .tc := ⟨.hbm, 127, rfl⟩
abbrev main_v39 : Ref sig .tc := ⟨.hbm, 128, rfl⟩
abbrev main_v40 : Ref sig .tc := ⟨.hbm, 129, rfl⟩
abbrev main_cst_7 : Ref sig .tc := ⟨.hbm, 130, rfl⟩
abbrev main_call5_v0 : Ref sig .tc := ⟨.hbm, 131, rfl⟩
abbrev main_call5_v1 : Ref sig .tc := ⟨.hbm, 132, rfl⟩
abbrev main_call5_v2 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_v44 : Ref sig .tc := ⟨.hbm, 137, rfl⟩
abbrev main_cst_8 : Ref sig .tc := ⟨.hbm, 138, rfl⟩
abbrev main_call6_v0 : Ref sig .tc := ⟨.hbm, 139, rfl⟩
abbrev main_call6_v1 : Ref sig .tc := ⟨.hbm, 140, rfl⟩
abbrev main_call6_v2 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_v49 : Ref sig .tc := ⟨.hbm, 146, rfl⟩

abbrev nD : Nat := 1
abbrev τ : Topo := Topo.v7x

variable {F : FTy → Type} [FloatOps F]
-- ==== Ring.lean ====
abbrev S512x256 : Shape := ⟨2, ![512, 256]⟩
abbrev S256x512 : Shape := ⟨2, ![256, 512]⟩
abbrev S16x512x256 : Shape := ⟨3, ![16, 512, 256]⟩
abbrev S16x256x512 : Shape := ⟨3, ![16, 256, 512]⟩
abbrev S_ : Shape := ⟨0, ![]⟩
abbrev S15 : Shape := ⟨1, ![15]⟩
abbrev S1x512x256 : Shape := ⟨3, ![1, 512, 256]⟩
abbrev S1x256x512 : Shape := ⟨3, ![1, 256, 512]⟩
abbrev S1 : Shape := ⟨1, ![1]⟩

abbrev nBuf : Space → Nat
  | .hbm => 4
  | .vmem => 4
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S16x512x256, .bf16⟩
  | .hbm, ⟨3, _⟩ => ⟨S16x256x512, .bf16⟩
  | .local _ .vmem, ⟨0, _⟩ => ⟨S512x256, .bf16⟩
  | .local _ .vmem, ⟨1, _⟩ => ⟨S256x512, .bf16⟩
  | .local _ .vmem, ⟨2, _⟩ => ⟨S16x512x256, .bf16⟩
  | .local _ .vmem, ⟨3, _⟩ => ⟨S16x256x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v15 : Index := Scalar.indexCast v2
  let c0_11 : Index := 0#32
  let c0_12 : Index := 0#32
  ![v15.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v21 : Index := Scalar.indexCast v2
  let c0_15 : Index := 0#32
  let c0_16 : Index := 0#32
  ![v21.toNat, 0, 0]
@[reducible] def k0_t1_loop : Scf.Loop 32 :=
  let c0_i32_17 : BitVec 32 := 0#32
  let c15_i32 : BitVec 32 := 15#32
  let v25 : BitVec 32 := Scalar.addi c0_i32_17 c15_i32
  let c1_i32_18 : BitVec 32 := 1#32
  ⟨c0_i32_17, v25, c1_i32_18⟩
def k0_off3 (k0_t1 : Fin k0_t1_loop.trips) : Fin 1 → Nat :=
  let c0_i32_17 : BitVec 32 := 0#32
  let c1_i32_18 : BitVec 32 := 1#32
  let arg8 : BitVec 32 := Scf.iv c0_i32_17 c1_i32_18 k0_t1
  ![arg8.toNat]
def k0_off4 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v26 : BitVec 32 := Scalar.addi v2 c32_i32
  let c0_i32_17 : BitVec 32 := 0#32
  let c1_i32_18 : BitVec 32 := 1#32
  let arg8 : BitVec 32 := Scf.iv c0_i32_17 c1_i32_18 k0_t1
  let v27 : BitVec 32 := Scalar.subi v26 arg8
  let c16_i32_20 : BitVec 32 := 16#32
  let v28 : BitVec 32 := Scalar.remsi v27 c16_i32_20
  let c0_i32_23 : BitVec 32 := 0#32
  let c0_i32_24 : BitVec 32 := 0#32
  ![v28.toNat, 0, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_21 : BitVec 32 := 1#32
  let v29 : BitVec 32 := Scalar.muli v7 c1_i32_21
  let v30 : BitVec 32 := Scalar.addi c0_i32_22 v29
  v30.toNat
def k0_off5 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v26 : BitVec 32 := Scalar.addi v2 c32_i32
  let c0_i32_17 : BitVec 32 := 0#32
  let c1_i32_18 : BitVec 32 := 1#32
  let arg8 : BitVec 32 := Scf.iv c0_i32_17 c1_i32_18 k0_t1
  let v27 : BitVec 32 := Scalar.subi v26 arg8
  let c16_i32_20 : BitVec 32 := 16#32
  let v28 : BitVec 32 := Scalar.remsi v27 c16_i32_20
  let c0_i32_29 : BitVec 32 := 0#32
  let c0_i32_30 : BitVec 32 := 0#32
  ![v28.toNat, 0, 0]
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_27 : BitVec 32 := 1#32
  let v37 : BitVec 32 := Scalar.muli v7 c1_i32_27
  let v38 : BitVec 32 := Scalar.addi c0_i32_28 v37
  v38.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Gather.lean ====
abbrev S512x4096 : Shape := ⟨2, ![512, 4096]⟩
abbrev S4096x512 : Shape := ⟨2, ![4096, 512]⟩
abbrev S512x16x256 : Shape := ⟨3, ![512, 16, 256]⟩
abbrev S16x512x256 : Shape := ⟨3, ![16, 512, 256]⟩
abbrev S16x256x512 : Shape := ⟨3, ![16, 256, 512]⟩

abbrev nBuf : Space → Nat
  | .hbm => 5
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x512, .bf16⟩
  | .hbm, ⟨2, _⟩ => ⟨S512x16x256, .bf16⟩
  | .hbm, ⟨3, _⟩ => ⟨S16x512x256, .bf16⟩
  | .hbm, ⟨4, _⟩ => ⟨S16x256x512, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Written.lean ====
abbrev S512x256 : Shape := ⟨2, ![512, 256]⟩
abbrev S256x512 : Shape := ⟨2, ![256, 512]⟩
abbrev S16x512x256 : Shape := ⟨3, ![16, 512, 256]⟩
abbrev S16x256x512 : Shape := ⟨3, ![16, 256, 512]⟩
abbrev S_ : Shape := ⟨0, ![]⟩
abbrev S1x512x256 : Shape := ⟨3, ![1, 512, 256]⟩
abbrev S1x256x512 : Shape := ⟨3, ![1, 256, 512]⟩

abbrev nBuf : Space → Nat
  | .hbm => 4
  | .vmem => 4
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S16x512x256, .bf16⟩
  | .hbm, ⟨3, _⟩ => ⟨S16x256x512, .bf16⟩
  | .local _ .vmem, ⟨0, _⟩ => ⟨S512x256, .bf16⟩
  | .local _ .vmem, ⟨1, _⟩ => ⟨S256x512, .bf16⟩
  | .local _ .vmem, ⟨2, _⟩ => ⟨S16x512x256, .bf16⟩
  | .local _ .vmem, ⟨3, _⟩ => ⟨S16x256x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v15 : Index := Scalar.indexCast v2
  let c0_11 : Index := 0#32
  let c0_12 : Index := 0#32
  ![v15.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v21 : Index := Scalar.indexCast v2
  let c0_15 : Index := 0#32
  let c0_16 : Index := 0#32
  ![v21.toNat, 0, 0]
@[reducible] def k0_t1_loop : Scf.Loop 32 :=
  let c0_i32_17 : BitVec 32 := 0#32
  let c15_i32 : BitVec 32 := 15#32
  let v25 : BitVec 32 := Scalar.addi c0_i32_17 c15_i32
  let c1_i32_18 : BitVec 32 := 1#32
  ⟨c0_i32_17, v25, c1_i32_18⟩
def k0_off3 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v26 : BitVec 32 := Scalar.addi v2 c32_i32
  let c0_i32_17 : BitVec 32 := 0#32
  let c1_i32_18 : BitVec 32 := 1#32
  let arg8 : BitVec 32 := Scf.iv c0_i32_17 c1_i32_18 k0_t1
  let v27 : BitVec 32 := Scalar.subi v26 arg8
  let c16_i32_20 : BitVec 32 := 16#32
  let v28 : BitVec 32 := Scalar.remsi v27 c16_i32_20
  let c0_i32_23 : BitVec 32 := 0#32
  let c0_i32_24 : BitVec 32 := 0#32
  ![v28.toNat, 0, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_21 : BitVec 32 := 1#32
  let v29 : BitVec 32 := Scalar.muli v7 c1_i32_21
  let v30 : BitVec 32 := Scalar.addi c0_i32_22 v29
  v30.toNat
def k0_off4 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v26 : BitVec 32 := Scalar.addi v2 c32_i32
  let c0_i32_17 : BitVec 32 := 0#32
  let c1_i32_18 : BitVec 32 := 1#32
  let arg8 : BitVec 32 := Scf.iv c0_i32_17 c1_i32_18 k0_t1
  let v27 : BitVec 32 := Scalar.subi v26 arg8
  let c16_i32_20 : BitVec 32 := 16#32
  let v28 : BitVec 32 := Scalar.remsi v27 c16_i32_20
  let c0_i32_29 : BitVec 32 := 0#32
  let c0_i32_30 : BitVec 32 := 0#32
  ![v28.toNat, 0, 0]
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_27 : BitVec 32 := 1#32
  let v35 : BitVec 32 := Scalar.muli v7 c1_i32_27
  let v36 : BitVec 32 := Scalar.addi c0_i32_28 v35
  v36.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Gathers.lean ====
abbrev S512x4096 : Shape := ⟨2, ![512, 4096]⟩
abbrev S4096x512 : Shape := ⟨2, ![4096, 512]⟩
abbrev S512x16x256 : Shape := ⟨3, ![512, 16, 256]⟩
abbrev S16x512x256 : Shape := ⟨3, ![16, 512, 256]⟩
abbrev S16x256x512 : Shape := ⟨3, ![16, 256, 512]⟩
abbrev S1x16x512x256 : Shape := ⟨4, ![1, 16, 512, 256]⟩
abbrev S16x16x512x256 : Shape := ⟨4, ![16, 16, 512, 256]⟩
abbrev S256x512x256 : Shape := ⟨3, ![256, 512, 256]⟩
abbrev S1x16x256x512 : Shape := ⟨4, ![1, 16, 256, 512]⟩
abbrev S16x16x256x512 : Shape := ⟨4, ![16, 16, 256, 512]⟩
abbrev S256x256x512 : Shape := ⟨3, ![256, 256, 512]⟩

abbrev nBuf : Space → Nat
  | .hbm => 11
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x512, .bf16⟩
  | .hbm, ⟨2, _⟩ => ⟨S512x16x256, .bf16⟩
  | .hbm, ⟨3, _⟩ => ⟨S16x512x256, .bf16⟩
  | .hbm, ⟨4, _⟩ => ⟨S16x256x512, .bf16⟩
  | .hbm, ⟨5, _⟩ => ⟨S1x16x512x256, .bf16⟩
  | .hbm, ⟨6, _⟩ => ⟨S16x16x512x256, .bf16⟩
  | .hbm, ⟨7, _⟩ => ⟨S256x512x256, .bf16⟩
  | .hbm, ⟨8, _⟩ => ⟨S1x16x256x512, .bf16⟩
  | .hbm, ⟨9, _⟩ => ⟨S16x16x256x512, .bf16⟩
  | .hbm, ⟨10, _⟩ => ⟨S256x256x512, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Proof.Attn.Body.lean ====
/-
  One run of the kernel body at a grid point: what it leaves in the result's staging buffer, as a function of
  the five inputs' buffers and of what the result's buffer held.
-/
module

public import proofs.«01_k».proof.Proof.Gen.KernelIdeal.Skeleton
public import proofs.«01_k».proof.Proof.Gen.KernelIdeal.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values of one point -/

/-- Head group `j`'s projection of row block `b`: `x[b] · wq[j]`, rounded. -/
def qv (i : grid0.Coords) (x : Vec F S2x256x512 .bf16) (wq : Vec F S16x512x256 .bf16) : FVec F S256x256 .bf16 :=
  k0_pay4 (View.ld x (Rect.unit (s := S2x256x512) (k0_off1 i) S1x256x512.size (k0_off1_inb i)))
    (View.ld wq (Rect.unit (s := S16x512x256) (k0_off2 i) S1x512x256.size (k0_off2_inb i)))

/-- The mask of the kernel: which pairs of rows lie in one block of 64. -/
def mask : IVec S256x256 1 := k0_pay8 k0_pay5 (iota .tc S256x256 32 [1] iota_S256x256_d1_w32) 64#32 k0_pay6 k0_pay7

/-- Head `h` of the group: the rows of `K` (or of `V`) the point reads. -/
abbrev kvAt (i : grid0.Coords) (h : Fin 4) (k : Vec F S2x64x256x64 .bf16) : Vec F S1x1x256x64 .bf16 :=
  View.ld k (Rect.unit (s := S2x64x256x64) (k0_off3 i (BitVec.ofNat 32 h.val)) S1x1x256x64.size (k0_off3_inb i h))

/-- The point's contribution to the result's rows: the four heads' contexts side by side, times `wo[j]`. -/
def partV (i : grid0.Coords) (x : Vec F S2x256x512 .bf16) (wq : Vec F S16x512x256 .bf16) (wo : Vec F S16x256x512 .bf16)
    (k v : Vec F S2x64x256x64 .bf16) : FVec F S256x512 .f32 :=
  k0_pay1
    (k0_pay11 (k0_pay9 (kvAt i 0 v))
      (k0_pay10 (qv i x wq) k0_pay5 (iota .tc S256x256 32 [1] iota_S256x256_d1_w32) 64#32 k0_pay6 k0_pay7 (kvAt i 0 k)))
    (k0_pay12 (qv i x wq) mask (kvAt i 1 k) (kvAt i 1 v))
    (k0_pay15 mask (k0_pay13 (qv i x wq)) (k0_pay14 (kvAt i 2 k)) (kvAt i 2 v))
    (k0_pay16 (kvAt i 3 v))
    (k0_pay17 (qv i x wq) mask (kvAt i 3 k))
    (k0_pay18 (qv i x wq) mask (kvAt i 3 k))
    (View.ld wo (Rect.unit (s := S16x256x512) (k0_off4 i) S1x256x512.size (k0_off4_inb i)))

/-- What the first point of a row block leaves: rows `b` at the contribution, the others as found. -/
def outFirst (i : grid0.Coords) (h : k0_cond1 i = 1#1) (x : Vec F S2x256x512 .bf16) (wq : Vec F S16x512x256 .bf16)
    (wo : Vec F S16x256x512 .bf16) (k v : Vec F S2x64x256x64 .bf16) (y : Vec F S2x256x512 .f32) : Vec F S2x256x512 .f32 :=
  (Rect.unit (s := S2x256x512) (k0_off5 i) S1x256x512.size (k0_off5_inb i h)).overlay y
    (shapeCast S1x256x512 (partV i x wq wo k v) shapeCasts_S256x512_S1x256x512)

/-- What a later point leaves: the contribution added to rows `b`, the others as found. -/
def outNext (i : grid0.Coords) (h : k0_cond2 i = 1#1) (x : Vec F S2x256x512 .bf16) (wq : Vec F S16x512x256 .bf16)
    (wo : Vec F S16x256x512 .bf16) (k v : Vec F S2x64x256x64 .bf16) (y : Vec F S2x256x512 .f32) : Vec F S2x256x512 .f32 :=
  (Rect.unit (s := S2x256x512) (k0_off6 i) S1x256x512.size (k0_off6_inb i h)).overlay y
    (shapeCast S1x256x512
      (addf (shapeCast S256x512 (View.ld y (Rect.unit (s := S2x256x512) (k0_off6 i) S1x256x512.size (k0_off6_inb i h)))
        shapeCasts_S1x256x512_S256x512) (partV i x wq wo k v)) shapeCasts_S256x512_S1x256x512)

/-- One store over a whole buffer, read back: the stored rectangle replaced, the rest as found. -/
theorem read_store (arg : Memref sig .tc .vmem S2x256x512 .f32) (f : arg.view.ty.Contents (Elt F)) (r : Rect S2x256x512)
    (w : r.shape.Idx → Elt F .f32) : arg.view.read (Elt F) (arg.view.writes (Elt F) f [⟨r, w⟩]) = r.overlay (arg.view.read (Elt F) f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons,
      View.read_slice_write_of_not_mem r _ _ _ (by rwa [Rect.map_emb_univ])]
    rfl

set_option maxHeartbeats 1000000 in
/-- The body at the first point of a row block. -/
theorem run_first (c : Dev nD) (i : grid0.Coords) (arg2 : Memref sig .tc .vmem S2x256x512 .bf16) (harg2 : arg2.IsWhole)
    (arg3 : Memref sig .tc .vmem S16x512x256 .bf16) (harg3 : arg3.IsWhole) (arg4 : Memref sig .tc .vmem S16x256x512 .bf16) (harg4 : arg4.IsWhole)
    (arg5 : Memref sig .tc .vmem S2x64x256x64 .bf16) (harg5 : arg5.IsWhole) (arg6 : Memref sig .tc .vmem S2x64x256x64 .bf16) (harg6 : arg6.IsWhole)
    (arg7 : Memref sig .tc .vmem S2x256x512 .f32) (harg7 : arg7.IsWhole) (hc0 : k0_cond1 i = 1#1) (hc1 : ¬ k0_cond2 i = 1#1)
    (x0 : Vec F S2x256x512 .bf16) (x1 : Vec F S16x512x256 .bf16) (x2 : Vec F S16x256x512 .bf16) (x3 x4 : Vec F S2x64x256x64 .bf16)
    (x5 : Vec F S2x256x512 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outFirst i hc0 x0 x1 x2 x3 x4 x5)) -∗ K ⟨⟩))
      ⊢ wp frame (wpE (defs₀ (F := F)) Variants.none c none) E
          (cc0_body i arg2 harg2 arg3 harg3 arg4 harg4 arg5 harg5 arg6 harg6 arg7 harg7) K := by
  simp only [cc0_body_eq_skeleton]; unfold cc0_body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  subst hf0 hf1 hf2 hf3 hf4 hf5
  sl_unfold_words
  exact read_store arg7 f5 _ _

set_option maxHeartbeats 1000000 in
/-- The body at a later point of a row block. -/
theorem run_next (c : Dev nD) (i : grid0.Coords) (arg2 : Memref sig .tc .vmem S2x256x512 .bf16) (harg2 : arg2.IsWhole)
    (arg3 : Memref sig .tc .vmem S16x512x256 .bf16) (harg3 : arg3.IsWhole) (arg4 : Memref sig .tc .vmem S16x256x512 .bf16) (harg4 : arg4.IsWhole)
    (arg5 : Memref sig .tc .vmem S2x64x256x64 .bf16) (harg5 : arg5.IsWhole) (arg6 : Memref sig .tc .vmem S2x64x256x64 .bf16) (harg6 : arg6.IsWhole)
    (arg7 : Memref sig .tc .vmem S2x256x512 .f32) (harg7 : arg7.IsWhole) (hc0 : ¬ k0_cond1 i = 1#1) (hc1 : k0_cond2 i = 1#1)
    (x0 : Vec F S2x256x512 .bf16) (x1 : Vec F S16x512x256 .bf16) (x2 : Vec F S16x256x512 .bf16) (x3 x4 : Vec F S2x64x256x64 .bf16)
    (x5 : Vec F S2x256x512 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i hc1 x0 x1 x2 x3 x4 x5)) -∗ K ⟨⟩))
      ⊢ wp frame (wpE (defs₀ (F := F)) Variants.none c none) E
          (cc0_body i arg2 harg2 arg3 harg3 arg4 harg4 arg5 harg5 arg6 harg6 arg7 harg7) K := by
  simp only [cc0_body_eq_skeleton]; unfold cc0_body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  subst hf0 hf1 hf2 hf3 hf4 hf5
  sl_unfold_words
  exact read_store arg7 f5 _ _

end Cert.KernelIdeal.Attn

end
-- ==== Proof.Attn.Acc.lean ====
/-
  The running sum that the grid leaves in the result's staging buffer: rows of block `b` hold, after point
  `16 b + n`, the contributions of the head groups `0 … n`, added one after the other.
-/
module

public import proofs.«01_k».proof.Proof.Attn.Body
public import Idealize.ShloMosaic.Lib.PointwiseCore

@[expose] public section

set_option maxRecDepth 16384

noncomputable section

namespace Cert.KernelIdeal.Attn

open Cert.KernelIdeal Cert.KernelIdeal.Gen
open Idealize.ShloMosaic Idealize.ShloMosaic.TcCoe
open Idealize.SL Idealize.SL.Sem

variable {F : FTy → Type} [FloatOps F]

/-- The first grid coordinate of a point: its row block. -/
theorem coord0 (t : Fin cfg0.N) : (grid0.coords t 0).val = t.val / 16 := by
  have h := t.isLt
  have h2 : cfg0.N = 32 := N_0
  have e : (grid0.coords t 0).val = t.val / 16 % 2 := Pipeline.Grid.coords_val t 0 (by decide) rfl
  rw [e]; omega

/-- The second grid coordinate of a point: its head group. -/
theorem coord1 (t : Fin cfg0.N) : (grid0.coords t 1).val = t.val % 16 := by
  have e : (grid0.coords t 1).val = t.val / 1 % 16 := Pipeline.Grid.coords_val t 1 (by decide) rfl
  rw [e, Nat.div_one]

/-- The first store happens at the first head group, -/
theorem cond1_iff (i : grid0.Coords) : k0_cond1 i = 1#1 ↔ (i 1).val = 0 := by
  revert i; decide +kernel
/-- the second at every other one. -/
theorem cond2_iff (i : grid0.Coords) : k0_cond2 i = 1#1 ↔ (i 1).val ≠ 0 := by
  revert i; decide +kernel

/-- Point `16 b + n`. -/
def pt (b : Fin 2) (n : ℕ) : Fin cfg0.N := ⟨16 * b.val + n % 16, by have h2 : cfg0.N = 32 := N_0; omega⟩

/-- The sum of the contributions `P` of row block `b`'s points up to head group `n`, in the grid's order. -/
def acc (P : Fin cfg0.N → FVec F S256x512 .f32) (b : Fin 2) : ℕ → FVec F S256x512 .f32
  | 0 => P (pt b 0)
  | n + 1 => addf (acc P b n) (P (pt b (n + 1)))

/-- What is known of the staging buffer after point `t`: the rows of earlier blocks are finished, those of the
    current block hold the sum up to the current head group. -/
def Good (P : Fin cfg0.N → FVec F S256x512 .f32) (t : ℕ) (X : Vec F S2x256x512 .f32) : Prop :=
  ∀ (b : Fin 2) (i : Fin 256) (n : Fin 512),
    (b.val < t / 16 → X (ix3 b i n) = acc P b 15 (ix2 i n)) ∧ (b.val = t / 16 → X (ix3 b i n) = acc P b (t % 16) (ix2 i n))

/-- Where a rectangle of one row block places its index. -/
theorem idx_block (off : Fin 3 → ℕ) (inb : ∀ a, off a + S1x256x512.size a ≤ S2x256x512.size a) (k : ℕ) (h : off = ![k, 0, 0])
    (b : Fin 2) (hb : b.val = k) (i : Fin 256) (n : Fin 512) :
    (Rect.unit (s := S2x256x512) off S1x256x512.size inb).idx (ix3 (0 : Fin 1) i n) = ix3 b i n := by
  subst h
  funext a; apply Fin.ext
  match a with
  | ⟨0, _⟩ => show k + 1 * 0 = b.val; omega
  | ⟨1, _⟩ => show 0 + 1 * i.val = i.val; omega
  | ⟨2, _⟩ => show 0 + 1 * n.val = n.val; omega

/-- A store of one row block, read at an index of that block, -/
theorem overlay_at (off : Fin 3 → ℕ) (inb : ∀ a, off a + S1x256x512.size a ≤ S2x256x512.size a) (k : ℕ) (h : off = ![k, 0, 0])
    (y : Vec F S2x256x512 .f32) (w : FVec F S256x512 .f32) (b : Fin 2) (hb : b.val = k) (i : Fin 256) (n : Fin 512) :
    (Rect.unit (s := S2x256x512) off S1x256x512.size inb).overlay y (shapeCast S1x256x512 w shapeCasts_S256x512_S1x256x512) (ix3 b i n)
      = w (ix2 i n) := by
  rw [← idx_block off inb k h b hb i n]
  refine (Rect.overlay_emb (Rect.unit (s := S2x256x512) off S1x256x512.size inb) y _ (ix3 (0 : Fin 1) i n)).trans ?_
  pointwise

/-- and at an index of another block. -/
theorem overlay_off (off : Fin 3 → ℕ) (inb : ∀ a, off a + S1x256x512.size a ≤ S2x256x512.size a) (k : ℕ) (h : off = ![k, 0, 0])
    (y : Vec F S2x256x512 .f32) (w : S1x256x512.Idx → Elt F .f32) (b : Fin 2) (hb : b.val ≠ k) (i : Fin 256) (n : Fin 512) :
    (Rect.unit (s := S2x256x512) off S1x256x512.size inb).overlay y w (ix3 b i n) = y (ix3 b i n) := by
  refine Rect.overlay_of_not_mem _ _ _ fun hm => hb ?_
  have h0 := (Rect.mem_set_unit.mp hm) 0
  subst h
  have h1 : k ≤ b.val ∧ b.val < k + 1 := h0
  omega

/-- A load of one row block, read at an index. -/
theorem ld_at (off : Fin 3 → ℕ) (inb : ∀ a, off a + S1x256x512.size a ≤ S2x256x512.size a) (k : ℕ) (h : off = ![k, 0, 0])
    (y : Vec F S2x256x512 .f32) (b : Fin 2) (hb : b.val = k) (i : Fin 256) (n : Fin 512) :
    shapeCast S256x512 (View.ld y (Rect.unit (s := S2x256x512) off S1x256x512.size inb)) shapeCasts_S1x256x512_S256x512 (ix2 i n)
      = y (ix3 b i n) := by
  have e : ∀ z : Vec F S1x256x512 .f32, shapeCast S256x512 z shapeCasts_S1x256x512_S256x512 (ix2 i n) = z (ix3 (0 : Fin 1) i n) := by
    intro z; pointwise
  refine (e _).trans ?_
  exact congrArg y (idx_block off inb k h b hb i n)

variable (x : Vec F S2x256x512 .bf16) (wq : Vec F S16x512x256 .bf16) (wo : Vec F S16x256x512 .bf16) (k v : Vec F S2x64x256x64 .bf16)

/-- The contribution of point `t`. -/
abbrev part (t : Fin cfg0.N) : FVec F S256x512 .f32 := partV (grid0.coords t) x wq wo k v

/-- The first point of a row block keeps what is known. -/
theorem good_first (t : Fin cfg0.N) (h : k0_cond1 (grid0.coords t) = 1#1) (y : Vec F S2x256x512 .f32)
    (hy : t.val = 0 ∨ Good (part x wq wo k v) (t.val - 1) y) :
    Good (part x wq wo k v) t.val (outFirst (grid0.coords t) h x wq wo k v y) := by
  have h0 : t.val % 16 = 0 := by rw [← coord1]; exact (cond1_iff _).mp h
  have hN : t.val < 32 := by have h2 : cfg0.N = 32 := N_0; have := t.isLt; omega
  intro b i n
  refine ⟨fun hb => ?_, fun hb => ?_⟩
  · unfold outFirst
    rw [overlay_off _ _ _ ((k0_off5_eq _).trans (by rw [coord0])) _ _ b (by omega)]
    rcases hy with hy | hy
    · omega
    · have e := (hy b i n).2 (by omega)
      rw [e]; congr 1; omega
  · unfold outFirst
    rw [overlay_at _ _ _ ((k0_off5_eq _).trans (by rw [coord0])) _ _ b hb]
    rw [h0]
    have e : pt b 0 = t := Fin.ext (by simp only [pt]; omega)
    simp only [acc, part, e]

/-- A later point of a row block keeps what is known. -/
theorem good_next (t : Fin cfg0.N) (h : k0_cond2 (grid0.coords t) = 1#1) (y : Vec F S2x256x512 .f32)
    (hy : t.val = 0 ∨ Good (part x wq wo k v) (t.val - 1) y) :
    Good (part x wq wo k v) t.val (outNext (grid0.coords t) h x wq wo k v y) := by
  have h0 : t.val % 16 ≠ 0 := by rw [← coord1]; exact (cond2_iff _).mp h
  have hN : t.val < 32 := by have h2 : cfg0.N = 32 := N_0; have := t.isLt; omega
  rcases hy with hy | hy
  · omega
  intro b i n
  refine ⟨fun hb => ?_, fun hb => ?_⟩
  · unfold outNext
    rw [overlay_off _ _ _ ((k0_off6_eq _).trans (by rw [coord0])) _ _ b (by omega)]
    exact (hy b i n).1 (by omega)
  · unfold outNext
    rw [overlay_at _ _ _ ((k0_off6_eq _).trans (by rw [coord0])) _ _ b hb]
    have e1 : t.val % 16 = (t.val - 1) % 16 + 1 := by omega
    rw [e1]
    show FloatOps.addf _ _ = FloatOps.addf _ _
    rw [ld_at _ _ _ ((k0_off6_eq _).trans (by rw [coord0])) _ b hb, (hy b i n).2 (by omega)]
    have e : pt b ((t.val - 1) % 16 + 1) = t := Fin.ext (by simp only [pt]; omega)
    rw [e]

end Cert.KernelIdeal.Attn

end
-- ==== Proof.Attn.Run.lean ====
/-
  The run of the whole call: every execution ends, the arguments are unchanged, every semaphore is at zero, and the
  result's row block `b` holds the sum of the sixteen contributions.
-/
module

public import proofs.«01_k».proof.Proof.Attn.Acc
public import Idealize.ShloMosaic.Lib.Pipeline.ArrRel

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five arguments as launched. -/
abbrev argX (c : Dev nD) : Vec F S2x256x512 .bf16 := m ((c : Thread nD τ).loc main_arg0)
abbrev argWq (c : Dev nD) : Vec F S16x512x256 .bf16 := m ((c : Thread nD τ).loc main_arg1)
abbrev argWo (c : Dev nD) : Vec F S16x256x512 .bf16 := m ((c : Thread nD τ).loc main_arg2)
abbrev argK (c : Dev nD) : Vec F S2x64x256x64 .bf16 := m ((c : Thread nD τ).loc main_arg3)
abbrev argV (c : Dev nD) : Vec F S2x64x256x64 .bf16 := m ((c : Thread nD τ).loc main_arg4)

/-- The contributions of the points, at the launched arguments. -/
abbrev parts (c : Dev nD) : Fin cfg0.N → FVec F S256x512 .f32 := part (argX m c) (argWq m c) (argWo m c) (argK m c) (argV m c)

/-- What the body leaves in each window: an input as launched, the result with its finished rows and the running sum. -/
def left (c : Dev nD) : (w : Fin cfg0.W) → Fin cfg0.N → ((cfg0.win w).block.Idx → Elt F (cfg0.win w).elt) → Prop
  | 0 => fun _ X => X = argX m c
  | 1 => fun _ X => X = argWq m c
  | 2 => fun _ X => X = argWo m c
  | 3 => fun _ X => X = argK m c
  | 4 => fun _ X => X = argV m c
  | 5 => fun t X => Good (parts m c) t.val X
  | ⟨_ + 6, h⟩ => absurd h (Nat.not_lt.2 (Nat.le_add_left _ _))

/-- The proof's data: the arrays as launched, `left` of every window. -/
def rdat (c : Dev nD) : RDat τ (Elt F) Unit ℕ (UR sig nD τ) ℕ cfg0 c where
  A w := V m c (Pipeline.arrRef spec0 w)
  after w t _ X := left m c w t X
  Φ _ := Pipeline.ΦA spec0 c
  q _ := fullShare
  owed _ := 0

/-- An input window that is fetched whole at the first point holds its array at every point. -/
theorem finds_in (c : Dev nD) (w : Fin cfg0.W) (a : (cfg0.win w).block.Idx → Elt F (cfg0.win w).elt)
    (hfetch : ∀ t : Fin cfg0.N, (cfg0.win w).fetch t = true ↔ t.val % 32 = 0)
    (hflush : ∀ t : Fin cfg0.N, (cfg0.win w).flush t = false)
    (hblk : ∀ t d, (rdat m c).fetched w t d = a) (hleft : ∀ t X, left m c w t X → X = a)
    (t : Fin cfg0.N) (X) (h : (rdat m c).Finds w t X) : X = a := by
  by_cases hf : (cfg0.win w).fetch t = true
  · obtain ⟨d, rfl⟩ := ((rdat m c).finds_of_fetch hf X).mp h
    exact hblk t d
  · have ht : t.val ≠ 0 := fun h0 => hf ((hfetch t).mpr (by rw [h0]))
    rcases ((rdat m c).finds_of_pos (by simpa using hf) ht X).mp h with h1 | ⟨Y, _, h1⟩
    · rw [hflush] at h1; cases h1
    · exact hleft _ X h1

/-- Before the first point the result's buffer holds anything, later the finished rows and the running sum. -/
theorem finds_out (c : Dev nD) (t : Fin cfg0.N) (X) (h : (rdat m c).Finds 5 t X) :
    t.val = 0 ∨ Good (parts m c) (t.val - 1) X := by
  by_cases ht : t.val = 0
  · exact .inl ht
  · refine .inr ?_
    have hN : t.val < 32 := by have h2 : cfg0.N = 32 := N_0; have := t.isLt; omega
    rcases ((rdat m c).finds_of_pos (w := 5) (t := t) rfl ht X).mp h with h1 | ⟨Y, _, h1⟩
    · have := (flush0_5 _).mp h1
      simp only at this; omega
    · exact h1

/-- A window that is its whole array at every point reads the array unchanged. -/
theorem fetched0 (c : Dev nD) (t d) : (rdat m c).fetched 0 t d = argX m c := by
  funext y
  show argX m c (((cfg0.win 0).blk t).view.emb y) = argX m c y
  congr 1; funext a; apply Fin.ext
  show (((cfg0.win 0).rect t).emb y a).val = _
  rw [Window.rect_emb_val_of_index_zero _ _ _ (by revert a; exact fun a => by fin_cases a <;> rfl)]
theorem fetched1 (c : Dev nD) (t d) : (rdat m c).fetched 1 t d = argWq m c := by
  funext y
  show argWq m c (((cfg0.win 1).blk t).view.emb y) = argWq m c y
  congr 1; funext a; apply Fin.ext
  show (((cfg0.win 1).rect t).emb y a).val = _
  rw [Window.rect_emb_val_of_index_zero _ _ _ (by revert a; exact fun a => by fin_cases a <;> rfl)]
theorem fetched2 (c : Dev nD) (t d) : (rdat m c).fetched 2 t d = argWo m c := by
  funext y
  show argWo m c (((cfg0.win 2).blk t).view.emb y) = argWo m c y
  congr 1; funext a; apply Fin.ext
  show (((cfg0.win 2).rect t).emb y a).val = _
  rw [Window.rect_emb_val_of_index_zero _ _ _ (by revert a; exact fun a => by fin_cases a <;> rfl)]
theorem fetched3 (c : Dev nD) (t d) : (rdat m c).fetched 3 t d = argK m c := by
  funext y
  show argK m c (((cfg0.win 3).blk t).view.emb y) = argK m c y
  congr 1; funext a; apply Fin.ext
  show (((cfg0.win 3).rect t).emb y a).val = _
  rw [Window.rect_emb_val_of_index_zero _ _ _ (by revert a; exact fun a => by fin_cases a <;> rfl)]
theorem fetched4 (c : Dev nD) (t d) : (rdat m c).fetched 4 t d = argV m c := by
  funext y
  show argV m c (((cfg0.win 4).blk t).view.emb y) = argV m c y
  congr 1; funext a; apply Fin.ext
  show (((cfg0.win 4).rect t).emb y a).val = _
  rw [Window.rect_emb_val_of_index_zero _ _ _ (by revert a; exact fun a => by fin_cases a <;> rfl)]

theorem defs₀_row (t : Fin cfg0.N) : defs₀ (F := F) .tc cfg0.body (cfg0.bodyArgs t (cfg0.slots t)) = bodyAt0 t := by
  unfold defs₀; rw [Defs.onTc_tc]

/-- The body at point `t`, from what the windows may hold to what they may be left at. -/
theorem body_at (c : Dev nD) (t : Fin cfg0.N) (Y : Vec F S2x256x512 .f32)
    (hY : t.val = 0 ∨ Good (parts m c) (t.val - 1) Y) :
    iprop(Pipeline.ΦA spec0 c ∗ (rdat m c).owesAt () t.castSucc
        ∗ owns (c : Thread nD τ) (st0_0 t) fullShare (argX m c) ∗ owns (c : Thread nD τ) (st0_1 t) fullShare (argWq m c)
        ∗ owns (c : Thread nD τ) (st0_2 t) fullShare (argWo m c) ∗ owns (c : Thread nD τ) (st0_3 t) fullShare (argK m c)
        ∗ owns (c : Thread nD τ) (st0_4 t) fullShare (argV m c) ∗ owns (c : Thread nD τ) (st0_5 t) fullShare Y)
      ⊢ wp frame (wpE (defs₀ (F := F)) Variants.none c none) Set.univ (bodyAt0 t) fun _ =>
          (iprop(Pipeline.ΦA spec0 c ∗ (rdat m c).owesAt () t.castSucc
            ∗ (∃ X, ⌜X = argX m c⌝ ∗ owns (c : Thread nD τ) (st0_0 t) fullShare X)
            ∗ (∃ X, ⌜X = argWq m c⌝ ∗ owns (c : Thread nD τ) (st0_1 t) fullShare X)
            ∗ (∃ X, ⌜X = argWo m c⌝ ∗ owns (c : Thread nD τ) (st0_2 t) fullShare X)
            ∗ (∃ X, ⌜X = argK m c⌝ ∗ owns (c : Thread nD τ) (st0_3 t) fullShare X)
            ∗ (∃ X, ⌜X = argV m c⌝ ∗ owns (c : Thread nD τ) (st0_4 t) fullShare X)
            ∗ (∃ X, ⌜Good (parts m c) t.val X⌝ ∗ owns (c : Thread nD τ) (st0_5 t) fullShare X)) : sProp 𝕄) := by
  by_cases h1 : k0_cond1 (grid0.coords t) = 1#1
  · have h2 : ¬ k0_cond2 (grid0.coords t) = 1#1 := fun h => (cond2_iff _).mp h ((cond1_iff _).mp h1)
    iintro ⟨HΦ, Ho, H0, H1, H2, H3, H4, H5⟩
    iapply (run_first c (grid0.coords t) _ _ _ _ _ _ _ _ _ _ _ _ h1 h2 (argX m c) (argWq m c) (argWo m c) (argK m c) (argV m c) Y Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexists _; isplitr; swap; · iexact H0
                    ipureintro; rfl
    isplitl [H1]; · iexists _; isplitr; swap; · iexact H1
                    ipureintro; rfl
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    iexists _; isplitr; swap; · iexact H5
    ipureintro; exact good_first _ _ _ _ _ t h1 Y hY
  · have h2 : k0_cond2 (grid0.coords t) = 1#1 := (cond2_iff _).mpr fun h => h1 ((cond1_iff _).mpr h)
    iintro ⟨HΦ, Ho, H0, H1, H2, H3, H4, H5⟩
    iapply (run_next c (grid0.coords t) _ _ _ _ _ _ _ _ _ _ _ _ h1 h2 (argX m c) (argWq m c) (argWo m c) (argK m c) (argV m c) Y Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexists _; isplitr; swap; · iexact H0
                    ipureintro; rfl
    isplitl [H1]; · iexists _; isplitr; swap; · iexact H1
                    ipureintro; rfl
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    iexists _; isplitr; swap; · iexact H5
    ipureintro; exact good_next _ _ _ _ _ t h2 Y hY

/-- The body obligation of the run. -/
theorem body_obligation (c : Dev nD) : (rdat m c).BodyObligation (defs₀ (F := F)) Variants.none () Set.univ := by
  intro t Y hY
  have e0 : Y 0 = argX m c := finds_in m c 0 _ fetch0_0 (fun _ => rfl) (fetched0 m c) (fun _ _ h => h) t _ (hY 0)
  have e1 : Y 1 = argWq m c := finds_in m c 1 _ fetch0_1 (fun _ => rfl) (fetched1 m c) (fun _ _ h => h) t _ (hY 1)
  have e2 : Y 2 = argWo m c := finds_in m c 2 _ fetch0_2 (fun _ => rfl) (fetched2 m c) (fun _ _ h => h) t _ (hY 2)
  have e3 : Y 3 = argK m c := finds_in m c 3 _ fetch0_3 (fun _ => rfl) (fetched3 m c) (fun _ _ h => h) t _ (hY 3)
  have e4 : Y 4 = argV m c := finds_in m c 4 _ fetch0_4 (fun _ => rfl) (fetched4 m c) (fun _ _ h => h) t _ (hY 4)
  have e5 := finds_out m c t _ (hY 5)
  rw [bigSep_W0, bigSep_W0, defs₀_row, e0, e1, e2, e3, e4]
  exact body_at m c t (Y 5) e5

/-- The result's array in the end: row block `b` at the sum of its sixteen contributions. -/
def result (c : Dev nD) : Vec F S2x256x512 .f32 := fun y => acc (parts m c) (y 0) 15 (ix2 (y 1) (y 2))

/-- The last point. -/
abbrev tLast : Fin cfg0.N := ⟨31, by have h2 : cfg0.N = 32 := N_0; omega⟩

set_option backward.isDefEq.respectTransparency.types false in
/-- The whole run. -/
theorem run_main : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine RDat.θ_run_frame cfgs (0 : Fin 1) launch0 defs₀ Variants.none (rdat m) m ρ main
    (hbody := body_obligation m) (hshare := fun c => (rdat m c).share_full fun _ => rfl) (howed := fun _ _ => rfl)
    (V := V m) (hmain := hmain m Variants.none) (hA := fun _ _ => rfl) (hΦ := fun _ _ => rfl)
    (Q' := _) (hQ' := ?_)
  rintro r ⟨h, hs⟩
  refine ⟨fun c => ⟨?_, RDat.FramePost.arr_in h c 0 rfl, RDat.FramePost.arr_in h c 1 rfl, RDat.FramePost.arr_in h c 2 rfl,
    RDat.FramePost.arr_in h c 3 rfl, RDat.FramePost.arr_in h c 4 rfl⟩, hs⟩
  obtain ⟨X, hX, hG⟩ := RDat.ArrAt.emb_eq_of_wholeAt ((h c).1 5) (t₀ := tLast) (by decide +kernel)
  obtain ⟨Y, _, hX⟩ := hX
  have hX : Good (parts m c) 31 X := hX
  funext y
  refine (hG y).trans ?_
  have hb := hX (y 0) (y 1) (y 2)
  show X y = acc (parts m c) (y 0) 15 (ix2 (y 1) (y 2))
  rw [show y = ix3 (y 0) (y 1) (y 2) from eq_ix3 y]
  by_cases h0 : (y 0).val < 31 / 16
  · exact hb.1 h0
  · have : (y 0).val < 2 := (y 0).isLt
    exact hb.2 (by omega)

end Cert.KernelIdeal.Attn

end
-- ==== Proof.Attn.Math.lean ====
/-
  The attention of one head at one row, on extended reals, as both programs compute it.
-/
module

public import Idealize.ShloMosaic.Lib.Pointwise

@[expose] public section

set_option maxRecDepth 16384

noncomputable section

namespace Cert.AttnMath

open Idealize.ShloMosaic

/-- One score: the product of the row's projection with a key row, scaled, or the fill value where the mask is off. -/
def score (M : Fin 256 → BitVec 1) (q : Fin 64 → EReal) (K : Fin 256 → Fin 64 → EReal) (j : Fin 256) : EReal :=
  Scalar.select (M j) ((∑ d, q d * K j d) * Ideal.ofBits .f32 0x3E000000#32) (Ideal.ofBits .f32 0xCE6E6B28#32)

/-- The largest score of a row. -/
def top (s : Fin 256 → EReal) : EReal := Finset.fold max (Ideal.ofBits .f32 0xFF800000#32) s Finset.univ

/-- The weight of one score in its row: the softmax. -/
def wgt (s : Fin 256 → EReal) (j : Fin 256) : EReal :=
  Ideal.div (Ideal.exp (s j - top s)) (∑ x, Ideal.exp (s x - top s))

/-- The weighted sum of a column of values. -/
def head (s : Fin 256 → EReal) (v : Fin 256 → EReal) : EReal := ∑ j, wgt s j * v j

/-- The mask both programs use: column `j` lies in row `i`'s block of 64. -/
def block (i j : Fin 256) : BitVec 1 := if i.val / 64 = j.val / 64 then 1#1 else 0#1

/-- Entry `d` of head `H`'s projection of row `r` of row block `b`. -/
def qrow (x : (⟨3, ![2, 256, 512]⟩ : Shape).Idx → EReal) (wq : (⟨3, ![16, 512, 256]⟩ : Shape).Idx → EReal)
    (b : Fin 2) (r : Fin 256) (H : Fin 64) (d : Fin 64) : EReal :=
  ∑ k : Fin 512, x (ix3 b r k) * wq (ix3 (⟨H.val / 4, by omega⟩ : Fin 16) k (⟨64 * (H.val % 4) + d.val, by omega⟩ : Fin 256))

/-- Entry `d` of head `H`'s context at row `r` of row block `b`. -/
def ctx (x : (⟨3, ![2, 256, 512]⟩ : Shape).Idx → EReal) (wq : (⟨3, ![16, 512, 256]⟩ : Shape).Idx → EReal)
    (k v : (⟨4, ![2, 64, 256, 64]⟩ : Shape).Idx → EReal) (b : Fin 2) (r : Fin 256) (H : Fin 64) (d : Fin 64) : EReal :=
  head (score (block r) (qrow x wq b r H) fun j e => k (ix4 b H j e)) fun j => v (ix4 b H j d)

/-- One term of the output projection. -/
def term (x : (⟨3, ![2, 256, 512]⟩ : Shape).Idx → EReal) (wq : (⟨3, ![16, 512, 256]⟩ : Shape).Idx → EReal)
    (wo : (⟨3, ![16, 256, 512]⟩ : Shape).Idx → EReal) (k v : (⟨4, ![2, 64, 256, 64]⟩ : Shape).Idx → EReal)
    (b : Fin 2) (r : Fin 256) (n : Fin 512) (H : Fin 64) (d : Fin 64) : EReal :=
  ctx x wq k v b r H d * wo (ix3 (⟨H.val / 4, by omega⟩ : Fin 16) (⟨64 * (H.val % 4) + d.val, by omega⟩ : Fin 256) n)

/-- A sum over 4096 entries is the sum over 64 heads of the sums over a head's 64 entries. -/
theorem sum_heads (f : Fin 4096 → EReal) :
    ∑ e, f e = ∑ H : Fin 64, ∑ d : Fin 64, f ⟨64 * H.val + d.val, by omega⟩ := by
  rw [← Fintype.sum_prod_type' (f := fun (H : Fin 64) (d : Fin 64) => f ⟨64 * H.val + d.val, by omega⟩)]
  refine (Fintype.sum_equiv (finProdFinEquiv (m := 64) (n := 64)) _ _ fun p => ?_).symm
  congr 1; apply Fin.ext
  show 64 * p.1.val + p.2.val = p.2.val + 64 * p.1.val
  omega

/-- A sum over a group's 256 entries is the sum over its four heads of the sums over a head's 64 entries. -/
theorem sum_group (f : Fin 256 → EReal) :
    ∑ e, f e = ∑ h : Fin 4, ∑ d : Fin 64, f ⟨64 * h.val + d.val, by omega⟩ := by
  rw [← Fintype.sum_prod_type' (f := fun (h : Fin 4) (d : Fin 64) => f ⟨64 * h.val + d.val, by omega⟩)]
  refine (Fintype.sum_equiv (finProdFinEquiv (m := 4) (n := 64)) _ _ fun p => ?_).symm
  congr 1; apply Fin.ext
  show 64 * p.1.val + p.2.val = p.2.val + 64 * p.1.val
  omega

/-- A sum over 64 heads is the sum over 16 groups of the sums over a group's four heads. -/
theorem sum_groups (f : Fin 64 → EReal) :
    ∑ H, f H = ∑ g : Fin 16, ∑ h : Fin 4, f ⟨4 * g.val + h.val, by omega⟩ := by
  rw [← Fintype.sum_prod_type' (f := fun (g : Fin 16) (h : Fin 4) => f ⟨4 * g.val + h.val, by omega⟩)]
  refine (Fintype.sum_equiv (finProdFinEquiv (m := 16) (n := 4)) _ _ fun p => ?_).symm
  congr 1; apply Fin.ext
  show 4 * p.1.val + p.2.val = p.2.val + 4 * p.1.val
  omega

theorem congr_ix3 {a b c : ℕ} {i i' : Fin a} {j j' : Fin b} {l l' : Fin c} (h1 : i.val = i'.val) (h2 : j.val = j'.val) (h3 : l.val = l'.val) :
    ix3 i j l = ix3 i' j' l' := by
  rw [Fin.ext h1, Fin.ext h2, Fin.ext h3]

/-- Rank-4 indices are equal where their coordinates' values are. -/
theorem congr_ix4 {a b c d : ℕ} {i i' : Fin a} {j j' : Fin b} {l l' : Fin c} {o o' : Fin d} (h1 : i.val = i'.val)
    (h2 : j.val = j'.val) (h3 : l.val = l'.val) (h4 : o.val = o'.val) : ix4 i j l o = ix4 i' j' l' o' := by
  rw [Fin.ext h1, Fin.ext h2, Fin.ext h3, Fin.ext h4]

end Cert.AttnMath

end
-- ==== Proof.Attn.Value.lean ====
/-
  The contribution of one point, entry by entry, and the result as a sum over all heads.
-/
module

public import proofs.«01_k».proof.Proof.Attn.Run
public import proofs.«01_k».proof.Proof.Attn.Math

@[expose] public section

set_option maxRecDepth 16384

noncomputable section

namespace Cert.KernelIdeal.Attn

open Cert.KernelIdeal Cert.KernelIdeal.Gen Cert.AttnMath
open Idealize.ShloMosaic Idealize.ShloMosaic.TcCoe

/-- A row's block number as the kernel computes it. -/
theorem rowBlock (i j : Fin 256) : k0_pay5 (ix2 i j) = BitVec.ofNat 32 (i.val / 64) := by
  pointwise [k0_pay5]
  revert i; decide +kernel

/-- The kernel's mask at an index. -/
theorem mask_apply (i j : Fin 256) : mask (ix2 i j) = block i j := by
  have hj : ∀ j : Fin 256, (Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 j.val) 64#32) 0#32))
        (IntOp.subi (IntOp.divsi ArithUnit.vector (BitVec.ofNat 32 j.val) 64#32) 1#32)
        (IntOp.divsi ArithUnit.vector (BitVec.ofNat 32 j.val) 64#32)) = BitVec.ofNat 32 (j.val / 64) := by
    decide +kernel
  pointwise [mask, k0_pay8, k0_pay6, k0_pay7]
  rw [rowBlock, hj]
  have h : ∀ a b : Fin 4, IntOp.cmpi .eq (BitVec.ofNat 32 a.val) (BitVec.ofNat 32 b.val) = if a.val = b.val then 1#1 else 0#1 := by
    decide +kernel
  exact h ⟨i.val / 64, by omega⟩ ⟨j.val / 64, by omega⟩

/-- The projection of the point, entry by entry. -/
theorem qv_apply (i : grid0.Coords) (x : Vec Ideal S2x256x512 .bf16) (wq : Vec Ideal S16x512x256 .bf16) (r e : Fin 256) :
    qv i x wq (ix2 r e) = ∑ k : Fin 512, x (ix3 (i 0) r k) * wq (ix3 (i 1) k e) := by
  pointwise [qv, k0_pay4]
  refine Finset.sum_congr rfl fun k _ => ?_
  congr 2 <;> (refine congr_ix3 ?_ ?_ ?_ <;> simp [k0_off1_eq, k0_off2_eq])

variable (q : FVec Ideal S256x256 .bf16) (k v : Vec Ideal S1x1x256x64 .bf16) (r : Fin 256) (d : Fin 64)

/-- The scores of head `h` of the group at row `r`. -/
abbrev scores (h : Fin 4) : Fin 256 → EReal :=
  score (fun j => mask (ix2 r j)) (fun e => q (ix2 r (⟨64 * h.val + e.val, by omega⟩ : Fin 256))) fun j e => k (ix4 (0 : Fin 1) (0 : Fin 1) j e)

/-- Column `d` of the values. -/
abbrev values : Fin 256 → EReal := fun j => v (ix4 (0 : Fin 1) (0 : Fin 1) j d)

/-- The context of each of the group's heads. -/
theorem head0 : k0_pay11 (k0_pay9 v) (k0_pay10 q k0_pay5 (iota .tc S256x256 32 [1] iota_S256x256_d1_w32) 64#32 k0_pay6 k0_pay7 k) (ix2 r d)
    = head (scores q k r 0) (values v d) := by
  unfold head wgt top scores score values mask
  pointwise [k0_pay9, k0_pay10, k0_pay11]
  try rfl

theorem head1 : k0_pay12 q mask k v (ix2 r d) = head (scores q k r 1) (values v d) := by
  unfold head wgt top scores score values
  pointwise [k0_pay12]
  try rfl

theorem head2 : k0_pay15 mask (k0_pay13 q) (k0_pay14 k) v (ix2 r d) = head (scores q k r 2) (values v d) := by
  unfold head wgt top scores score values
  pointwise [k0_pay13, k0_pay14, k0_pay15]
  try rfl

theorem head3 : (∑ j : Fin 256,
      Ideal.div (Ideal.exp (k0_pay17 q mask k (ix2 r j) - k0_pay18 q mask k (ix1 r)))
        (∑ j', Ideal.exp (k0_pay17 q mask k (ix2 r j') - k0_pay18 q mask k (ix1 r))) * v (ix4 (0 : Fin 1) (0 : Fin 1) j d))
    = head (scores q k r 3) (values v d) := by
  unfold head wgt top scores score values
  pointwise [k0_pay17, k0_pay18]
  try rfl

variable (i : grid0.Coords) (x : Vec Ideal S2x256x512 .bf16) (wq : Vec Ideal S16x512x256 .bf16) (wo : Vec Ideal S16x256x512 .bf16)
  (K V : Vec Ideal S2x64x256x64 .bf16)

theorem k0_off4_lt0 : k0_off4 i 0 < 16 := by rw [k0_off4_eq]; exact (i 1).isLt
theorem k0_off4_lt1 (e : Fin 256) : k0_off4 i 1 + e.val < 256 := by rw [k0_off4_eq]; simp
theorem k0_off4_lt2 (n : Fin 512) : k0_off4 i 2 + n.val < 512 := by rw [k0_off4_eq]; simp

/-- The contribution of a point, entry by entry, as the sum over the group's four heads. -/
theorem partV_heads (n : Fin 512) : partV i x wq wo K V (ix2 r n)
    = ∑ h : Fin 4, ∑ d : Fin 64, head (scores (qv i x wq) (kvAt i h K) r h) (values (kvAt i h V) d)
        * wo (ix3 (i 1) (⟨64 * h.val + d.val, by omega⟩ : Fin 256) n) := by
  unfold partV
  pointwise [k0_pay1, k0_pay16]
  have hw : ∀ e : Fin 256, wo (ix3 (⟨k0_off4 i 0, k0_off4_lt0 i⟩ : Fin 16) (⟨k0_off4 i 1 + e.val, k0_off4_lt1 i e⟩ : Fin 256) (⟨k0_off4 i 2 + n.val, k0_off4_lt2 i n⟩ : Fin 512))
      = wo (ix3 (i 1) e n) := fun e => congrArg wo (congr_ix3 (by simp [k0_off4_eq]) (by simp [k0_off4_eq]) (by simp [k0_off4_eq]))
  simp only [hw]
  rw [sum_group, Fin.sum_univ_four, Fin.sum_univ_four]
  refine congrArg₂ (· + ·) (congrArg₂ (· + ·) (congrArg₂ (· + ·) ?_ ?_) ?_) ?_
  · refine Finset.sum_congr rfl fun d _ => congrArg (· * _) ?_
    rw [dif_pos (by simp), ← head0]; congr 2; apply Fin.ext; simp
  · refine Finset.sum_congr rfl fun d _ => congrArg (· * _) ?_
    rw [dif_neg (by simp), dif_pos (by simp), ← head1]; congr 2; apply Fin.ext; simp
  · refine Finset.sum_congr rfl fun d _ => congrArg (· * _) ?_
    rw [dif_neg (by simp; omega), dif_neg (by simp; omega), dif_pos (by simp; omega), ← head2]; congr 2; apply Fin.ext; simp; omega
  · refine Finset.sum_congr rfl fun d _ => congrArg (· * _) ?_
    rw [dif_neg (by simp; omega), dif_neg (by simp; omega), dif_neg (by simp; omega), ← head3]
    refine Finset.sum_congr rfl fun j _ => congrArg (fun z => _ * kvAt i 3 V z) ?_
    congr 1; apply Fin.ext; simp; omega

/-- A head's keys (or values) at an index of the whole array. -/
theorem kvAt_apply (h : Fin 4) (j : Fin 256) (d : Fin 64) : kvAt i h K (ix4 (0 : Fin 1) (0 : Fin 1) j d)
    = K (ix4 (i 0) (⟨4 * (i 1).val + h.val, by have h1 : (i 1).val < 16 := (i 1).isLt; omega⟩ : Fin 64) j d) := by
  refine congrArg K ?_
  funext a; apply Fin.ext
  have e : ∀ a : Fin 4, k0_off3 i (BitVec.ofNat 32 h.val) a = (![(i 0).val, 4 * (i 1).val + h.val, 0, 0] : Fin 4 → ℕ) a :=
    fun a => congrFun (k0_off3_eq i h) a
  match a with
  | ⟨0, _⟩ => exact (congrArg (· + 1 * 0) (e 0)).trans (by show (i 0).val + 1 * 0 = (i 0).val; omega)
  | ⟨1, _⟩ => exact (congrArg (· + 1 * 0) (e 1)).trans (by show 4 * (i 1).val + h.val + 1 * 0 = 4 * (i 1).val + h.val; omega)
  | ⟨2, _⟩ => exact (congrArg (· + 1 * j.val) (e 2)).trans (by show 0 + 1 * j.val = j.val; omega)
  | ⟨3, _⟩ => exact (congrArg (· + 1 * d.val) (e 3)).trans (by show 0 + 1 * d.val = d.val; omega)

/-- The contribution of a point: the terms of its group's heads. -/
theorem partV_terms (n : Fin 512) : partV i x wq wo K V (ix2 r n)
    = ∑ h : Fin 4, ∑ d : Fin 64, term x wq wo K V (i 0) r n
        (⟨4 * (i 1).val + h.val, by have h1 : (i 1).val < 16 := (i 1).isLt; omega⟩ : Fin 64) d := by
  rw [partV_heads]
  refine Finset.sum_congr rfl fun h _ => Finset.sum_congr rfl fun d _ => ?_
  have hi : (i 1).val < 16 := (i 1).isLt
  unfold term
  refine congrArg₂ (· * ·) ?_ (congrArg wo (congr_ix3 (by simp; omega) (by simp; omega) rfl))
  unfold ctx scores values qrow
  refine congrArg₂ head ?_ (funext fun j => kvAt_apply i V h j d)
  refine congr (congr (congrArg score (funext fun j => mask_apply r j)) (funext fun e => ?_)) (funext fun j => funext fun e => kvAt_apply i K h j e)
  rw [qv_apply]
  refine Finset.sum_congr rfl fun k _ => congrArg (_ * ·) (congrArg wq (congr_ix3 (by simp; omega) rfl (by simp; omega)))

/-- The running sum at an index, as a sum. -/
theorem acc_apply (P : Fin cfg0.N → FVec Ideal S256x512 .f32) (b : Fin 2) (m : ℕ) (y : S256x512.Idx) :
    acc P b m y = ∑ g ∈ Finset.range (m + 1), P (pt b g) y := by
  induction m with
  | zero => simp [acc]
  | succ m ih => rw [Finset.sum_range_succ, ← ih]; rfl

variable (m : (ℓ : Loc nD τ sig) → Buf (Elt Ideal) ℓ)

/-- The kernel's result at an index: the terms of all heads. -/
theorem result_apply (c : Dev nD) (b : Fin 2) (r : Fin 256) (n : Fin 512) :
    result m c (ix3 b r n)
      = ∑ H : Fin 64, ∑ d : Fin 64, term (argX m c) (argWq m c) (argWo m c) (argK m c) (argV m c) b r n H d := by
  show acc (parts m c) b 15 (ix2 r n) = _
  rw [acc_apply, Finset.sum_range, sum_groups]
  refine Finset.sum_congr rfl fun g _ => ?_
  refine (partV_terms r _ _ _ _ _ _ n).trans ?_
  have hb : grid0.coords (pt b g.val) 0 = b := Fin.ext (by rw [coord0]; show (16 * b.val + g.val % 16) / 16 = _; omega)
  have hg : (grid0.coords (pt b g.val) 1).val = g.val := by rw [coord1]; show (16 * b.val + g.val % 16) % 16 = _; omega
  refine Finset.sum_congr rfl fun h _ => Finset.sum_congr rfl fun d _ => ?_
  rw [hb]
  congr 1; apply Fin.ext
  show 4 * (grid0.coords (pt b g.val) 1).val + h.val = _
  rw [hg]

end Cert.KernelIdeal.Attn

end
-- ==== Proof.Attn.Ref.lean ====
/-
  The reference, entry by entry: its composed term is spelt with a name for each of its stages, and read at an index.
-/
module

public import proofs.«01_k».proof.Proof.Gen.ReferenceIdeal.Run
public import proofs.«01_k».proof.Proof.Attn.Math

@[expose] public section

set_option maxRecDepth 16384

noncomputable section

namespace Cert.ReferenceIdeal.Attn

open Cert.ReferenceIdeal Cert.ReferenceIdeal.Gen Cert.AttnMath
open Idealize.ShloMosaic Idealize.ShloMosaic.TcCoe

/-- A scalar integer constant spread over a shape. -/
abbrev splat0 (b : BitVec 32) : IVec S_ 32 := constantI S_ 32 b

/-- The block number of every position. -/
def blk : IVec S256 32 :=
  select
    (andi (cmpi .ne (signi (iotaInDim S256 32 0)) (broadcastInDim S256 ![] bcast_S_S256 (signi (splat0 64#32))))
      (cmpi .ne (Host.remsi (iotaInDim S256 32 0) (broadcastInDim S256 ![] bcast_S_S256 (splat0 64#32)))
        (broadcastInDim S256 ![] bcast_S_S256 (splat0 0#32))))
    (subi (Host.divsi (iotaInDim S256 32 0) (broadcastInDim S256 ![] bcast_S_S256 (splat0 64#32)))
      (broadcastInDim S256 ![] bcast_S_S256 (splat0 1#32)))
    (Host.divsi (iotaInDim S256 32 0) (broadcastInDim S256 ![] bcast_S_S256 (splat0 64#32)))

/-- The divisor of the remainders: four. -/
def four : IVec S_ 32 := select (cmpi .eq (splat0 4#32) (splat0 0#32)) (splat0 1#32) (splat0 4#32)

/-- The columns' block numbers, as a row, -/
def cols : IVec S1x256 32 := broadcastInDim S1x256 ![1] bcast_S256_S1x256_1 blk
/-- and the rows' block numbers, as a column. -/
def rows : IVec S256x1 32 := broadcastInDim S256x1 ![0] bcast_S256_S256x1_0 blk

/-- The columns' remainders by four, -/
def colRem : IVec S1x256 32 :=
  select
    (andi
      (cmpi .ne
        (cmpi .slt (Host.remsi cols (broadcastInDim S1x256 ![] bcast_S_S1x256 four)) (broadcastInDim S1x256 ![] bcast_S_S1x256 (splat0 0#32)))
        (broadcastInDim S1x256 ![] bcast_S_S1x256 (cmpi .slt four (splat0 0#32))))
      (cmpi .ne (Host.remsi cols (broadcastInDim S1x256 ![] bcast_S_S1x256 four)) (broadcastInDim S1x256 ![] bcast_S_S1x256 (splat0 0#32))))
    (addi (Host.remsi cols (broadcastInDim S1x256 ![] bcast_S_S1x256 four)) (broadcastInDim S1x256 ![] bcast_S_S1x256 four))
    (Host.remsi cols (broadcastInDim S1x256 ![] bcast_S_S1x256 four))

/-- and the rows'. -/
def rowRem : IVec S256x1 32 :=
  select
    (andi
      (cmpi .ne
        (cmpi .slt (Host.remsi rows (broadcastInDim S256x1 ![] bcast_S_S256x1 four)) (broadcastInDim S256x1 ![] bcast_S_S256x1 (splat0 0#32)))
        (broadcastInDim S256x1 ![] bcast_S_S256x1 (cmpi .slt four (splat0 0#32))))
      (cmpi .ne (Host.remsi rows (broadcastInDim S256x1 ![] bcast_S_S256x1 four)) (broadcastInDim S256x1 ![] bcast_S_S256x1 (splat0 0#32))))
    (addi (Host.remsi rows (broadcastInDim S256x1 ![] bcast_S_S256x1 four)) (broadcastInDim S256x1 ![] bcast_S_S256x1 four))
    (Host.remsi rows (broadcastInDim S256x1 ![] bcast_S_S256x1 four))

/-- The mask: the same block, or block numbers equal modulo four. -/
def maskR : IVec S256x256 1 :=
  ori
    (cmpi .eq (broadcastInDim S256x256 ![0, 1] bcast_S256x1_S256x256_0_1 rows) (broadcastInDim S256x256 ![0, 1] bcast_S1x256_S256x256_0_1 cols))
    (cmpi .eq (broadcastInDim S256x256 ![0, 1] bcast_S1x256_S256x256_0_1 colRem) (broadcastInDim S256x256 ![0, 1] bcast_S256x1_S256x256_0_1 rowRem))

/-- The rows that have a position to look at. -/
def keep : IVec S256 1 := Host.reduce IntOp.ori maskR (constantI S_ 1 0#1) reducesTo_S256x256_S256_d1 h_S_

variable {F : FTy → Type} [FloatOps F]

/-- The projections, head by head. -/
def projR (x : FVec F S2x256x512 .bf16) (wq : FVec F S16x512x256 .bf16) : FVec F S2x256x64x64 .f32 :=
  shapeCast S2x256x64x64
    (Host.dotGeneral dot_S2x256x512_S512x4096_S2x256x4096_2_0_01_1_n_n none (extf .f32 x bitsLt_bf16_f32)
      (shapeCast S512x4096 (transpose S512x16x256 [1, 0, 2] (extf .f32 wq bitsLt_bf16_f32) transposes_S16x512x256_S512x16x256_1_0_2)
        shapeCasts_S512x16x256_S512x4096))
    shapeCasts_S2x256x4096_S2x256x64x64

/-- The keys or the values with the head axis moved behind the positions. -/
def kvR (k : FVec F S2x64x256x64 .bf16) : FVec F S2x256x64x64 .f32 :=
  transpose S2x256x64x64 [0, 2, 1, 3] (extf .f32 k bitsLt_bf16_f32) transposes_S2x64x256x64_S2x256x64x64_0_2_1_3

/-- The masked scores. -/
def scoreR (q k : FVec F S2x256x64x64 .f32) : FVec F S2x64x256x256 .f32 :=
  select
    (broadcastInDim S2x64x256x256 ![0, 1, 2, 3] bcast_S1x1x256x256_S2x64x256x256_0_1_2_3
      (broadcastInDim S1x1x256x256 ![2, 3] bcast_S256x256_S1x1x256x256_2_3 maskR))
    (mulf (Host.dotGeneral dot_S2x256x64x64_S2x256x64x64_S2x64x256x256_3_3_1_1_02_02 none q k)
      (broadcastInDim S2x64x256x256 ![] bcast_S_S2x64x256x256 (constant S_ .f32 0x3E000000#32)))
    (broadcastInDim S2x64x256x256 ![] bcast_S_S2x64x256x256 (constant S_ .f32 0xCE6E6B28#32))

/-- The exponentials of the scores less their row's largest. -/
def expR (s : FVec F S2x64x256x256 .f32) : FVec F S2x64x256x256 .f32 :=
  Host.exp (subf s
    (broadcastInDim S2x64x256x256 ![0, 1, 2, 3] bcast_S2x64x256x1_S2x64x256x256_0_1_2_3
      (broadcastInDim S2x64x256x1 ![0, 1, 2] bcast_S2x64x256_S2x64x256x1_0_1_2
        (Host.reduce FloatOps.maximumf s (constant S_ .f32 0xFF800000#32) reducesTo_S2x64x256x256_S2x64x256_d3 h_S_))))

/-- The weights. -/
def wgtR (e : FVec F S2x64x256x256 .f32) : FVec F S2x64x256x256 .f32 :=
  select
    (broadcastInDim S2x64x256x256 ![0, 1, 2, 3] bcast_S1x1x256x1_S2x64x256x256_0_1_2_3
      (broadcastInDim S1x1x256x1 ![2] bcast_S256_S1x1x256x1_2 keep))
    (Host.divf e
      (broadcastInDim S2x64x256x256 ![0, 1, 2, 3] bcast_S2x64x256x1_S2x64x256x256_0_1_2_3
        (select
          (broadcastInDim S2x64x256x1 ![0, 1, 2, 3] bcast_S1x1x256x1_S2x64x256x1_0_1_2_3
            (broadcastInDim S1x1x256x1 ![2] bcast_S256_S1x1x256x1_2 keep))
          (broadcastInDim S2x64x256x1 ![0, 1, 2] bcast_S2x64x256_S2x64x256x1_0_1_2
            (Host.reduceAdd e (constant S_ .f32 0x00000000#32) reducesTo_S2x64x256x256_S2x64x256_d3 h_S_))
          (broadcastInDim S2x64x256x1 ![] bcast_S_S2x64x256x1 (constant S_ .f32 0x3F800000#32)))))
    (broadcastInDim S2x64x256x256 ![] bcast_S_S2x64x256x256 (constant S_ .f32 0x00000000#32))

/-- The contexts, multiplied by the output weights. -/
def outR (v : FVec F S2x256x64x64 .f32) (w : FVec F S2x64x256x256 .f32) (wo : FVec F S16x256x512 .bf16) : FVec F S2x256x512 .f32 :=
  Host.dotGeneral dot_S2x256x4096_S4096x512_S2x256x512_2_0_01_1_n_n none
    (shapeCast S2x256x4096
      (transpose S2x256x64x64 [0, 3, 1, 2]
        (Host.dotGeneral dot_S2x256x64x64_S2x64x256x256_S2x64x64x256_1_3_3_2_02_01 none v w)
        transposes_S2x64x64x256_S2x256x64x64_0_3_1_2)
      shapeCasts_S2x256x64x64_S2x256x4096)
    (shapeCast S4096x512 (extf .f32 wo bitsLt_bf16_f32) shapeCasts_S16x256x512_S4096x512)

variable (m : (ℓ : Loc nD τ sig) → Buf (Elt F) ℓ)

/-- The arguments at launch. -/
abbrev argX (c : Dev nD) : FVec F S2x256x512 .bf16 := m ((c.tc : Thread nD τ).loc main_arg0)
abbrev argWq (c : Dev nD) : FVec F S16x512x256 .bf16 := m ((c.tc : Thread nD τ).loc main_arg1)
abbrev argWo (c : Dev nD) : FVec F S16x256x512 .bf16 := m ((c.tc : Thread nD τ).loc main_arg2)
abbrev argK (c : Dev nD) : FVec F S2x64x256x64 .bf16 := m ((c.tc : Thread nD τ).loc main_arg3)
abbrev argV (c : Dev nD) : FVec F S2x64x256x64 .bf16 := m ((c.tc : Thread nD τ).loc main_arg4)

/-- The reference's result, by its stages. -/
theorem res_eq (c : Dev nD) : Value.res_out0 m c
    = outR (kvR (argV m c)) (wgtR (expR (scoreR (projR (argX m c) (argWq m c)) (kvR (argK m c))))) (argWo m c) := by
  unfold Value.res_out0 Value.res_main_v49
  rfl

theorem blk_apply (i : Fin 256) : blk (ix1 i) = BitVec.ofNat 32 (i.val / 64) := by
  pointwise [blk]
  revert i; decide +kernel

theorem colRem_apply (j : Fin 256) : colRem (ix2 (0 : Fin 1) j) = BitVec.ofNat 32 (j.val / 64 % 4) := by
  pointwise [colRem, cols, four]
  rw [blk_apply]
  revert j; decide +kernel

theorem rowRem_apply (i : Fin 256) : rowRem (ix2 i (0 : Fin 1)) = BitVec.ofNat 32 (i.val / 64 % 4) := by
  pointwise [rowRem, rows, four]
  rw [blk_apply]
  revert i; decide +kernel

/-- The reference's mask at an index: with four blocks the remainders by four are equal exactly on the same block. -/
theorem maskR_apply (i j : Fin 256) : maskR (ix2 i j) = block i j := by
  pointwise [maskR, cols, rows]
  rw [blk_apply, blk_apply, colRem_apply, rowRem_apply]
  have h : ∀ a b : Fin 4, IntOp.ori (IntOp.cmpi .eq (BitVec.ofNat 32 a.val) (BitVec.ofNat 32 b.val))
      (IntOp.cmpi .eq (BitVec.ofNat 32 (b.val % 4)) (BitVec.ofNat 32 (a.val % 4))) = if a.val = b.val then 1#1 else 0#1 := by
    decide +kernel
  exact h ⟨i.val / 64, by omega⟩ ⟨j.val / 64, by omega⟩

/-- Every row has a position to look at. -/
theorem keep_apply (i : Fin 256) : keep (ix1 i) = 1#1 := by
  pointwise [keep]
  rw [← Finset.insert_erase (Finset.mem_univ i), Finset.fold_insert (Finset.notMem_erase i _), maskR_apply]
  have e : block i i = 1#1 := if_pos rfl
  have h : ∀ y : BitVec 1, IntOp.ori 1#1 y = 1#1 := by decide
  rw [e, h]

variable (x : FVec Ideal S2x256x512 .bf16) (wq : FVec Ideal S16x512x256 .bf16) (wo : FVec Ideal S16x256x512 .bf16)
variable (k v : FVec Ideal S2x64x256x64 .bf16)
variable (b : Fin 2) (r j : Fin 256) (H d : Fin 64)

theorem kvR_apply : kvR k (ix4 b j H d) = k (ix4 b H j d) := by
  pointwise [kvR]

theorem projR_apply : projR x wq (ix4 b r H d) = qrow x wq b r H d := by
  pointwise [projR]
  refine Finset.sum_congr rfl fun e _ => congrArg (_ * ·) (congrArg wq (congr_ix3 ?_ rfl ?_))
  · show (H.val * 64 + d.val) / 256 = H.val / 4; omega
  · show (H.val * 64 + d.val) % 256 = 64 * (H.val % 4) + d.val; omega

variable (q' k' v' : FVec Ideal S2x256x64x64 .f32) (s w : FVec Ideal S2x64x256x256 .f32)

theorem scoreR_apply : scoreR q' k' (ix4 b H r j)
    = score (block r) (fun e => q' (ix4 b r H e)) (fun j e => k' (ix4 b j H e)) j := by
  unfold score
  pointwise [scoreR, maskR_apply]

theorem expR_apply : expR s (ix4 b H r j) = Ideal.exp (s (ix4 b H r j) - top fun j => s (ix4 b H r j)) := by
  unfold top
  pointwise [expR]

theorem wgtR_apply : wgtR w (ix4 b H r j) = Ideal.div (w (ix4 b H r j)) (∑ x, w (ix4 b H r x)) := by
  pointwise [wgtR, keep_apply]

theorem outR_apply (n : Fin 512) : outR v' w wo (ix3 b r n)
    = ∑ H : Fin 64, ∑ d : Fin 64, (∑ j, w (ix4 b H r j) * v' (ix4 b j H d))
        * wo (ix3 (⟨H.val / 4, by omega⟩ : Fin 16) (⟨64 * (H.val % 4) + d.val, by omega⟩ : Fin 256) n) := by
  pointwise [outR]
  rw [sum_heads]
  refine Finset.sum_congr rfl fun H _ => Finset.sum_congr rfl fun d _ => ?_
  refine congrArg₂ (· * ·) (Finset.sum_congr rfl fun j _ => ?_) (congrArg wo (congr_ix3 ?_ ?_ rfl))
  · rw [mul_comm]
    refine congrArg₂ (· * ·) (congrArg w (congr_ix4 rfl ?_ rfl rfl)) (congrArg v' (congr_ix4 rfl rfl ?_ ?_))
    · show (64 * H.val + d.val) / 64 = H.val; omega
    · show (64 * H.val + d.val) / 64 = H.val; omega
    · show (64 * H.val + d.val) % 64 = d.val; omega
  · show (64 * H.val + d.val) / 256 = H.val / 4; omega
  · show (64 * H.val + d.val) % 256 = 64 * (H.val % 4) + d.val; omega

theorem ctxR_apply : ∑ j, wgtR (expR (scoreR (projR x wq) (kvR k))) (ix4 b H r j) * kvR v (ix4 b j H d) = ctx x wq k v b r H d := by
  unfold ctx head wgt
  refine Finset.sum_congr rfl fun j _ => ?_
  rw [wgtR_apply, kvR_apply]
  simp only [expR_apply, scoreR_apply, projR_apply, kvR_apply]

/-- The reference's result at an index: the terms of all heads. -/
theorem res_apply (m : (ℓ : Loc nD τ sig) → Buf (Elt Ideal) ℓ) (c : Dev nD) (b : Fin 2) (r : Fin 256) (n : Fin 512) :
    (Value.res_out0 m c : FVec Ideal S2x256x512 .f32) (ix3 b r n)
      = ∑ H : Fin 64, ∑ d : Fin 64, term (argX m c) (argWq m c) (argWo m c) (argK m c) (argV m c) b r n H d := by
  refine (congrFun (res_eq m c) (ix3 b r n)).trans ((outR_apply _ b r _ _ n).trans ?_)
  simp only [ctxR_apply, term]

end Cert.ReferenceIdeal.Attn

end
-- ==== Proof.Attn.Claims.lean ====
/-
  The five claims of the attention call.
-/
module

public import proofs.«01_k».proof.Defs
public import proofs.«01_k».proof.Proof.Gen.Kernel
public import proofs.«01_k».proof.Proof.Attn.Value
public import proofs.«01_k».proof.Proof.Attn.Ref
public import Idealize.ShloMosaic.Lib.Quiescent

@[expose] public section

noncomputable section

namespace Cert.AttnClaim

open Idealize.ShloMosaic Idealize.SL.Sem

open Cert.KernelIdeal in
/-- The run's end, without its result. -/
theorem run_args {F : FTy → Type} [FloatOps F] (m : (ℓ : Loc nD τ sig) → Buf (Elt F) ℓ) (ρ : Dev nD → PrngReg) :
    θ_run (Cert.KernelIdeal.defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (Cert.KernelIdeal.Attn.run_main m ρ)

set_option maxRecDepth 16384 in
/-- The two programs have one text: their body tables are the same, -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

set_option maxRecDepth 16384 in
/-- and so are their tables with the call's region. -/
theorem defs_eq : Cert.Kernel.defs (F := Bits) = Cert.KernelIdeal.defs (F := Bits) :=
  congrArg (Idealize.ShloMosaic.Pipeline.defs (Cert.KernelIdeal.pcfgs (F := Bits))) bodies_eq

/-- The kernel at the machine's floats: this is the idealized program's run there. -/
theorem frame_kernel : Cert.quiescent_Kernel := by
  intro m ρ _
  rw [defs_eq]
  exact run_args (F := Bits) m ρ

theorem frame_ideal : Cert.quiescent_KernelIdeal := fun m ρ _ =>
  (θ_run (Cert.KernelIdeal.defs (F := Ideal)) _ _).mono (fun _ h => ⟨fun c => (h.1 c).2, h.2⟩)
    (Cert.KernelIdeal.Attn.run_main (F := Ideal) m ρ)

theorem frame_reference : Cert.quiescent_ReferenceIdeal := fun m ρ _ =>
  (θ_run (Cert.ReferenceIdeal.defs (F := Ideal)) _ _).mono (fun r h => ⟨fun c => (h c).2, sem_eq_zero_of_no_sems rfl r.2⟩)
    (Cert.ReferenceIdeal.Value.run m ρ)

/-- The two results, from memories that agree on the arguments. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : Cert.ReferenceIdeal.Attn.argX m' c = Cert.KernelIdeal.Attn.argX m c)
    (h1 : Cert.ReferenceIdeal.Attn.argWq m' c = Cert.KernelIdeal.Attn.argWq m c)
    (h2 : Cert.ReferenceIdeal.Attn.argWo m' c = Cert.KernelIdeal.Attn.argWo m c)
    (h3 : Cert.ReferenceIdeal.Attn.argK m' c = Cert.KernelIdeal.Attn.argK m c)
    (h4 : Cert.ReferenceIdeal.Attn.argV m' c = Cert.KernelIdeal.Attn.argV m c) :
    (Cert.ReferenceIdeal.Value.res_out0 m' c : FVec Ideal Cert.KernelIdeal.S2x256x512 .f32) = Cert.KernelIdeal.Attn.result m c := by
  funext y
  rw [eq_ix3 y]
  refine (Cert.ReferenceIdeal.Attn.res_apply m' c (y 0) (y 1) (y 2)).trans ?_
  rw [h0, h1, h2, h3, h4]
  exact (Cert.KernelIdeal.Attn.result_apply m c (y 0) (y 1) (y 2)).symm

theorem values : Cert.algebraic_KernelIdeal_ReferenceIdeal := fun m ρ m' ρ' _ hargs =>
  ⟨fun c => Cert.KernelIdeal.Attn.result m c,
    (θ_run (Cert.KernelIdeal.defs (F := Ideal)) _ _).mono (fun _ h => h.1) (Cert.KernelIdeal.Attn.run_main (F := Ideal) m ρ),
    (θ_run (Cert.ReferenceIdeal.defs (F := Ideal)) _ _).mono
      (fun _ h c => ⟨(h c).1.trans (results_eq m m' c (hargs c).1 (hargs c).2.1 (hargs c).2.2.1 (hargs c).2.2.2.1 (hargs c).2.2.2.2), (h c).2⟩)
      (Cert.ReferenceIdeal.Value.run m' ρ')⟩

end Cert.AttnClaim

end
-- ==== Proof.Sim.Facts.lean ====
/- The facts the ring's program as it stands states of itself, its launch kit and its windows' points. -/
module

public import proofs.«01_k».proof.Proof.Gen.Written
public import proofs.«01_k».proof.Proof.Gen.Written.Launch
public import proofs.«01_k».proof.Proof.Gen.Written.Skeleton
public import proofs.«01_k».proof.Proof.Gen.Written.Points
public import proofs.«01_k».proof.Proof.Gen.Gathers
public import proofs.«01_k».proof.Proof.Gen.Gathers.Run
public import proofs.«01_k».proof.Proof.Gen.On_first_hop
-- ==== Proof.Hop.Base.lean ====
/-
  The ring's names and the plain facts about them: a device's neighbours on the ring, the age of a slot of the
  gathered arrays (how many hops its shard has made on its way to a device), the slots as sets of indices, and what
  a copy of one slot, or the store of a device's own shard, does to the gathered array.
-/
module

public import proofs.«01_k».proof.Proof.Gen.Ring
public import proofs.«01_k».proof.Proof.Gen.Ring.Skeleton
public import proofs.«01_k».proof.Proof.Gen.Ring.Launch
public import proofs.«01_k».proof.Proof.Gen.Ring.Points
public import Idealize.ShloMosaic.Lib.Pipeline.Launch
public import Idealize.ShloMosaic.Lib.Pipeline.Kit
public import Idealize.ShloMosaic.Lib.Tactic
public import Idealize.ShloMosaic.Lib.PointwiseCore

@[expose] public section

noncomputable section

namespace Cert.Hop

open Cert.Ring Cert.Ring.Gen
open Idealize.ShloMosaic Idealize.ShloMosaic.TcCoe
open Idealize.SL Idealize.SL.Sem

variable {F : FTy → Type} [FloatOps F]

/-! ## The ring of sixteen devices -/

set_option backward.proofsInPublic true in
/-- The device a shard goes to. -/
def nxt (c : Dev nD) : Dev nD := ⟨(c.val + 1) % 16, Nat.mod_lt _ (by decide)⟩
set_option backward.proofsInPublic true in
/-- The device a shard comes from. -/
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

theorem dev1_prv (c : Dev nD) : (⟨k0_dev1 c, k0_dev1_lt c⟩ : Dev nD) = prv c := Fin.ext (k0_dev1_eq c)
theorem dev2_nxt (c : Dev nD) : (⟨k0_dev2 c, k0_dev2_lt c⟩ : Dev nD) = nxt c := Fin.ext (k0_dev2_eq c)
theorem dev3_nxt (c : Dev nD) : (⟨k0_dev3 c, k0_dev3_lt c⟩ : Dev nD) = nxt c := Fin.ext (k0_dev3_eq c)
theorem dev4_nxt (c : Dev nD) : (⟨k0_dev4 c, k0_dev4_lt c⟩ : Dev nD) = nxt c := Fin.ext (k0_dev4_eq c)

/-- Going round the ring, as a permutation of the devices. -/
def around : Dev nD ≃ Dev nD := ⟨nxt, prv, prv_nxt, nxt_prv⟩

theorem trips15 : k0_t1_loop.trips = 15 := by decide +kernel
theorem t_lt (t : Fin k0_t1_loop.trips) : t.val < 15 := lt_of_lt_of_eq t.isLt trips15

/-! ## Ages and slots -/

/-- How many hops the shard of device `j` has made when it reaches device `c`. -/
def age (c : Dev nD) (j : ℕ) : ℕ := (c.val + 16 - j) % 16

theorem age_nxt (c : Dev nD) (j k : ℕ) (hj : j < 16) (hk : k < 15) : age (nxt c) j = k + 1 ↔ age c j = k := by
  have hc : c.val < 16 := c.isLt
  unfold age nxt; dsimp only; omega

theorem age_src (c : Dev nD) (j k : ℕ) (hj : j < 16) (hk : k < 16) : j = (c.val + 32 - k) % 16 ↔ age c j = k := by
  have hc : c.val < 16 := c.isLt
  unfold age; omega

theorem age_own (c : Dev nD) (j : ℕ) (hj : j < 16) : j = c.val ↔ age c j = 0 := by
  have hc : c.val < 16 := c.isLt
  unfold age; omega

theorem age_lt (c : Dev nD) (j : ℕ) : age c j < 16 := Nat.mod_lt _ (by decide)

/-- The slots of the first gathered array: the one of age `k`, those of age at most `k`, and those still to be sent on. -/
def slotQ (c : Dev nD) (k : ℕ) : Finset S16x512x256.Idx := Finset.univ.filter fun i => age c (i 0).val = k
def heldQ (c : Dev nD) (k : ℕ) : Finset S16x512x256.Idx := Finset.univ.filter fun i => age c (i 0).val ≤ k
def restQ (c : Dev nD) (k : ℕ) : Finset S16x512x256.Idx := Finset.univ.filter fun i => k ≤ age c (i 0).val ∧ age c (i 0).val < 15
/-- The same of the second. -/
def slotO (c : Dev nD) (k : ℕ) : Finset S16x256x512.Idx := Finset.univ.filter fun i => age c (i 0).val = k
def heldO (c : Dev nD) (k : ℕ) : Finset S16x256x512.Idx := Finset.univ.filter fun i => age c (i 0).val ≤ k
def restO (c : Dev nD) (k : ℕ) : Finset S16x256x512.Idx := Finset.univ.filter fun i => k ≤ age c (i 0).val ∧ age c (i 0).val < 15

theorem slotQ_nxt (c : Dev nD) {k : ℕ} (hk : k < 15) : slotQ (nxt c) (k + 1) = slotQ c k :=
  Finset.filter_congr fun i _ => age_nxt c _ k (i 0).isLt hk
theorem slotO_nxt (c : Dev nD) {k : ℕ} (hk : k < 15) : slotO (nxt c) (k + 1) = slotO c k :=
  Finset.filter_congr fun i _ => age_nxt c _ k (i 0).isLt hk

theorem heldQ_zero (c : Dev nD) : heldQ c 0 = slotQ c 0 := Finset.filter_congr fun i _ => Nat.le_zero
theorem heldO_zero (c : Dev nD) : heldO c 0 = slotO c 0 := Finset.filter_congr fun i _ => Nat.le_zero
theorem heldQ_all (c : Dev nD) : heldQ c 15 = Finset.univ := Finset.filter_true_of_mem fun i _ => Nat.le_of_lt_succ (age_lt c _)
theorem heldO_all (c : Dev nD) : heldO c 15 = Finset.univ := Finset.filter_true_of_mem fun i _ => Nat.le_of_lt_succ (age_lt c _)

theorem slotQ_sub_held (c : Dev nD) (k : ℕ) : slotQ c k ⊆ heldQ c k := Finset.monotone_filter_right _ fun i _ h => le_of_eq h
theorem slotO_sub_held (c : Dev nD) (k : ℕ) : slotO c k ⊆ heldO c k := Finset.monotone_filter_right _ fun i _ h => le_of_eq h
theorem slotQ_sub_rest (c : Dev nD) {k : ℕ} (hk : k < 15) : slotQ c k ⊆ restQ c k :=
  Finset.monotone_filter_right _ fun i _ h => ⟨le_of_eq h.symm, by rw [h]; exact hk⟩
theorem slotO_sub_rest (c : Dev nD) {k : ℕ} (hk : k < 15) : slotO c k ⊆ restO c k :=
  Finset.monotone_filter_right _ fun i _ h => ⟨le_of_eq h.symm, by rw [h]; exact hk⟩
theorem restQ_next (c : Dev nD) (k : ℕ) : restQ c k \ slotQ c k = restQ c (k + 1) := by
  ext i; simp only [restQ, slotQ, Finset.mem_sdiff, Finset.mem_filter, Finset.mem_univ, true_and]; omega
theorem restO_next (c : Dev nD) (k : ℕ) : restO c k \ slotO c k = restO c (k + 1) := by
  ext i; simp only [restO, slotO, Finset.mem_sdiff, Finset.mem_filter, Finset.mem_univ, true_and]; omega
theorem heldQ_succ (c : Dev nD) (k : ℕ) : heldQ c k ∪ slotQ c (k + 1) = heldQ c (k + 1) := by
  ext i; simp only [heldQ, slotQ, Finset.mem_union, Finset.mem_filter, Finset.mem_univ, true_and]; omega
theorem heldO_succ (c : Dev nD) (k : ℕ) : heldO c k ∪ slotO c (k + 1) = heldO c (k + 1) := by
  ext i; simp only [heldO, slotO, Finset.mem_union, Finset.mem_filter, Finset.mem_univ, true_and]; omega
theorem heldQ_disj (c : Dev nD) (k : ℕ) : Disjoint (heldQ c k) (slotQ c (k + 1)) := by
  rw [Finset.disjoint_left]; intro i; simp only [heldQ, slotQ, Finset.mem_filter, Finset.mem_univ, true_and]; omega
theorem heldO_disj (c : Dev nD) (k : ℕ) : Disjoint (heldO c k) (slotO c (k + 1)) := by
  rw [Finset.disjoint_left]; intro i; simp only [heldO, slotO, Finset.mem_filter, Finset.mem_univ, true_and]; omega
/-- All but a device's own slot are, seen from the device before it, the slots that one is to send on. -/
theorem others_eq_restQ (c : Dev nD) : (Finset.univ : Finset S16x512x256.Idx) \ slotQ c 0 = restQ (prv c) 0 := by
  ext i; simp only [restQ, slotQ, Finset.mem_sdiff, Finset.mem_filter, Finset.mem_univ, true_and]
  have hc : c.val < 16 := c.isLt
  have hi : (i 0).val < 16 := (i 0).isLt
  unfold age prv; dsimp only; omega
theorem others_eq_restO (c : Dev nD) : (Finset.univ : Finset S16x256x512.Idx) \ slotO c 0 = restO (prv c) 0 := by
  ext i; simp only [restO, slotO, Finset.mem_sdiff, Finset.mem_filter, Finset.mem_univ, true_and]
  have hc : c.val < 16 := c.isLt
  have hi : (i 0).val < 16 := (i 0).isLt
  unfold age prv; dsimp only; omega

/-! ## The buffers and the views of a slot -/

abbrev qIn : Memref sig .tc .vmem S512x256 .bf16 := Memref.whole cc0_stg0_0
abbrev oIn : Memref sig .tc .vmem S256x512 .bf16 := Memref.whole cc0_stg1_0
abbrev qM : Memref sig .tc .vmem S16x512x256 .bf16 := Memref.whole cc0_stg2_0
abbrev oM : Memref sig .tc .vmem S16x256x512 .bf16 := Memref.whole cc0_stg3_0

/-- The view of one slot, at a given offset, as a copy takes it. -/
abbrev qSlot (off : Fin 3 → ℕ) (h : ∀ a, off a + S1x512x256.size a ≤ S16x512x256.size a) : Memref sig .tc .vmem S512x256 .bf16 :=
  (qM.slice (Rect.unit (s := S16x512x256) off S1x512x256.size h) (fun _ => rfl)).squeeze S512x256 squeezes_S1x512x256_S512x256
abbrev oSlot (off : Fin 3 → ℕ) (h : ∀ a, off a + S1x256x512.size a ≤ S16x256x512.size a) : Memref sig .tc .vmem S256x512 .bf16 :=
  (oM.slice (Rect.unit (s := S16x256x512) off S1x256x512.size h) (fun _ => rfl)).squeeze S256x512 squeezes_S1x256x512_S256x512

theorem rectQ_set (off : Fin 3 → ℕ) (h) (j : ℕ) (ho : off = ![j, 0, 0]) :
    (Rect.unit (s := S16x512x256) off S1x512x256.size h).set = Finset.univ.filter fun i => (i 0).val = j := by
  subst ho
  ext i
  rw [Rect.mem_set_unit, Finset.mem_filter]
  constructor
  · intro hi
    have h0 := hi 0
    refine ⟨Finset.mem_univ _, ?_⟩
    have h1 : j ≤ (i 0).val := h0.1
    have h2 : (i 0).val < j + 1 := h0.2
    omega
  · rintro ⟨-, hi⟩ a
    fin_cases a
    · exact ⟨le_of_eq hi.symm, by show (i 0).val < j + 1; omega⟩
    · exact ⟨Nat.zero_le _, by show (i 1).val < 0 + 512; rw [Nat.zero_add]; exact (i 1).isLt⟩
    · exact ⟨Nat.zero_le _, by show (i 2).val < 0 + 256; rw [Nat.zero_add]; exact (i 2).isLt⟩

theorem rectO_set (off : Fin 3 → ℕ) (h) (j : ℕ) (ho : off = ![j, 0, 0]) :
    (Rect.unit (s := S16x256x512) off S1x256x512.size h).set = Finset.univ.filter fun i => (i 0).val = j := by
  subst ho
  ext i
  rw [Rect.mem_set_unit, Finset.mem_filter]
  constructor
  · intro hi
    have h0 := hi 0
    refine ⟨Finset.mem_univ _, ?_⟩
    have h1 : j ≤ (i 0).val := h0.1
    have h2 : (i 0).val < j + 1 := h0.2
    omega
  · rintro ⟨-, hi⟩ a
    fin_cases a
    · exact ⟨le_of_eq hi.symm, by show (i 0).val < j + 1; omega⟩
    · exact ⟨Nat.zero_le _, by show (i 1).val < 0 + 256; rw [Nat.zero_add]; exact (i 1).isLt⟩
    · exact ⟨Nat.zero_le _, by show (i 2).val < 0 + 512; rw [Nat.zero_add]; exact (i 2).isLt⟩

theorem accQ_set (c : Dev nD) : (qM.access (Rect.unit (s := S16x512x256) (k0_off1 c) S1x512x256.size (k0_off1_inb c)) : View sig .tc _ _ _).set = slotQ c 0 :=
  (View.set_slice_whole _ _).trans ((rectQ_set _ _ _ (k0_off1_eq c)).trans (Finset.filter_congr fun i _ => age_own c _ (i 0).isLt))
theorem accO_set (c : Dev nD) : (oM.access (Rect.unit (s := S16x256x512) (k0_off2 c) S1x256x512.size (k0_off2_inb c)) : View sig .tc _ _ _).set = slotO c 0 :=
  (View.set_slice_whole _ _).trans ((rectO_set _ _ _ (k0_off2_eq c)).trans (Finset.filter_congr fun i _ => age_own c _ (i 0).isLt))

theorem qSlot_set (c : Dev nD) (t : Fin k0_t1_loop.trips) : (qSlot (k0_off4 c t) (k0_off4_inb c t)).view.set = slotQ c t.val :=
  (View.set_reshape _ _).trans ((View.set_slice_whole _ _).trans ((rectQ_set _ _ _ (k0_off4_eq c t)).trans
    (Finset.filter_congr fun i _ => age_src c _ _ (i 0).isLt (by have := t_lt t; omega))))
theorem oSlot_set (c : Dev nD) (t : Fin k0_t1_loop.trips) : (oSlot (k0_off5 c t) (k0_off5_inb c t)).view.set = slotO c t.val :=
  (View.set_reshape _ _).trans ((View.set_slice_whole _ _).trans ((rectO_set _ _ _ (k0_off5_eq c t)).trans
    (Finset.filter_congr fun i _ => age_src c _ _ (i 0).isLt (by have := t_lt t; omega))))

/-- The credits of the two copies of a hop. -/
def NQ : ℕ := (qSlot ![0, 0, 0] (by decide)).view.dmaCredit
def NO : ℕ := (oSlot ![0, 0, 0] (by decide)).view.dmaCredit
theorem NQ_pos : 0 < NQ := View.dmaCredit_pos _ (by decide)
theorem NO_pos : 0 < NO := View.dmaCredit_pos _ (by decide)
theorem credit_qSlot (off h) : (qSlot off h).view.dmaCredit = NQ := rfl
theorem credit_oSlot (off h) : (oSlot off h).view.dmaCredit = NO := rfl

/-! ## The semaphores of a hop -/

theorem recvQ_sem (t : Fin k0_t1_loop.trips) :
    (((cc0_scratch1 : DmaSems sig S15).slice (Rect.unit (s := S15) (k0_off3 t) S1.size (k0_off3_inb t))).squeeze S_ squeezes_S1_S_).sem
      = (⟨5 + t.val, by have := t_lt t; show _ < 36; omega⟩ : DmaSem sig) := by
  revert t; decide +kernel
theorem recvO_sem (t : Fin k0_t1_loop.trips) :
    (((cc0_scratch3 : DmaSems sig S15).slice (Rect.unit (s := S15) (k0_off3 t) S1.size (k0_off3_inb t))).squeeze S_ squeezes_S1_S_).sem
      = (⟨21 + t.val, by have := t_lt t; show _ < 36; omega⟩ : DmaSem sig) := by
  revert t; decide +kernel

/-! ## The gathered arrays -/

section Contents

variable (m : (ℓ : Loc nD τ sig) → Buf (Elt F) ℓ)

/-- The shards of device `c`. -/
def shardQ (c : Dev nD) : Vec F S512x256 .bf16 := m ((c : Thread nD τ).loc main_arg0)
def shardO (c : Dev nD) : Vec F S256x512 .bf16 := m ((c : Thread nD τ).loc main_arg1)

/-- The gathered arrays: slot `j` is the shard of device `j`. -/
def outQ : Vec F S16x512x256 .bf16 := fun i => shardQ m (i 0) (ix2 (i 1) (i 2))
def outO : Vec F S16x256x512 .bf16 := fun i => shardO m (i 0) (ix2 (i 1) (i 2))

abbrev rQ (c : Dev nD) : Rect S16x512x256 := Rect.unit (s := S16x512x256) (k0_off1 c) S1x512x256.size (k0_off1_inb c)
abbrev rO (c : Dev nD) : Rect S16x256x512 := Rect.unit (s := S16x256x512) (k0_off2 c) S1x256x512.size (k0_off2_inb c)

theorem idxQ (off : Fin 3 → ℕ) (inb : ∀ a, off a + S1x512x256.size a ≤ S16x512x256.size a) (k : ℕ) (h : off = ![k, 0, 0])
    (j : Fin 16) (hj : j.val = k) (a : Fin 512) (b : Fin 256) :
    (Rect.unit (s := S16x512x256) off S1x512x256.size inb).idx (ix3 (0 : Fin 1) a b) = ix3 j a b := by
  subst h
  funext d; apply Fin.ext
  match d with
  | ⟨0, _⟩ => show k + 1 * 0 = j.val; omega
  | ⟨1, _⟩ => show 0 + 1 * a.val = a.val; omega
  | ⟨2, _⟩ => show 0 + 1 * b.val = b.val; omega

theorem idxO (off : Fin 3 → ℕ) (inb : ∀ a, off a + S1x256x512.size a ≤ S16x256x512.size a) (k : ℕ) (h : off = ![k, 0, 0])
    (j : Fin 16) (hj : j.val = k) (a : Fin 256) (b : Fin 512) :
    (Rect.unit (s := S16x256x512) off S1x256x512.size inb).idx (ix3 (0 : Fin 1) a b) = ix3 j a b := by
  subst h
  funext d; apply Fin.ext
  match d with
  | ⟨0, _⟩ => show k + 1 * 0 = j.val; omega
  | ⟨1, _⟩ => show 0 + 1 * a.val = a.val; omega
  | ⟨2, _⟩ => show 0 + 1 * b.val = b.val; omega

theorem pay1_at (w : Vec F S512x256 .bf16) (a : Fin 512) (b : Fin 256) : k0_pay1 w (ix3 (0 : Fin 1) a b) = w (ix2 a b) := by
  pointwise [k0_pay1]
theorem pay2_at (w : Vec F S256x512 .bf16) (a : Fin 256) (b : Fin 512) : k0_pay2 w (ix3 (0 : Fin 1) a b) = w (ix2 a b) := by
  pointwise [k0_pay2]

theorem own_eq (c : Dev nD) (j : Fin 16) (h : age c j.val = 0) : j = c := Fin.ext ((age_own c _ j.isLt).mpr h)

/-- A device's store of its own shard leaves its own slot at the gathered array. -/
theorem store_ownQ (c : Dev nD) (f : Vec F S16x512x256 .bf16) (i : S16x512x256.Idx) (hi : i ∈ slotQ c 0) :
    (qM.access (rQ c) : View sig .tc _ _ _).write (Elt F) f (k0_pay1 (shardQ m c)) Finset.univ i = outQ m i := by
  have h0 : (i 0 : Fin 16) = c := own_eq c (i 0) (Finset.mem_filter.mp hi).2
  have e : (qM.access (rQ c) : View sig .tc _ _ _).emb (ix3 (0 : Fin 1) (i 1) (i 2)) = i := by
    refine (idxQ _ _ _ (k0_off1_eq c) (i 0) (congrArg Fin.val h0) (i 1) (i 2)).trans (eq_ix3 i).symm
  have w := View.write_emb_of_mem (v := (qM.access (rQ c) : View sig .tc _ _ _)) f (k0_pay1 (shardQ m c)) (M := Finset.univ) (Finset.mem_univ (ix3 (0 : Fin 1) (i 1) (i 2)))
  refine ((congrArg ((qM.access (rQ c) : View sig .tc _ _ _).write (Elt F) f (k0_pay1 (shardQ m c)) Finset.univ) e).symm.trans w).trans
    ((pay1_at (shardQ m c) (i 1) (i 2)).trans ?_)
  show shardQ m c _ = shardQ m (i 0) _
  rw [h0]

theorem store_ownO (c : Dev nD) (f : Vec F S16x256x512 .bf16) (i : S16x256x512.Idx) (hi : i ∈ slotO c 0) :
    (oM.access (rO c) : View sig .tc _ _ _).write (Elt F) f (k0_pay2 (shardO m c)) Finset.univ i = outO m i := by
  have h0 : (i 0 : Fin 16) = c := own_eq c (i 0) (Finset.mem_filter.mp hi).2
  have e : (oM.access (rO c) : View sig .tc _ _ _).emb (ix3 (0 : Fin 1) (i 1) (i 2)) = i := by
    refine (idxO _ _ _ (k0_off2_eq c) (i 0) (congrArg Fin.val h0) (i 1) (i 2)).trans (eq_ix3 i).symm
  have w := View.write_emb_of_mem (v := (oM.access (rO c) : View sig .tc _ _ _)) f (k0_pay2 (shardO m c)) (M := Finset.univ) (Finset.mem_univ (ix3 (0 : Fin 1) (i 1) (i 2)))
  refine ((congrArg ((oM.access (rO c) : View sig .tc _ _ _).write (Elt F) f (k0_pay2 (shardO m c)) Finset.univ) e).symm.trans w).trans
    ((pay2_at (shardO m c) (i 1) (i 2)).trans ?_)
  show shardO m c _ = shardO m (i 0) _
  rw [h0]

/-- A copy of a slot of the gathered array lands as that slot of the gathered array. -/
theorem landQ (c : Dev nD) (t : Fin k0_t1_loop.trips) (f : Vec F S16x512x256 .bf16) (i : S16x512x256.Idx) (hi : i ∈ slotQ c t.val) :
    (qSlot (k0_off4 c t) (k0_off4_inb c t)).view.write (Elt F) f ((qSlot (k0_off4 c t) (k0_off4_inb c t)).view.read (Elt F) (outQ m)) Finset.univ i = outQ m i := by
  have w := congrFun (View.write_read_eq_piecewise (v := (qSlot (k0_off4 c t) (k0_off4_inb c t)).view) (Val := Elt F) f (outQ m) Finset.univ) i
  refine w.trans (Finset.piecewise_eq_of_mem _ _ _ ?_)
  rw [← qSlot_set c t] at hi; exact hi

theorem landO (c : Dev nD) (t : Fin k0_t1_loop.trips) (f : Vec F S16x256x512 .bf16) (i : S16x256x512.Idx) (hi : i ∈ slotO c t.val) :
    (oSlot (k0_off5 c t) (k0_off5_inb c t)).view.write (Elt F) f ((oSlot (k0_off5 c t) (k0_off5_inb c t)).view.read (Elt F) (outO m)) Finset.univ i = outO m i := by
  have w := congrFun (View.write_read_eq_piecewise (v := (oSlot (k0_off5 c t) (k0_off5_inb c t)).view) (Val := Elt F) f (outO m) Finset.univ) i
  refine w.trans (Finset.piecewise_eq_of_mem _ _ _ ?_)
  rw [← oSlot_set c t] at hi; exact hi

end Contents

end Cert.Hop

end
-- ==== Proof.Hop.Sched.lean ====
/-
  The protocol of the ring, hop by hop: which semaphore is raised in which round, what each raise hands over, what each
  device owes at the start, and in which order the waits may stand.
-/
module

public import proofs.«01_k».proof.Proof.Hop.Base

@[expose] public section

noncomputable section

namespace Cert.Hop

open Cert.Ring Cert.Ring.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The staging pipeline's rounds (one duty each) beside the ring's (two duties at a barrier, one at a copy's end). -/
abbrev UH : Type := URounds (GSem nD τ sig) Bool
abbrev UU : Type := UR sig nD τ × UH

local notation "𝕄" => MT nD τ sig Unit (Elt F) ℕ UU ℕ

abbrev EP : Emb (UR sig nD τ) (MT nD τ sig Unit (Elt F) ℕ UU ℕ) := embL
abbrev EH : Emb UH (MT nD τ sig Unit (Elt F) ℕ UU ℕ) := embR

variable (m : (ℓ : Loc nD τ sig) → Buf (Elt F) ℓ)

/-! ## The cells -/

abbrev barS : Sem sig := (SemArray.scalar (sig.barrier 0 rfl) : Sems sig S_).sem
/-- The two send semaphores, and the receive semaphores of hop `h`. -/
abbrev qS : DmaSem sig := (cc0_scratch0 : DmaSems sig S_).sem
abbrev oS : DmaSem sig := (cc0_scratch2 : DmaSems sig S_).sem
def qR (h : Fin 15) : DmaSem sig := ⟨5 + h.val, by have := h.isLt; show _ < 36; omega⟩
def oR (h : Fin 15) : DmaSem sig := ⟨21 + h.val, by have := h.isLt; show _ < 36; omega⟩

abbrev barC (c : Dev nD) : GSem nD τ sig := ((c : Thread nD τ), .reg barS)
abbrev qSC (c : Dev nD) : GSem nD τ sig := ((c : Thread nD τ), .dma qS)
abbrev oSC (c : Dev nD) : GSem nD τ sig := ((c : Thread nD τ), .dma oS)
abbrev qRC (c : Dev nD) (h : Fin 15) : GSem nD τ sig := ((c : Thread nD τ), .dma (qR h))
abbrev oRC (c : Dev nD) (h : Fin 15) : GSem nD τ sig := ((c : Thread nD τ), .dma (oR h))

theorem qS_val : (qS : Fin 36).val = 4 := by decide
theorem oS_val : (oS : Fin 36).val = 20 := by decide
theorem qR_val (h : Fin 15) : (qR h : Fin 36).val = 5 + h.val := rfl
theorem oR_val (h : Fin 15) : (oR h : Fin 36).val = 21 + h.val := rfl

/-! ## What is handed over -/

/-- The elements `S` of device `c`'s first gathered array, at contents `f`; of the second. -/
def ptsQ (c : Dev nD) (S : Finset S16x512x256.Idx) (f : Vec F S16x512x256 .bf16) : sProp 𝕄 :=
  ((c : Thread nD τ).loc cc0_stg2_0) ↦[S]{fullShare} f
def ptsO (c : Dev nD) (S : Finset S16x256x512.Idx) (f : Vec F S16x256x512 .bf16) : sProp 𝕄 :=
  ((c : Thread nD τ).loc cc0_stg3_0) ↦[S]{fullShare} f

omit [FloatOps F] in
instance ptsQ_storable (c : Dev nD) (S f) : BI.Storable (upEmb : UEmb _ 𝕄) (ptsQ (F := F) c S f) := by unfold ptsQ; infer_instance
omit [FloatOps F] in
instance ptsO_storable (c : Dev nD) (S f) : BI.Storable (upEmb : UEmb _ 𝕄) (ptsO (F := F) c S f) := by unfold ptsO; infer_instance

/-- What the next device's signal hands over: its two gathered arrays but for its own slots. -/
def barPay (c : Dev nD) : sProp 𝕄 := iprop((∃ f, ptsQ (F := F) (nxt c) (restQ c 0) f) ∗ (∃ f, ptsO (F := F) (nxt c) (restO c 0) f))

/-- What a copy's end hands over: at a send semaphore, in round `r`, the slot that was sent; at a receive semaphore the slot
    that has come in. -/
def dmaPay (c : Dev nD) (q r : ℕ) : sProp 𝕄 :=
  if q = 4 then ptsQ c (slotQ c r) (outQ m)
  else if q < 20 then ptsQ c (slotQ c (q - 5 + 1)) (outQ m)
  else if q = 20 then ptsO c (slotO c r) (outO m)
  else ptsO c (slotO c (q - 21 + 1)) (outO m)

def dmaDuties (q r : ℕ) : Finset Bool :=
  if q = 4 ∨ q = 20 then (if r < 15 then {false} else ∅) else if 4 < q ∧ r = 0 then {false} else ∅

/-- The rounds of the ring's cells. -/
def rd : Rounds.Schedule (GSem nD τ sig) Bool 𝕄 where
  duties g r := if g.1.2 = .tc then
      match g.2 with
      | .reg _ => if r = 0 then Finset.univ else ∅
      | .dma q => dmaDuties q.val r
    else ∅
  unitless _ := False
  amount g _ _ := match g.2 with
    | .reg _ => 1
    | .dma q => if q.val < 20 then NQ else NO
  payload g r d := match g.2 with
    | .reg _ => if d then barPay g.1.1 else iprop(emp)
    | .dma q => dmaPay m g.1.1 q.val r
  amount_pos g _ _ _ := by
    rcases g.2 with s | q
    · exact Nat.one_pos
    · dsimp only; split
      · exact NQ_pos
      · exact NO_pos

instance rd_storable (g : GSem nD τ sig) (r : ℕ) (d : Bool) : BI.Storable (upEmb : UEmb _ 𝕄) ((rd (F := F) m).payload g r d) := by
  obtain ⟨t, sm⟩ := g
  rcases sm with s | q
  · show BI.Storable upEmb (if d then barPay (F := F) t.1 else iprop(emp))
    unfold barPay; split <;> infer_instance
  · show BI.Storable upEmb (dmaPay m t.1 q.val r)
    unfold dmaPay
    (repeat' split) <;> infer_instance

section Facts
variable (c : Dev nD)

omit [FloatOps F] in
theorem duties_bar : (rd (F := F) m).duties (barC c) 0 = Finset.univ := rfl
omit [FloatOps F] in
theorem duties_bar_later : ∀ r, 1 ≤ r → (rd (F := F) m).duties (barC c) r = ∅ := fun r hr => by
  show (if r = 0 then Finset.univ else ∅) = ∅
  rw [if_neg (by omega)]
omit [FloatOps F] in
theorem duties_qS {r : ℕ} (hr : r < 15) : (rd (F := F) m).duties (qSC c) r = {false} := by
  show dmaDuties (qS : Fin 36).val r = _
  unfold dmaDuties; rw [if_pos (Or.inl qS_val), if_pos hr]
omit [FloatOps F] in
theorem duties_oS {r : ℕ} (hr : r < 15) : (rd (F := F) m).duties (oSC c) r = {false} := by
  show dmaDuties (oS : Fin 36).val r = _
  unfold dmaDuties; rw [if_pos (Or.inr oS_val), if_pos hr]
omit [FloatOps F] in
theorem duties_qS_later : ∀ r, 15 ≤ r → (rd (F := F) m).duties (qSC c) r = ∅ := fun r hr => by
  show dmaDuties (qS : Fin 36).val r = _
  unfold dmaDuties; rw [if_pos (Or.inl qS_val), if_neg (by omega)]
omit [FloatOps F] in
theorem duties_oS_later : ∀ r, 15 ≤ r → (rd (F := F) m).duties (oSC c) r = ∅ := fun r hr => by
  show dmaDuties (oS : Fin 36).val r = _
  unfold dmaDuties; rw [if_pos (Or.inr oS_val), if_neg (by omega)]
omit [FloatOps F] in
theorem duties_qR (h : Fin 15) : (rd (F := F) m).duties (qRC c h) 0 = {false} := by
  show dmaDuties (5 + h.val) 0 = _
  have := h.isLt
  unfold dmaDuties; rw [if_neg (by omega), if_pos ⟨by omega, rfl⟩]
omit [FloatOps F] in
theorem duties_oR (h : Fin 15) : (rd (F := F) m).duties (oRC c h) 0 = {false} := by
  show dmaDuties (21 + h.val) 0 = _
  unfold dmaDuties; rw [if_neg (by omega), if_pos ⟨by omega, rfl⟩]
omit [FloatOps F] in
theorem duties_qR_later (h : Fin 15) : ∀ r, 1 ≤ r → (rd (F := F) m).duties (qRC c h) r = ∅ := fun r hr => by
  show dmaDuties (5 + h.val) r = _
  have := h.isLt
  unfold dmaDuties; rw [if_neg (by omega), if_neg (by omega)]
omit [FloatOps F] in
theorem duties_oR_later (h : Fin 15) : ∀ r, 1 ≤ r → (rd (F := F) m).duties (oRC c h) r = ∅ := fun r hr => by
  show dmaDuties (21 + h.val) r = _
  unfold dmaDuties; rw [if_neg (by omega), if_neg (by omega)]

omit [FloatOps F] in
theorem amount_bar (d : Bool) : (rd (F := F) m).amount (barC c) 0 d = 1 := rfl
omit [FloatOps F] in
theorem amount_qS (r : ℕ) (d : Bool) : (rd (F := F) m).amount (qSC c) r d = NQ := by
  show (if (qS : Fin 36).val < 20 then NQ else NO) = NQ
  rw [if_pos (by rw [qS_val]; decide)]
omit [FloatOps F] in
theorem amount_oS (r : ℕ) (d : Bool) : (rd (F := F) m).amount (oSC c) r d = NO := by
  show (if (oS : Fin 36).val < 20 then NQ else NO) = NO
  rw [if_neg (by rw [oS_val]; decide)]
omit [FloatOps F] in
theorem amount_qR (h : Fin 15) (r : ℕ) (d : Bool) : (rd (F := F) m).amount (qRC c h) r d = NQ := by
  have := h.isLt
  exact if_pos (by rw [qR_val]; omega)
omit [FloatOps F] in
theorem amount_oR (h : Fin 15) (r : ℕ) (d : Bool) : (rd (F := F) m).amount (oRC c h) r d = NO := if_neg (by rw [oR_val]; omega)

omit [FloatOps F] in
theorem payload_bar_true : (rd (F := F) m).payload (barC c) 0 true = barPay c := rfl
omit [FloatOps F] in
theorem payload_bar_false : (rd (F := F) m).payload (barC c) 0 false = iprop(emp) := rfl
omit [FloatOps F] in
theorem payload_qS (r : ℕ) (d : Bool) : (rd (F := F) m).payload (qSC c) r d = ptsQ c (slotQ c r) (outQ m) := by
  show dmaPay m c (qS : Fin 36).val r = _
  unfold dmaPay; rw [if_pos qS_val]
omit [FloatOps F] in
theorem payload_oS (r : ℕ) (d : Bool) : (rd (F := F) m).payload (oSC c) r d = ptsO c (slotO c r) (outO m) := by
  show dmaPay m c (oS : Fin 36).val r = _
  unfold dmaPay; rw [if_neg (by rw [oS_val]; decide), if_neg (by rw [oS_val]; decide), if_pos oS_val]
omit [FloatOps F] in
theorem payload_qR (h : Fin 15) (r : ℕ) (d : Bool) : (rd (F := F) m).payload (qRC c h) r d = ptsQ c (slotQ c (h.val + 1)) (outQ m) := by
  show dmaPay m c (5 + h.val) r = _
  have := h.isLt
  unfold dmaPay; rw [if_neg (by omega), if_pos (by omega), show 5 + h.val - 5 + 1 = h.val + 1 by omega]
omit [FloatOps F] in
theorem payload_oR (h : Fin 15) (r : ℕ) (d : Bool) : (rd (F := F) m).payload (oRC c h) r d = ptsO c (slotO c (h.val + 1)) (outO m) := by
  show dmaPay m c (21 + h.val) r = _
  unfold dmaPay; rw [if_neg (by omega), if_neg (by omega), if_neg (by omega), show 21 + h.val - 21 + 1 = h.val + 1 by omega]

omit [FloatOps F] in
theorem expect_bar : (rd (F := F) m).expect (barC c) 0 = 2 := rfl
omit [FloatOps F] in
theorem expect_qS {r : ℕ} (hr : r < 15) : (rd (F := F) m).expect (qSC c) r = NQ := by
  unfold Schedule.expect Schedule.amountOf; rw [duties_qS m c hr, Finset.sum_singleton, amount_qS]
omit [FloatOps F] in
theorem expect_oS {r : ℕ} (hr : r < 15) : (rd (F := F) m).expect (oSC c) r = NO := by
  unfold Schedule.expect Schedule.amountOf; rw [duties_oS m c hr, Finset.sum_singleton, amount_oS]
omit [FloatOps F] in
theorem expect_qR (h : Fin 15) : (rd (F := F) m).expect (qRC c h) 0 = NQ := by
  unfold Schedule.expect Schedule.amountOf; rw [duties_qR, Finset.sum_singleton, amount_qR]
omit [FloatOps F] in
theorem expect_oR (h : Fin 15) : (rd (F := F) m).expect (oRC c h) 0 = NO := by
  unfold Schedule.expect Schedule.amountOf; rw [duties_oR, Finset.sum_singleton, amount_oR]

omit [FloatOps F] in
theorem pay_bar : bigSep ((rd (F := F) m).duties (barC c) 0 \ ∅) (fun d => (rd (F := F) m).payload (barC c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
omit [FloatOps F] in
theorem pay_qS {r : ℕ} (hr : r < 15) : bigSep ((rd (F := F) m).duties (qSC c) r \ ∅) (fun d => (rd (F := F) m).payload (qSC c) r d) = ptsQ c (slotQ c r) (outQ m) := by
  rw [Finset.sdiff_empty, duties_qS m c hr, bigSep_singleton, payload_qS]
omit [FloatOps F] in
theorem pay_oS {r : ℕ} (hr : r < 15) : bigSep ((rd (F := F) m).duties (oSC c) r \ ∅) (fun d => (rd (F := F) m).payload (oSC c) r d) = ptsO c (slotO c r) (outO m) := by
  rw [Finset.sdiff_empty, duties_oS m c hr, bigSep_singleton, payload_oS]
omit [FloatOps F] in
theorem pay_qR (h : Fin 15) : bigSep ((rd (F := F) m).duties (qRC c h) 0 \ ∅) (fun d => (rd (F := F) m).payload (qRC c h) 0 d) = ptsQ c (slotQ c (h.val + 1)) (outQ m) := by
  rw [Finset.sdiff_empty, duties_qR, bigSep_singleton, payload_qR]
omit [FloatOps F] in
theorem pay_oR (h : Fin 15) : bigSep ((rd (F := F) m).duties (oRC c h) 0 \ ∅) (fun d => (rd (F := F) m).payload (oRC c h) 0 d) = ptsO c (slotO c (h.val + 1)) (outO m) := by
  rw [Finset.sdiff_empty, duties_oR, bigSep_singleton, payload_oR]

end Facts

/-! ## The hops still to come, and what is owed -/

def later (k : ℕ) : Finset (Fin 15) := Finset.univ.filter fun h => k ≤ h.val
def earlier (k : ℕ) : Finset (Fin 15) := Finset.univ.filter fun h => h.val < k

theorem later_zero : later 0 = Finset.univ := Finset.filter_true_of_mem fun h _ => Nat.zero_le _
theorem earlier_zero : earlier 0 = ∅ := Finset.filter_false_of_mem fun h _ => Nat.not_lt_zero _
theorem earlier_all : earlier 15 = Finset.univ := Finset.filter_true_of_mem fun h _ => h.isLt
theorem later_all : later 15 = ∅ := Finset.filter_false_of_mem fun h _ => Nat.not_le_of_lt h.isLt
theorem not_mem_later (h : Fin 15) : h ∉ later (h.val + 1) := fun hm => Nat.not_succ_le_self _ (Finset.mem_filter.mp hm).2
theorem not_mem_earlier (h : Fin 15) : h ∉ earlier h.val := fun hm => Nat.lt_irrefl _ (Finset.mem_filter.mp hm).2
theorem later_insert (h : Fin 15) : later h.val = insert h (later (h.val + 1)) := by
  ext x; simp only [later, Finset.mem_filter, Finset.mem_insert, Finset.mem_univ, true_and, Fin.ext_iff]; omega
theorem earlier_insert (h : Fin 15) : earlier (h.val + 1) = insert h (earlier h.val) := by
  ext x; simp only [earlier, Finset.mem_filter, Finset.mem_insert, Finset.mem_univ, true_and, Fin.ext_iff]; omega

/-- What a device owes from hop `k` on: of every hop the credits of the two copies into the next device. -/
def owed (c : Dev nD) (k : ℕ) : CellTallies nD τ sig Unit :=
  ∑ h ∈ later k, (tallyAt (oRC (nxt c) h) () NO + tallyAt (qRC (nxt c) h) () NQ)
/-- What it owes besides before its second signal, and before its first. -/
def owed₁ (c : Dev nD) : CellTallies nD τ sig Unit := owed c 0 + tallyAt (barC (nxt c)) () 1
def owed₀ (c : Dev nD) : CellTallies nD τ sig Unit := owed₁ c + tallyAt (barC (prv c)) () 1

theorem owed_step (c : Dev nD) (h : Fin 15) :
    owed c h.val = (owed c (h.val + 1) + tallyAt (oRC (nxt c) h) () NO) + tallyAt (qRC (nxt c) h) () NQ := by
  unfold owed
  rw [later_insert, Finset.sum_insert (not_mem_later h), add_comm, add_assoc]

theorem owed_done (c : Dev nD) : owed c 15 = 0 := by unfold owed; rw [later_all, Finset.sum_empty]

def L (g : GSem nD τ sig) : Finset Unit := if g.1.2 = .tc then {()} else ∅
/-- The order of the waits: a barrier before every hop, a hop before the later hops; sends and staging copies first. -/
def lv (g : GSem nD τ sig) (_ : Unit) : ℕ := match g.2 with
  | .reg _ => 1
  | .dma q => if q.val < 5 then 0 else if q.val < 20 then 2 + (q.val - 5) else if q.val < 21 then 0 else 2 + (q.val - 21)

theorem L_of_ne (g : GSem nD τ sig) (h : g.1.2 ≠ .tc) : L g = ∅ := if_neg h
theorem L_tc (c : Dev nD) (sm : SemLoc sig) : L ((c : Thread nD τ), sm) = {()} := if_pos rfl

theorem lv_qR (c : Dev nD) (h : Fin 15) : lv (qRC c h) () = 2 + h.val := by
  have := h.isLt
  show (if 5 + h.val < 5 then 0 else if 5 + h.val < 20 then 2 + (5 + h.val - 5) else if 5 + h.val < 21 then 0 else 2 + (5 + h.val - 21)) = _
  rw [if_neg (by omega), if_pos (by omega)]; omega
theorem lv_oR (c : Dev nD) (h : Fin 15) : lv (oRC c h) () = 2 + h.val := by
  show (if 21 + h.val < 5 then 0 else if 21 + h.val < 20 then 2 + (21 + h.val - 5) else if 21 + h.val < 21 then 0 else 2 + (21 + h.val - 21)) = _
  rw [if_neg (by omega), if_neg (by omega), if_neg (by omega)]; omega
theorem lv_bar (c : Dev nD) : lv (barC c) () = 1 := rfl
theorem lv_qS (c : Dev nD) : lv (qSC c) () = 0 := by
  dsimp only [lv]
  rw [if_pos (show (qS : Fin 36).val < 5 by rw [qS_val]; decide)]
theorem lv_oS (c : Dev nD) : lv (oSC c) () = 0 := by
  dsimp only [lv]
  rw [if_neg (show ¬ (oS : Fin 36).val < 5 by rw [oS_val]; decide), if_neg (show ¬ (oS : Fin 36).val < 20 by rw [oS_val]; decide),
    if_pos (show (oS : Fin 36).val < 21 by rw [oS_val]; decide)]

theorem tallyAt_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem owed_pos {c : Dev nD} {k : ℕ} {g : GSem nD τ sig} {u : Unit} (h : 0 < owed c k g u) :
    ∃ x : Fin 15, k ≤ x.val ∧ (g = oRC (nxt c) x ∨ g = qRC (nxt c) x) := by
  unfold owed at h
  rw [Finset.sum_apply, Finsupp.finset_sum_apply] at h
  obtain ⟨x, hx, hp⟩ := Finset.exists_ne_zero_of_sum_ne_zero (Nat.pos_iff_ne_zero.mp h)
  refine ⟨x, (Finset.mem_filter.mp hx).2, ?_⟩
  rw [Pi.add_apply, Finsupp.add_apply] at hp
  by_cases h1 : (tallyAt (oRC (nxt c) x) () NO : CellTallies nD τ sig Unit) g u = 0
  · exact Or.inr (tallyAt_pos (Nat.pos_of_ne_zero fun h2 => hp (by rw [h1, h2]; rfl)))
  · exact Or.inl (tallyAt_pos (Nat.pos_of_ne_zero h1))

theorem owed₀_pos {c : Dev nD} {g : GSem nD τ sig} {u : Unit} (h : 0 < owed₀ c g u) :
    (∃ x : Fin 15, g = oRC (nxt c) x ∨ g = qRC (nxt c) x) ∨ g = barC (nxt c) ∨ g = barC (prv c) := by
  unfold owed₀ owed₁ at h
  rw [Pi.add_apply, Finsupp.add_apply, Pi.add_apply, Finsupp.add_apply] at h
  rcases Nat.eq_zero_or_pos (owed c 0 g u) with h1 | h1
  · rcases Nat.eq_zero_or_pos ((tallyAt (barC (nxt c)) () 1 : CellTallies nD τ sig Unit) g u) with h2 | h2
    · exact Or.inr (Or.inr (tallyAt_pos (by rw [h1, h2] at h; exact Nat.lt_of_lt_of_eq h (Nat.zero_add _))))
    · exact Or.inr (Or.inl (tallyAt_pos h2))
  · obtain ⟨x, -, hx⟩ := owed_pos h1
    exact Or.inl ⟨x, hx⟩

omit [FloatOps F] in
/-- A wait below everything owed is admitted. -/
theorem mayWait_of (c : Dev nD) (sm : SemLoc sig) (O : CellTallies nD τ sig Unit) (b : ℕ) (hb : lv ((c : Thread nD τ), sm) () ≤ b)
    (hO : ∀ (g : GSem nD τ sig) (u : Unit), 0 < O g u → g.1.2 = .tc ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

omit [FloatOps F] in
/-- In hop `k` everything still owed is of later hops. -/
theorem mayWait_hop (c : Dev nD) (sm : SemLoc sig) (k : ℕ) (hb : lv ((c : Thread nD τ), sm) () ≤ 2 + k) :
    (levAts L lv : sProp 𝕄) ⊢ MayWait (c : Thread nD τ) sm () (owed c (k + 1)) :=
  mayWait_of c sm _ (2 + k) hb fun g u hg => by
    obtain ⟨x, hx, rfl | rfl⟩ := owed_pos hg
    · refine ⟨rfl, ?_⟩; cases u; rw [lv_oR]; omega
    · refine ⟨rfl, ?_⟩; cases u; rw [lv_qR]; omega

omit [FloatOps F] in
theorem mayWait_bar (c : Dev nD) : (levAts L lv : sProp 𝕄) ⊢ MayWait (c : Thread nD τ) (.reg barS) () (owed c 0) :=
  mayWait_of c _ _ 1 (le_of_eq (lv_bar c)) fun g u hg => by
    obtain ⟨x, hx, rfl | rfl⟩ := owed_pos hg
    · refine ⟨rfl, ?_⟩; cases u; rw [lv_oR]; omega
    · refine ⟨rfl, ?_⟩; cases u; rw [lv_qR]; omega

omit [FloatOps F] in
/-- The staging copies wait below everything. -/
theorem mayWait_stage (c : Dev nD) (q : DmaSem sig) (hq : lv ((c : Thread nD τ), .dma q) () = 0) (O : CellTallies nD τ sig Unit) (hO : O = owed₀ c ∨ O = 0) :
    (levAts L lv : sProp 𝕄) ⊢ MayWait (c : Thread nD τ) (.dma q) () O := by
  rcases hO with rfl | rfl
  · refine mayWait_of c _ _ 0 (le_of_eq hq) fun g u hg => ?_
    cases u
    rcases owed₀_pos hg with ⟨x, rfl | rfl⟩ | rfl | rfl
    · exact ⟨rfl, by rw [lv_oR]; omega⟩
    · exact ⟨rfl, by rw [lv_qR]; omega⟩
    · exact ⟨rfl, by rw [lv_bar]; decide⟩
    · exact ⟨rfl, by rw [lv_bar]; decide⟩
  · rw [MayWait_zero]; iintro -; iempintro

end Cert.Hop

end
-- ==== Proof.Hop.Step.lean ====
/-
  One hop of the ring: both copies started, their four waits, and what a device holds from one hop to the next.
-/
module

public import proofs.«01_k».proof.Proof.Hop.Sched

@[expose] public section

noncomputable section

namespace Cert.Hop

open Cert.Ring Cert.Ring.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The kernel's own scoped semaphores: of each of the two gathered arrays the send semaphore and the fifteen receive ones. -/
abbrev KI : Type := Bool × (Unit ⊕ Fin 15)
abbrev osem : KI → SemLoc sig := fun
  | (false, .inl _) => .dma qS
  | (false, .inr h) => .dma (qR h)
  | (true, .inl _) => .dma oS
  | (true, .inr h) => .dma (oR h)
/-- Those and the barrier semaphore. -/
abbrev CI : Type := Unit ⊕ KI
abbrev csem : CI → SemLoc sig := fun
  | .inl _ => .reg barS
  | .inr k => osem k
abbrev kcell (ck : Dev nD × CI) : GSem nD τ sig := ((ck.1 : Thread nD τ), csem ck.2)

abbrev iBar : CI := .inl ()
abbrev iQS : CI := .inr (false, .inl ())
abbrev iOS : CI := .inr (true, .inl ())
abbrev iQR (h : Fin 15) : CI := .inr (false, .inr h)
abbrev iOR (h : Fin 15) : CI := .inr (true, .inr h)

/-- Every cell's invariant, and that every cell has reached round 0. -/
def records (K : Dev nD × CI → ℕ) : sProp 𝕄 :=
  iprop((bigSep Finset.univ fun ck : Dev nD × CI => cellInv EH (rd m) (K ck) (kcell ck))
    ∗ bigSep Finset.univ fun ck : Dev nD × CI => reached EH (kcell ck) 0)

instance records_persistent (K : Dev nD × CI → ℕ) : BI.Persistent (records m K) := by unfold records; infer_instance

omit [FloatOps F] in
theorem inv_at (K : Dev nD × CI → ℕ) (x : Dev nD × CI) :
    (bigSep Finset.univ fun ck : Dev nD × CI => (cellInv EH (rd m) (K ck) (kcell ck) : sProp 𝕄)) ⊢ cellInv EH (rd m) (K x) (kcell x) :=
  bigSep_elim (Finset.mem_univ x)
omit [FloatOps F] in
theorem reached_at (x : Dev nD × CI) :
    (bigSep Finset.univ fun ck : Dev nD × CI => (reached EH (kcell ck) 0 : sProp 𝕄)) ⊢ reached EH (kcell x) 0 :=
  bigSep_elim (Finset.mem_univ x)
omit [FloatOps F] in
theorem inv_of (K : Dev nD × CI → ℕ) (c : Dev nD) (k : CI) : records m K ⊢ cellInv EH (rd m) (K (c, k)) (kcell (c, k)) := by
  unfold records
  iintro ⟨H, -⟩
  iapply (inv_at m K (c, k)); iexact H
omit [FloatOps F] in
theorem reached_of (K : Dev nD × CI → ℕ) (c : Dev nD) (k : CI) : records m K ⊢ reached EH (kcell (c, k)) 0 := by
  unfold records
  iintro ⟨-, H⟩
  iapply (reached_at (F := F) (c, k)); iexact H

/-- What hop `h` needs: the right to pay its four copy ends, the positions at its receive semaphores, and their credits. -/
def item (c : Dev nD) (h : Fin 15) : sProp 𝕄 :=
  iprop(dutyTok EH (qSC c) h.val false ∗ dutyTok EH (oSC c) h.val false
    ∗ dutyTok EH (qRC (nxt c) h) 0 false ∗ dutyTok EH (oRC (nxt c) h) 0 false
    ∗ atPos EH (qRC c h) 0 ∅ 0 ∗ atPos EH (oRC c h) 0 ∅ 0
    ∗ cred (tallyAt (qRC c h) () NQ) ∗ cred (tallyAt (oRC c h) () NO))

/-- What hop `h` leaves: its receive semaphores at zero. -/
def left (c : Dev nD) (h : Fin 15) : sProp 𝕄 := iprop(semVal (qRC c h) 0 ∗ semVal (oRC c h) 0)

/-- What a device holds before hop `k`. -/
def inv (K : Dev nD × CI → ℕ) (c : Dev nD) (k : ℕ) (_ : Unit) : sProp 𝕄 :=
  iprop(records m K ∗ levAts L lv
    ∗ ptsQ c (heldQ c k) (outQ m) ∗ ptsO c (heldO c k) (outO m)
    ∗ (∃ f, ptsQ (F := F) (nxt c) (restQ c k) f) ∗ (∃ f, ptsO (F := F) (nxt c) (restO c k) f)
    ∗ (∃ W, owes (c : Thread nD τ) (owed c k) W)
    ∗ atPos EH (qSC c) k ∅ 0 ∗ reached EH (qSC c) k ∗ atPos EH (oSC c) k ∅ 0 ∗ reached EH (oSC c) k
    ∗ bigSep (later k) (item (F := F) c) ∗ bigSep (earlier k) (left (F := F) c))

/-! ## The copies and the waits of a hop -/

set_option maxHeartbeats 400000 in
/-- The copy of hop `t` of the first array into the next device. -/
theorem wp_copyQ (K : Dev nD × CI → ℕ) (c n : Dev nD) (hn : n = nxt c) (t : Fin k0_t1_loop.trips) (h : Fin 15) (ht : h.val = t.val) (sv : DmaSem sig) (hsv : sv = qR h)
    {hsc : (qSlot (k0_off4 c t) (k0_off4_inb c t) : Memref sig (Dev.tc n : Thread nD τ).2.kind .vmem S512x256 .bf16).view.ref.isScScratch = false}
    {hsrc hdst : (qSlot (k0_off4 c t) (k0_off4_inb c t)).view.WordExact}
    {hsem : DmaTarget.Typed .vmem (.dma sv) (.remote (Dev.tc n : Thread nD τ) (qSlot (k0_off4 c t) (k0_off4_inb c t)) (.dma qS) hsc)}
    {α : Type} {Q : α → sProp 𝕄} {k : PUnit → Prog (TpuEff nD τ sig (Elt F) Λ₀ .tc) α}
    (f : Vec F S16x512x256 .bf16) (O : CellTallies nD τ sig Unit) (W : Waits sig Unit) :
    iprop(cellInv EH (rd m) (K (c, iQS)) (qSC c) ∗ cellInv EH (rd m) (K (nxt c, iQR h)) (qRC (nxt c) h)
        ∗ ptsQ c (slotQ c h.val) (outQ m) ∗ ptsQ (nxt c) (slotQ c h.val) f
        ∗ owes (c : Thread nD τ) (O + tallyAt (qRC (nxt c) h) () NQ) W
        ∗ dutyTok EH (qSC c) h.val false ∗ reached EH (qSC c) h.val
        ∗ dutyTok EH (qRC (nxt c) h) 0 false ∗ reached EH (qRC (nxt c) h) 0)
      ⊢ iprop(((cred (tallyAt (qSC c) () NQ) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (qSlot (k0_off4 c t) (k0_off4_inb c t)) (.remote (Dev.tc n : Thread nD τ) (qSlot (k0_off4 c t) (k0_off4_inb c t)) (.dma qS) hsc) (.dma sv) hsrc hdst hsem) k) Q) := by
  subst hn hsv
  have hs : slotQ c h.val = (qSlot (k0_off4 c t) (k0_off4_inb c t)).view.set := (congrArg (slotQ c) ht).trans (qSlot_set c t).symm
  have h15 : h.val < 15 := h.isLt
  unfold ptsQ
  rw [hs]
  have hp₁ : (((qSlot (k0_off4 c t) (k0_off4_inb c t)).view.loc (c : Thread nD τ)) ↦[(qSlot (k0_off4 c t) (k0_off4_inb c t)).view.set]{fullShare} (outQ m) : sProp 𝕄) ⊢ (rd m).payload (qSC c) h.val false := by
    rw [payload_qS]; unfold ptsQ; rw [hs]
  have hp₂ : (((qSlot (k0_off4 c t) (k0_off4_inb c t)).view.loc (nxt c : Thread nD τ)) ↦[(qSlot (k0_off4 c t) (k0_off4_inb c t)).view.set]{fullShare} ((qSlot (k0_off4 c t) (k0_off4_inb c t)).view.write (Elt F) f ((qSlot (k0_off4 c t) (k0_off4_inb c t)).view.read (Elt F) (outQ m)) Finset.univ) : sProp 𝕄)
      ⊢ (rd m).payload (qRC (nxt c) h) 0 false := by
    rw [payload_qR, slotQ_nxt c h15]; unfold ptsQ; rw [hs]
    refine Entails.of_eq (pointsTo_congr fun i hi => ?_)
    exact landQ m c t f i (by rw [qSlot_set] at hi; exact hi)
  have w := Rounds.wp_send_pointsTo (defs := defs₀ (F := F)) (Q := Q) (k := k) (hsrc := hsrc) (hdst := hdst) (hsem := hsem) (hsc := hsc)
    (q := fullShare) (Es := Set.univ) 𝒱₀ EH (rd m) (c : Thread nD τ) none (Γ := PendingWaitsCtx.empty) (κ₁ := K (c, iQS)) (κ₂ := K (nxt c, iQR h))
    (src := (qSlot (k0_off4 c t) (k0_off4_inb c t))) (dst := (qSlot (k0_off4 c t) (k0_off4_inb c t))) (c' := (nxt c : Thread nD τ)) (sS := .dma qS) (sem := .dma (qR h))
    (r₁ := h.val) (r₂ := 0) (d₁ := false) (d₂ := false) (fd := f) (fs := outQ m)
    (by rw [duties_qS m c h15]; exact Finset.mem_singleton_self _) (by rw [duties_qR]; exact Finset.mem_singleton_self _)
    () () NQ (credit_qSlot _ _) (amount_qS m c h.val false) (amount_qR m (nxt c) h 0 false) O rfl (W := W) hp₁ hp₂
  exact w

set_option maxHeartbeats 400000 in
/-- The same of the second array. -/
theorem wp_copyO (K : Dev nD × CI → ℕ) (c n : Dev nD) (hn : n = nxt c) (t : Fin k0_t1_loop.trips) (h : Fin 15) (ht : h.val = t.val) (sv : DmaSem sig) (hsv : sv = oR h)
    {hsc : (oSlot (k0_off5 c t) (k0_off5_inb c t) : Memref sig (Dev.tc n : Thread nD τ).2.kind .vmem S256x512 .bf16).view.ref.isScScratch = false}
    {hsrc hdst : (oSlot (k0_off5 c t) (k0_off5_inb c t)).view.WordExact}
    {hsem : DmaTarget.Typed .vmem (.dma sv) (.remote (Dev.tc n : Thread nD τ) (oSlot (k0_off5 c t) (k0_off5_inb c t)) (.dma oS) hsc)}
    {α : Type} {Q : α → sProp 𝕄} {k : PUnit → Prog (TpuEff nD τ sig (Elt F) Λ₀ .tc) α}
    (f : Vec F S16x256x512 .bf16) (O : CellTallies nD τ sig Unit) (W : Waits sig Unit) :
    iprop(cellInv EH (rd m) (K (c, iOS)) (oSC c) ∗ cellInv EH (rd m) (K (nxt c, iOR h)) (oRC (nxt c) h)
        ∗ ptsO c (slotO c h.val) (outO m) ∗ ptsO (nxt c) (slotO c h.val) f
        ∗ owes (c : Thread nD τ) (O + tallyAt (oRC (nxt c) h) () NO) W
        ∗ dutyTok EH (oSC c) h.val false ∗ reached EH (oSC c) h.val
        ∗ dutyTok EH (oRC (nxt c) h) 0 false ∗ reached EH (oRC (nxt c) h) 0)
      ⊢ iprop(((cred (tallyAt (oSC c) () NO) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSlot (k0_off5 c t) (k0_off5_inb c t)) (.remote (Dev.tc n : Thread nD τ) (oSlot (k0_off5 c t) (k0_off5_inb c t)) (.dma oS) hsc) (.dma sv) hsrc hdst hsem) k) Q) := by
  subst hn hsv
  have hs : slotO c h.val = (oSlot (k0_off5 c t) (k0_off5_inb c t)).view.set := (congrArg (slotO c) ht).trans (oSlot_set c t).symm
  have h15 : h.val < 15 := h.isLt
  unfold ptsO
  rw [hs]
  have hp₁ : (((oSlot (k0_off5 c t) (k0_off5_inb c t)).view.loc (c : Thread nD τ)) ↦[(oSlot (k0_off5 c t) (k0_off5_inb c t)).view.set]{fullShare} (outO m) : sProp 𝕄) ⊢ (rd m).payload (oSC c) h.val false := by
    rw [payload_oS]; unfold ptsO; rw [hs]
  have hp₂ : (((oSlot (k0_off5 c t) (k0_off5_inb c t)).view.loc (nxt c : Thread nD τ)) ↦[(oSlot (k0_off5 c t) (k0_off5_inb c t)).view.set]{fullShare} ((oSlot (k0_off5 c t) (k0_off5_inb c t)).view.write (Elt F) f ((oSlot (k0_off5 c t) (k0_off5_inb c t)).view.read (Elt F) (outO m)) Finset.univ) : sProp 𝕄)
      ⊢ (rd m).payload (oRC (nxt c) h) 0 false := by
    rw [payload_oR, slotO_nxt c h15]; unfold ptsO; rw [hs]
    refine Entails.of_eq (pointsTo_congr fun i hi => ?_)
    exact landO m c t f i (by rw [oSlot_set] at hi; exact hi)
  have w := Rounds.wp_send_pointsTo (defs := defs₀ (F := F)) (Q := Q) (k := k) (hsrc := hsrc) (hdst := hdst) (hsem := hsem) (hsc := hsc)
    (q := fullShare) (Es := Set.univ) 𝒱₀ EH (rd m) (c : Thread nD τ) none (Γ := PendingWaitsCtx.empty) (κ₁ := K (c, iOS)) (κ₂ := K (nxt c, iOR h))
    (src := (oSlot (k0_off5 c t) (k0_off5_inb c t))) (dst := (oSlot (k0_off5 c t) (k0_off5_inb c t))) (c' := (nxt c : Thread nD τ)) (sS := .dma oS) (sem := .dma (oR h))
    (r₁ := h.val) (r₂ := 0) (d₁ := false) (d₂ := false) (fd := f) (fs := outO m)
    (by rw [duties_oS m c h15]; exact Finset.mem_singleton_self _) (by rw [duties_oR]; exact Finset.mem_singleton_self _)
    () () NO (credit_oSlot _ _) (amount_oS m c h.val false) (amount_oR m (nxt c) h 0 false) O rfl (W := W) hp₁ hp₂
  exact w

/-- The wait for the copy out of the first array, which gives the slot back, -/
theorem wp_sentQ (K : Dev nD × CI → ℕ) (c : Dev nD) (t : Fin k0_t1_loop.trips) (h : Fin 15)
    {hsrc hdst : (qSlot (k0_off4 c t) (k0_off4_inb c t)).view.WordExact}
    {α : Type} {Q : α → sProp 𝕄} {k : PUnit → Prog (TpuEff nD τ sig (Elt F) Λ₀ .tc) α} (W : Waits sig Unit) :
    iprop(cellInv EH (rd m) (K (c, iQS)) (qSC c) ∗ cred (tallyAt (qSC c) () NQ) ∗ owes (c : Thread nD τ) (owed c (h.val + 1)) W ∗ levAts L lv ∗ atPos EH (qSC c) h.val ∅ 0)
      ⊢ iprop(((owes (c : Thread nD τ) (owed c (h.val + 1)) (insert (.dma (qS), ()) W) ∗ atPos EH (qSC c) (h.val + 1) ∅ 0 ∗ reached EH (qSC c) (h.val + 1)
              ∗ ptsQ c (slotQ c h.val) (outQ m)) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 qS (qSlot (k0_off4 c t) (k0_off4_inb c t)) (qSlot (k0_off4 c t) (k0_off4_inb c t)) hsrc hdst) k) Q) := by
  iintro ⟨H1, H2, H3, #H4, H5⟩ Hk
  iapply (Rounds.wp_wait_rest_token 𝒱₀ EH (rd m) (c : Thread nD τ) none (κ := K (c, iQS))
    (wpE_waitDma2_eq 𝒱₀ (c : Thread nD τ) none Set.univ) (Set.mem_univ _) () (O := owed c (h.val + 1)) (W := W) (R := h.val) (m := 0) (T := ∅)
    (by rw [Nat.zero_add, expect_qS m c h.isLt]; exact credit_qSlot _ _)) $$ [H1 H2 H3 H5]
  · isplitl [H1]; · iexact H1
    isplitl [H2]; · iexact H2
    isplitl [H3]; · iexact H3
    isplitr; · iapply (mayWait_hop (F := F) c (.dma (qS)) h.val (by rw [lv_qS]; omega)); iexact H4
    iexact H5
  iintro ⟨H1, H2, H3, H4⟩
  ihave H5 := (Entails.of_eq (pay_qS m c h.isLt)) $$ H4
  iapply Hk
  isplitl [H1]; · iexact H1
  isplitl [H2]; · iexact H2
  isplitl [H3]; · iexact H3
  iexact H5

/-- for the copy into it, which gives the next slot, -/
theorem wp_gotQ (K : Dev nD × CI → ℕ) (c : Dev nD) (t : Fin k0_t1_loop.trips) (h : Fin 15)
    {hsrc hdst : (qSlot (k0_off4 c t) (k0_off4_inb c t)).view.WordExact}
    {α : Type} {Q : α → sProp 𝕄} {k : PUnit → Prog (TpuEff nD τ sig (Elt F) Λ₀ .tc) α} (W : Waits sig Unit) (sv : DmaSem sig) (hsv : sv = qR h) :
    iprop(cellInv EH (rd m) (K (c, iQR h)) (qRC c h) ∗ cred (tallyAt (qRC c h) () NQ) ∗ owes (c : Thread nD τ) (owed c (h.val + 1)) W ∗ levAts L lv ∗ atPos EH (qRC c h) 0 ∅ 0)
      ⊢ iprop(((owes (c : Thread nD τ) (owed c (h.val + 1)) (insert (.dma (qR h), ()) W) ∗ atPos EH (qRC c h) 1 ∅ 0
              ∗ ptsQ c (slotQ c (h.val + 1)) (outQ m)) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sv (qSlot (k0_off4 c t) (k0_off4_inb c t)) (qSlot (k0_off4 c t) (k0_off4_inb c t)) hsrc hdst) k) Q) := by
  subst hsv
  iintro ⟨H1, H2, H3, #H4, H5⟩ Hk
  iapply (Rounds.wp_wait_rest_token 𝒱₀ EH (rd m) (c : Thread nD τ) none (κ := K (c, iQR h))
    (wpE_waitDma2_eq 𝒱₀ (c : Thread nD τ) none Set.univ) (Set.mem_univ _) () (O := owed c (h.val + 1)) (W := W) (R := 0) (m := 0) (T := ∅)
    (by rw [Nat.zero_add, expect_qR m c h]; exact credit_qSlot _ _)) $$ [H1 H2 H3 H5]
  · isplitl [H1]; · iexact H1
    isplitl [H2]; · iexact H2
    isplitl [H3]; · iexact H3
    isplitr; · iapply (mayWait_hop (F := F) c (.dma (qR h)) h.val (by rw [lv_qR])); iexact H4
    iexact H5
  iintro ⟨H1, H2, -, H4⟩
  ihave H5 := (Entails.of_eq (pay_qR m c h)) $$ H4
  iapply Hk
  isplitl [H1]; · iexact H1
  isplitl [H2]; · iexact H2
  iexact H5

/-- and the same two of the second array. -/
theorem wp_sentO (K : Dev nD × CI → ℕ) (c : Dev nD) (t : Fin k0_t1_loop.trips) (h : Fin 15)
    {hsrc hdst : (oSlot (k0_off5 c t) (k0_off5_inb c t)).view.WordExact}
    {α : Type} {Q : α → sProp 𝕄} {k : PUnit → Prog (TpuEff nD τ sig (Elt F) Λ₀ .tc) α} (W : Waits sig Unit) :
    iprop(cellInv EH (rd m) (K (c, iOS)) (oSC c) ∗ cred (tallyAt (oSC c) () NO) ∗ owes (c : Thread nD τ) (owed c (h.val + 1)) W ∗ levAts L lv ∗ atPos EH (oSC c) h.val ∅ 0)
      ⊢ iprop(((owes (c : Thread nD τ) (owed c (h.val + 1)) (insert (.dma (oS), ()) W) ∗ atPos EH (oSC c) (h.val + 1) ∅ 0 ∗ reached EH (oSC c) (h.val + 1)
              ∗ ptsO c (slotO c h.val) (outO m)) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 oS (oSlot (k0_off5 c t) (k0_off5_inb c t)) (oSlot (k0_off5 c t) (k0_off5_inb c t)) hsrc hdst) k) Q) := by
  iintro ⟨H1, H2, H3, #H4, H5⟩ Hk
  iapply (Rounds.wp_wait_rest_token 𝒱₀ EH (rd m) (c : Thread nD τ) none (κ := K (c, iOS))
    (wpE_waitDma2_eq 𝒱₀ (c : Thread nD τ) none Set.univ) (Set.mem_univ _) () (O := owed c (h.val + 1)) (W := W) (R := h.val) (m := 0) (T := ∅)
    (by rw [Nat.zero_add, expect_oS m c h.isLt]; exact credit_oSlot _ _)) $$ [H1 H2 H3 H5]
  · isplitl [H1]; · iexact H1
    isplitl [H2]; · iexact H2
    isplitl [H3]; · iexact H3
    isplitr; · iapply (mayWait_hop (F := F) c (.dma (oS)) h.val (by rw [lv_oS]; omega)); iexact H4
    iexact H5
  iintro ⟨H1, H2, H3, H4⟩
  ihave H5 := (Entails.of_eq (pay_oS m c h.isLt)) $$ H4
  iapply Hk
  isplitl [H1]; · iexact H1
  isplitl [H2]; · iexact H2
  isplitl [H3]; · iexact H3
  iexact H5

theorem wp_gotO (K : Dev nD × CI → ℕ) (c : Dev nD) (t : Fin k0_t1_loop.trips) (h : Fin 15)
    {hsrc hdst : (oSlot (k0_off5 c t) (k0_off5_inb c t)).view.WordExact}
    {α : Type} {Q : α → sProp 𝕄} {k : PUnit → Prog (TpuEff nD τ sig (Elt F) Λ₀ .tc) α} (W : Waits sig Unit) (sv : DmaSem sig) (hsv : sv = oR h) :
    iprop(cellInv EH (rd m) (K (c, iOR h)) (oRC c h) ∗ cred (tallyAt (oRC c h) () NO) ∗ owes (c : Thread nD τ) (owed c (h.val + 1)) W ∗ levAts L lv ∗ atPos EH (oRC c h) 0 ∅ 0)
      ⊢ iprop(((owes (c : Thread nD τ) (owed c (h.val + 1)) (insert (.dma (oR h), ()) W) ∗ atPos EH (oRC c h) 1 ∅ 0
              ∗ ptsO c (slotO c (h.val + 1)) (outO m)) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sv (oSlot (k0_off5 c t) (k0_off5_inb c t)) (oSlot (k0_off5 c t) (k0_off5_inb c t)) hsrc hdst) k) Q) := by
  subst hsv
  iintro ⟨H1, H2, H3, #H4, H5⟩ Hk
  iapply (Rounds.wp_wait_rest_token 𝒱₀ EH (rd m) (c : Thread nD τ) none (κ := K (c, iOR h))
    (wpE_waitDma2_eq 𝒱₀ (c : Thread nD τ) none Set.univ) (Set.mem_univ _) () (O := owed c (h.val + 1)) (W := W) (R := 0) (m := 0) (T := ∅)
    (by rw [Nat.zero_add, expect_oR m c h]; exact credit_oSlot _ _)) $$ [H1 H2 H3 H5]
  · isplitl [H1]; · iexact H1
    isplitl [H2]; · iexact H2
    isplitl [H3]; · iexact H3
    isplitr; · iapply (mayWait_hop (F := F) c (.dma (oR h)) h.val (by rw [lv_oR])); iexact H4
    iexact H5
  iintro ⟨H1, H2, -, H4⟩
  ihave H5 := (Entails.of_eq (pay_oR m c h)) $$ H4
  iapply Hk
  isplitl [H1]; · iexact H1
  isplitl [H2]; · iexact H2
  iexact H5

/-! ## Taking a slot out, and putting one in -/

omit [FloatOps F] in
theorem heldQ_split (c : Dev nD) (k : ℕ) (f) : ptsQ (F := F) c (heldQ c k) f = iprop(ptsQ c (slotQ c k) f ∗ ptsQ c (heldQ c k \ slotQ c k) f) := by
  unfold ptsQ; exact BI.Entails.antisymm (pointsTo_split_subset (slotQ_sub_held c k)).1 (pointsTo_split_subset (slotQ_sub_held c k)).2
omit [FloatOps F] in
theorem heldO_split (c : Dev nD) (k : ℕ) (f) : ptsO (F := F) c (heldO c k) f = iprop(ptsO c (slotO c k) f ∗ ptsO c (heldO c k \ slotO c k) f) := by
  unfold ptsO; exact BI.Entails.antisymm (pointsTo_split_subset (slotO_sub_held c k)).1 (pointsTo_split_subset (slotO_sub_held c k)).2
omit [FloatOps F] in
theorem heldQ_grow (c : Dev nD) (k : ℕ) (f) : ptsQ (F := F) c (heldQ c (k + 1)) f = iprop(ptsQ c (heldQ c k) f ∗ ptsQ c (slotQ c (k + 1)) f) := by
  unfold ptsQ; rw [← heldQ_succ]; exact BI.Entails.antisymm (pointsTo_union (heldQ_disj c k)).1 (pointsTo_union (heldQ_disj c k)).2
omit [FloatOps F] in
theorem heldO_grow (c : Dev nD) (k : ℕ) (f) : ptsO (F := F) c (heldO c (k + 1)) f = iprop(ptsO c (heldO c k) f ∗ ptsO c (slotO c (k + 1)) f) := by
  unfold ptsO; rw [← heldO_succ]; exact BI.Entails.antisymm (pointsTo_union (heldO_disj c k)).1 (pointsTo_union (heldO_disj c k)).2
omit [FloatOps F] in
theorem restQ_split (c d : Dev nD) {k : ℕ} (hk : k < 15) (f) : ptsQ (F := F) d (restQ c k) f = iprop(ptsQ d (slotQ c k) f ∗ ptsQ d (restQ c (k + 1)) f) := by
  unfold ptsQ; rw [← restQ_next]; exact BI.Entails.antisymm (pointsTo_split_subset (slotQ_sub_rest c hk)).1 (pointsTo_split_subset (slotQ_sub_rest c hk)).2
omit [FloatOps F] in
theorem restO_split (c d : Dev nD) {k : ℕ} (hk : k < 15) (f) : ptsO (F := F) d (restO c k) f = iprop(ptsO d (slotO c k) f ∗ ptsO d (restO c (k + 1)) f) := by
  unfold ptsO; rw [← restO_next]; exact BI.Entails.antisymm (pointsTo_split_subset (slotO_sub_rest c hk)).1 (pointsTo_split_subset (slotO_sub_rest c hk)).2

omit [FloatOps F] in
theorem big_insert {h : Fin 15} {S : Finset (Fin 15)} (hn : h ∉ S) (Φ : Fin 15 → sProp 𝕄) : bigSep (insert h S) Φ = iprop(Φ h ∗ bigSep S Φ) :=
  bigSep_insert hn

set_option maxHeartbeats 1600000 in
/-- One hop. -/
theorem hop (K : Dev nD × CI → ℕ) (c : Dev nD) (v2 v7 : BitVec 32) (t : Fin k0_t1_loop.trips) (u : Unit) :
    inv m K c t.val u ⊢ wp frame (wpE (defs₀ (F := F)) 𝒱₀ (c : Thread nD τ) none) Set.univ
      (k0_t1_body qIn (Memref.isWhole_whole _) oIn (Memref.isWhole_whole _) qM (Memref.isWhole_whole _) oM (Memref.isWhole_whole _)
        cc0_scratch0 cc0_scratch1 cc0_scratch2 cc0_scratch3 c v2 v7 t u) (inv m K c (t.val + 1)) := by
  obtain ⟨h, ht⟩ : ∃ h : Fin 15, h.val = t.val := ⟨⟨t.val, t_lt t⟩, rfl⟩
  have h15 : h.val < 15 := h.isLt
  rw [← ht]
  unfold k0_t1_body
  rw [k0_part1_eq_skeleton]; unfold k0_part1_skel
  simp only [Prog.lift, Prog.bind_op, Prog.bind_ret, Prog.pure_eq_ret]
  unfold inv
  rw [later_insert, big_insert (not_mem_later h), earlier_insert, big_insert (not_mem_earlier h), heldQ_split, heldO_split, heldQ_grow, heldO_grow, heldQ_split, heldO_split]
  unfold item
  iintro ⟨#HR, #Hlev, ⟨HQ, HQr⟩, ⟨HO, HOr⟩, ⟨%fq, HnQ⟩, ⟨%fo, HnO⟩, ⟨%W, Hw⟩, HaQ, #HrQ, HaO, #HrO, ⟨⟨HtQ, HtO, HtQn, HtOn, HaQR, HaOR, HcQ, HcO⟩, Hlater⟩, Hearlier⟩
  ihave HnQ := (Entails.of_eq (restQ_split (F := F) c (nxt c) h15 fq)) $$ HnQ
  ihave HnO := (Entails.of_eq (restO_split (F := F) c (nxt c) h15 fo)) $$ HnO
  icases HnQ with ⟨HnQ, HnQr⟩
  icases HnO with ⟨HnO, HnOr⟩
  rw [owed_step]
  iapply (wp_copyQ m K c _ (dev3_nxt c) t h ht _ ((recvQ_sem t).trans (Fin.ext (by rw [qR_val, ht]))) fq (owed c (h.val + 1) + tallyAt (oRC (nxt c) h) () NO) W) $$ [HQ HnQ Hw HtQ HtQn]
  · isplitr; · iapply (inv_of m K c iQS); iexact HR
    isplitr; · iapply (inv_of m K (nxt c) (iQR h)); iexact HR
    isplitl [HQ]; · iexact HQ
    isplitl [HnQ]; · iexact HnQ
    isplitl [Hw]; · iexact Hw
    isplitl [HtQ]; · iexact HtQ
    isplitr; · iexact HrQ
    isplitl [HtQn]; · iexact HtQn
    iapply (reached_of m K (nxt c) (iQR h)); iexact HR
  iintro ⟨HcqS, Hw⟩
  iapply (wp_copyO m K c _ (dev4_nxt c) t h ht _ ((recvO_sem t).trans (Fin.ext (by rw [oR_val, ht]))) fo (owed c (h.val + 1)) W) $$ [HO HnO Hw HtO HtOn]
  · isplitr; · iapply (inv_of m K c iOS); iexact HR
    isplitr; · iapply (inv_of m K (nxt c) (iOR h)); iexact HR
    isplitl [HO]; · iexact HO
    isplitl [HnO]; · iexact HnO
    isplitl [Hw]; · iexact Hw
    isplitl [HtO]; · iexact HtO
    isplitr; · iexact HrO
    isplitl [HtOn]; · iexact HtOn
    iapply (reached_of m K (nxt c) (iOR h)); iexact HR
  iintro ⟨HcoS, Hw⟩
  iapply (wp_sentQ m K c t h W) $$ [HcqS Hw HaQ]
  · isplitr; · iapply (inv_of m K c iQS); iexact HR
    isplitl [HcqS]; · iexact HcqS
    isplitl [Hw]; · iexact Hw
    isplitr; · iexact Hlev
    iexact HaQ
  iintro ⟨Hw, HaQ, #HrQ', HQ⟩
  iapply (wp_gotQ m K c t h _ _ ((recvQ_sem t).trans (Fin.ext (by rw [qR_val, ht])))) $$ [HcQ Hw HaQR]
  · isplitr; · iapply (inv_of m K c (iQR h)); iexact HR
    isplitl [HcQ]; · iexact HcQ
    isplitl [Hw]; · iexact Hw
    isplitr; · iexact Hlev
    iexact HaQR
  iintro ⟨Hw, HaQR, HQn⟩
  iapply (wp_sentO m K c t h _) $$ [HcoS Hw HaO]
  · isplitr; · iapply (inv_of m K c iOS); iexact HR
    isplitl [HcoS]; · iexact HcoS
    isplitl [Hw]; · iexact Hw
    isplitr; · iexact Hlev
    iexact HaO
  iintro ⟨Hw, HaO, #HrO', HO⟩
  iapply (wp_gotO m K c t h _ _ ((recvO_sem t).trans (Fin.ext (by rw [oR_val, ht])))) $$ [HcO Hw HaOR]
  · isplitr; · iapply (inv_of m K c (iOR h)); iexact HR
    isplitl [HcO]; · iexact HcO
    isplitl [Hw]; · iexact Hw
    isplitr; · iexact Hlev
    iexact HaOR
  iintro ⟨Hw, HaOR, HOn⟩
  imod (Rounds.cell_close EH (rd m) (Set.mem_univ (K (c, iQR h))) (fun h => h) (R := 1) (duties_qR_later m c h)) $$ [HaQR] with HzQ
  · isplitr; · iapply (inv_of m K c (iQR h)); iexact HR
    iexact HaQR
  imod (Rounds.cell_close EH (rd m) (Set.mem_univ (K (c, iOR h))) (fun h => h) (R := 1) (duties_oR_later m c h)) $$ [HaOR] with HzO
  · isplitr; · iapply (inv_of m K c (iOR h)); iexact HR
    iexact HaOR
  rw [wp_ret]; imodintro
  isplitr; · iexact HR
  isplitr; · iexact Hlev
  isplitl [HQ HQr HQn]
  · isplitl [HQ HQr]
    · isplitl [HQ]; · iexact HQ
      iexact HQr
    · iexact HQn
  isplitl [HO HOr HOn]
  · isplitl [HO HOr]
    · isplitl [HO]; · iexact HO
      iexact HOr
    · iexact HOn
  isplitl [HnQr]; · iexists fq; iexact HnQr
  isplitl [HnOr]; · iexists fo; iexact HnOr
  isplitl [Hw]; · iexists _; iexact Hw
  isplitl [HaQ]; · iexact HaQ
  isplitr; · iexact HrQ'
  isplitl [HaO]; · iexact HaO
  isplitr; · iexact HrO'
  isplitl [Hlater]; · iexact Hlater
  isplitl [HzQ HzO]
  · unfold left
    isplitl [HzQ]; · iexact HzQ
    iexact HzO
  iexact Hearlier

end Cert.Hop

end
-- ==== Proof.Hop.Body.lean ====
/-
  The ring's body on one device, from the handshake of the neighbours to the last hop.
-/
module

public import proofs.«01_k».proof.Proof.Hop.Step

@[expose] public section

noncomputable section

namespace Cert.Hop

open Cert.Ring Cert.Ring.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ UU ℕ

variable (m : (ℓ : Loc nD τ sig) → Buf (Elt F) ℓ)

/-! ## What a device starts from -/

/-- A hop's share of the ring's state at launch, its credits apart. -/
def pass (c : Dev nD) (h : Fin 15) : sProp 𝕄 :=
  iprop(dutyTok EH (qSC c) h.val false ∗ dutyTok EH (oSC c) h.val false
    ∗ dutyTok EH (qRC (nxt c) h) 0 false ∗ dutyTok EH (oRC (nxt c) h) 0 false
    ∗ atPos EH (qRC c h) 0 ∅ 0 ∗ atPos EH (oRC c h) 0 ∅ 0)
/-- The credits of a hop's two receives. -/
def due (c : Dev nD) (h : Fin 15) : sProp 𝕄 := iprop(cred (tallyAt (qRC c h) () NQ) ∗ cred (tallyAt (oRC c h) () NO))

omit [FloatOps F] in
theorem item_eq (c : Dev nD) (h : Fin 15) : iprop(pass (F := F) c h ∗ due (F := F) c h) ⊢ item (F := F) c h := by
  unfold pass due item
  iintro ⟨⟨H1, H2, H3, H4, H5, H6⟩, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The ring's state device `c` starts from, at the names `K`. -/
def ghost (K : Dev nD × CI → ℕ) (c : Dev nD) : sProp 𝕄 :=
  iprop(records m K ∗ atPos EH (barC c) 0 ∅ 0 ∗ atPos EH (qSC c) 0 ∅ 0 ∗ atPos EH (oSC c) 0 ∅ 0
    ∗ dutyTok EH (barC (nxt c)) 0 false ∗ dutyTok EH (barC (prv c)) 0 true ∗ bigSep Finset.univ (pass (F := F) c))

def start (c : Dev nD) : sProp 𝕄 :=
  iprop((∃ K, ghost m K c) ∗ cred (tallyAt (barC c) () 2) ∗ bigSep Finset.univ (due (F := F) c) ∗ levAts L lv)

/-- Every semaphore of the kernel at zero. -/
def rest (c : Dev nD) : sProp 𝕄 := iprop(bigSep Finset.univ (left (F := F) c) ∗ semVal (qSC c) 0 ∗ semVal (oSC c) 0 ∗ semVal (barC c) 0)

def dats (_ : Fin 1) (c : Dev nD) : Dat τ (Elt F) Unit ℕ UU ℕ cfg0 c where
  A w := m ((cfg0.win w).arr.view.loc (c : Thread nD τ))
  after w _ := match w with
    | ⟨0, _⟩ => shardQ m c
    | ⟨1, _⟩ => shardO m c
    | ⟨2, _⟩ => outQ m
    | ⟨3, _⟩ => outO m
    | ⟨_ + 4, h⟩ => absurd h (Nat.not_lt.2 (Nat.le_add_left _ _))
  Φ t := match t with
    | ⟨0, _⟩ => start m c
    | ⟨_ + 1, _⟩ => rest c
  q _ := fullShare
  owed t := match t with
    | ⟨0, _⟩ => owed₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem zero2 : (![0, 0] : Fin 2 → Nat) = fun _ => 0 := funext fun a => by fin_cases a <;> rfl

omit [FloatOps F] in
/-- The two argument windows hold a device's shards, whole. -/
theorem read_arg0 (f : Vec F S512x256 .bf16) : (win0_0.blk (0 : Fin 1)).view.read (Elt F) f = f :=
  Memref.read_access_unit_zero (Elt F) main_arg0 (funext fun a => by fin_cases a <;> decide) (fun a => by fin_cases a <;> decide) f
omit [FloatOps F] in
theorem read_arg1 (f : Vec F S256x512 .bf16) : (win0_1.blk (0 : Fin 1)).view.read (Elt F) f = f :=
  Memref.read_access_unit_zero (Elt F) main_arg1 (funext fun a => by fin_cases a <;> decide) (fun a => by fin_cases a <;> decide) f

omit [FloatOps F] in
theorem before0 (c : Dev nD) (d) : (dats m 0 c).before (0 : Fin 4) t0_0 d = shardQ m c := by
  unfold Dat.before; rw [if_pos (fetch0_0 t0_0)]; exact (show _ = (win0_0.blk (0 : Fin 1)).view.read (Elt F) (m ((c : Thread nD τ).loc main_arg0)) from rfl).trans (read_arg0 (F := F) _)
omit [FloatOps F] in
theorem before1 (c : Dev nD) (d) : (dats m 0 c).before (1 : Fin 4) t0_0 d = shardO m c := by
  unfold Dat.before; rw [if_pos (fetch0_1 t0_0)]; exact (show _ = (win0_1.blk (0 : Fin 1)).view.read (Elt F) (m ((c : Thread nD τ).loc main_arg1)) from rfl).trans (read_arg1 (F := F) _)

/-! ## The two arrays as the kernel finds them, split in the device's own slot and the others' -/

omit [FloatOps F] in
theorem ownQ_split (c : Dev nD) (f : Vec F S16x512x256 .bf16) :
    ((((c : Thread nD τ).loc cc0_stg2_0) ↦{fullShare} f) : sProp 𝕄) = iprop(ptsQ c (slotQ c 0) f ∗ ptsQ c (restQ (prv c) 0) f) := by
  unfold ptsQ; rw [← others_eq_restQ]
  exact BI.Entails.antisymm (pointsTo_split_subset (Finset.subset_univ _)).1 (pointsTo_split_subset (Finset.subset_univ _)).2
omit [FloatOps F] in
theorem ownO_split (c : Dev nD) (f : Vec F S16x256x512 .bf16) :
    ((((c : Thread nD τ).loc cc0_stg3_0) ↦{fullShare} f) : sProp 𝕄) = iprop(ptsO c (slotO c 0) f ∗ ptsO c (restO (prv c) 0) f) := by
  unfold ptsO; rw [← others_eq_restO]
  exact BI.Entails.antisymm (pointsTo_split_subset (Finset.subset_univ _)).1 (pointsTo_split_subset (Finset.subset_univ _)).2

omit [FloatOps F] in
theorem read_inQ (f : Vec F S512x256 .bf16) :
    (qIn : Memref sig .tc .vmem S512x256 .bf16).view.readAt (Elt F) (Rect.unit (s := S512x256) ![0, 0] S512x256.size inb_S512x256_S512x256_0_0).toLoadRect f = f :=
  Memref.readAt_unit_zero (Elt F) cc0_stg0_0 zero2 _ f
omit [FloatOps F] in
theorem read_inO (f : Vec F S256x512 .bf16) :
    (oIn : Memref sig .tc .vmem S256x512 .bf16).view.readAt (Elt F) (Rect.unit (s := S256x512) ![0, 0] S256x512.size inb_S256x512_S256x512_0_0).toLoadRect f = f :=
  Memref.readAt_unit_zero (Elt F) cc0_stg1_0 zero2 _ f

omit [FloatOps F] in
theorem stored_ownQ [FloatOps F] (c : Dev nD) (f : Vec F S16x512x256 .bf16) :
    ((((qM.access (rQ c) : View sig .tc _ _ _).loc (c : Thread nD τ)) ↦[slotQ c 0]{fullShare} ((qM.access (rQ c) : View sig .tc _ _ _).write (Elt F) f (k0_pay1 (shardQ m c)) Finset.univ)) : sProp 𝕄) = ptsQ c (slotQ c 0) (outQ m) := by
  unfold ptsQ; exact pointsTo_congr fun i hi => store_ownQ m c f i hi
omit [FloatOps F] in
theorem stored_ownO [FloatOps F] (c : Dev nD) (f : Vec F S16x256x512 .bf16) :
    ((((oM.access (rO c) : View sig .tc _ _ _).loc (c : Thread nD τ)) ↦[slotO c 0]{fullShare} ((oM.access (rO c) : View sig .tc _ _ _).write (Elt F) f (k0_pay2 (shardO m c)) Finset.univ)) : sProp 𝕄) = ptsO c (slotO c 0) (outO m) := by
  unfold ptsO; exact pointsTo_congr fun i hi => store_ownO m c f i hi

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The loop -/

/-- All the hops. -/
theorem hops (K : Dev nD × CI → ℕ) (c : Dev nD) (v2 v7 : BitVec 32) {α : Type} {Q : α → sProp 𝕄} {kk : Unit → Prog (TpuEff nD τ sig (Elt F) Λ₀ .tc) α} :
    inv m K c 0 () ⊢ iprop((∀ u, inv m K c 15 u -∗ wp frame (wpE (defs₀ (F := F)) 𝒱₀ (c : Thread nD τ) none) Set.univ (kk u) Q)
      -∗ wp frame (wpE (defs₀ (F := F)) 𝒱₀ (c : Thread nD τ) none) Set.univ
        (Scf.Loop.for k0_t1_loop k0_t1_ok ⟨⟩ (k0_t1_body qIn (Memref.isWhole_whole _) oIn (Memref.isWhole_whole _) qM (Memref.isWhole_whole _) oM (Memref.isWhole_whole _)
          cc0_scratch0 cc0_scratch1 cc0_scratch2 cc0_scratch3 c v2 v7) >>= kk) Q) := by
  have w := Scf.wp_for_bind (Q := Q) (kk := kk) frame (wpE (defs₀ (F := F)) 𝒱₀ (c : Thread nD τ) none) Set.univ k0_t1_loop.lb k0_t1_loop.ub k0_t1_loop.st k0_t1_ok ()
    (k0_t1_body qIn (Memref.isWhole_whole _) oIn (Memref.isWhole_whole _) qM (Memref.isWhole_whole _) oM (Memref.isWhole_whole _)
          cc0_scratch0 cc0_scratch1 cc0_scratch2 cc0_scratch3 c v2 v7) (inv m K c) (fun t u => hop m K c v2 v7 t u)
  rw [show Scf.trips k0_t1_loop.lb k0_t1_loop.ub k0_t1_loop.st = 15 from trips15] at w
  exact w

/-! ## The body -/

def bodyPre (K : Dev nD × CI → ℕ) (c : Dev nD) : sProp 𝕄 :=
  iprop((ghost m K c ∗ cred (tallyAt (barC c) () 2) ∗ bigSep Finset.univ (due (F := F) c) ∗ levAts L lv)
    ∗ (∃ W, owes (c : Thread nD τ) (owed₀ c) W)
    ∗ (((c : Thread nD τ).loc cc0_stg0_0) ↦{fullShare} (shardQ m c)) ∗ (((c : Thread nD τ).loc cc0_stg1_0) ↦{fullShare} (shardO m c))
    ∗ (∃ f : Vec F S16x512x256 .bf16, ((c : Thread nD τ).loc cc0_stg2_0) ↦{fullShare} f) ∗ (∃ f : Vec F S16x256x512 .bf16, ((c : Thread nD τ).loc cc0_stg3_0) ↦{fullShare} f))

def bodyPost (c : Dev nD) : sProp 𝕄 :=
  iprop(rest (F := F) c ∗ (∃ W, owes (c : Thread nD τ) 0 W)
    ∗ (((c : Thread nD τ).loc cc0_stg0_0) ↦{fullShare} (shardQ m c)) ∗ (((c : Thread nD τ).loc cc0_stg1_0) ↦{fullShare} (shardO m c))
    ∗ (((c : Thread nD τ).loc cc0_stg2_0) ↦{fullShare} (outQ m)) ∗ (((c : Thread nD τ).loc cc0_stg3_0) ↦{fullShare} (outO m)))

set_option maxHeartbeats 1600000 in
theorem sound_body (K : Dev nD × CI → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body qIn (Memref.isWhole_whole _) oIn (Memref.isWhole_whole _) qM (Memref.isWhole_whole _) oM (Memref.isWhole_whole _)
            cc0_scratch0 cc0_scratch1 cc0_scratch2 cc0_scratch3) Kt := by
  rw [cc0_body_eq_skeleton]; unfold cc0_body_skel
  rw [k0_part2_eq_skeleton]; unfold k0_part2_skel
  simp only [semSignalWord, semWaitWord, Prog.lift, Prog.bind_op, Prog.bind_ret, Prog.pure_eq_ret, wp_deviceId]
  unfold bodyPre ghost
  iintro ⟨⟨⟨⟨#HR, HaB, HaQ, HaO, HtB, HtP, Hpass⟩, HcB, Hdue, #Hlev⟩, ⟨%W, Hw⟩, Hx, Hy, ⟨%fq, Hq⟩, ⟨%fo, Ho⟩⟩, Hk⟩
  simp only [dev1_prv c, dev2_nxt c]
  ihave Hq := (Entails.of_eq (ownQ_split (F := F) c fq)) $$ Hq
  ihave Ho := (Entails.of_eq (ownO_split (F := F) c fo)) $$ Ho
  icases Hq with ⟨Hq, Hqr⟩
  icases Ho with ⟨Ho, Hor⟩
  unfold owed₀
  iapply (Rounds.wp_signal 𝒱₀ EH (rd m) (c : Thread nD τ) none (dst := (prv c : Thread nD τ)) (κ := K (prv c, iBar)) (r := 0)
      (d := true) (by rw [duties_bar]; exact Finset.mem_univ _) ((amount_bar m (prv c) true).trans (by decide)) () (owed₁ c) rfl)
    $$ [Hw HtP Hqr Hor]
  · isplitr; · iapply (inv_of m K (prv c) iBar); iexact HR
    isplitl [Hw]; · iexact Hw
    isplitl [HtP]; · iexact HtP
    isplitl [Hqr Hor]
    · rw [payload_bar_true]; unfold barPay; rw [nxt_prv]
      isplitl [Hqr]; · iexists fq; iexact Hqr
      iexists fo; iexact Hor
    · iapply (reached_of m K (prv c) iBar); iexact HR
  iintro Hw
  unfold owed₁
  iapply (Rounds.wp_signal 𝒱₀ EH (rd m) (c : Thread nD τ) none (dst := (nxt c : Thread nD τ)) (κ := K (nxt c, iBar)) (r := 0)
      (d := false) (by rw [duties_bar]; exact Finset.mem_univ _) ((amount_bar m (nxt c) false).trans (by decide)) () (owed c 0) rfl)
    $$ [Hw HtB]
  · isplitr; · iapply (inv_of m K (nxt c) iBar); iexact HR
    isplitl [Hw]; · iexact Hw
    isplitl [HtB]; · iexact HtB
    isplitr; · rw [payload_bar_false]; iempintro
    iapply (reached_of m K (nxt c) iBar); iexact HR
  iintro Hw
  iapply (Rounds.wp_wait_rest_token 𝒱₀ EH (rd m) (c : Thread nD τ) none (κ := K (c, iBar))
      (wpE_semWait_eq 𝒱₀ (c : Thread nD τ) none Set.univ) (Set.mem_univ _) () (O := owed c 0) (W := W) (R := 0) (m := 0) (T := ∅)
      (by rw [expect_bar]; decide)) $$ [HcB Hw HaB]
  · isplitr; · iapply (inv_of m K c iBar); iexact HR
    isplitl [HcB]; · iexact HcB
    isplitl [Hw]; · iexact Hw
    isplitr; · iapply (mayWait_bar (F := F) c); iexact Hlev
    iexact HaB
  iintro ⟨Hw, HaB, -, Hpay⟩
  ihave Hp := (Entails.of_eq (pay_bar m c)) $$ Hpay
  unfold barPay
  icases Hp with ⟨-, HnQ, HnO⟩
  imod (Rounds.cell_close EH (rd m) (Set.mem_univ (K (c, iBar))) (fun h => h) (R := 0 + 1) (duties_bar_later m c)) $$ [HaB] with HzB
  · isplitr; · iapply (inv_of m K c iBar); iexact HR
    iexact HaB
  iapply (wp_load 𝒱₀ (c : Thread nD τ) none Set.univ (m := qIn) (Finset.subset_univ _)) $$ Hx; iintro Hx
  rw [read_inQ]
  unfold ptsQ
  iapply (wp_load_rect 𝒱₀ (c : Thread nD τ) none Set.univ (m := qM) (r := rQ c) (f := fq) (S := slotQ c 0) (accQ_set c).subset) $$ Hq; iintro Hq
  iapply (wp_store 𝒱₀ (c : Thread nD τ) none Set.univ (m := qM) (r := rQ c) (Mk := Finset.univ) (f := fq) (S := slotQ c 0) (accQ_set c).subset) $$ Hq; iintro Hq
  iapply (wp_load 𝒱₀ (c : Thread nD τ) none Set.univ (m := oIn) (Finset.subset_univ _)) $$ Hy; iintro Hy
  rw [read_inO]
  unfold ptsO
  iapply (wp_load_rect 𝒱₀ (c : Thread nD τ) none Set.univ (m := oM) (r := rO c) (f := fo) (S := slotO c 0) (accO_set c).subset) $$ Ho; iintro Ho
  iapply (wp_store 𝒱₀ (c : Thread nD τ) none Set.univ (m := oM) (r := rO c) (Mk := Finset.univ) (f := fo) (S := slotO c 0) (accO_set c).subset) $$ Ho; iintro Ho
  ihave Hq := (Entails.of_eq (stored_ownQ m c fq)) $$ Hq
  ihave Ho := (Entails.of_eq (stored_ownO m c fo)) $$ Ho
  rw [Prog.bind_assoc]
  iapply (hops m K c _ _) $$ [Hq Ho HnQ HnO Hw HaQ HaO Hpass Hdue]
  · unfold inv
    rw [heldQ_zero, heldO_zero, later_zero, earlier_zero, bigSep_empty]
    isplitr; · iexact HR
    isplitr; · iexact Hlev
    isplitl [Hq]; · iexact Hq
    isplitl [Ho]; · iexact Ho
    isplitl [HnQ]; · iexact HnQ
    isplitl [HnO]; · iexact HnO
    isplitl [Hw]; · iexists _; iexact Hw
    isplitl [HaQ]; · iexact HaQ
    isplitr; · iapply (reached_of m K c iQS); iexact HR
    isplitl [HaO]; · iexact HaO
    isplitr; · iapply (reached_of m K c iOS); iexact HR
    isplitl [Hpass Hdue]
    · iapply ((Entails.of_eq (bigSep_sep' Finset.univ (pass (F := F) c) (due (F := F) c)).symm).trans (bigSep_mono fun h _ => item_eq (F := F) c h))
      isplitl [Hpass]; · iexact Hpass
      iexact Hdue
    iempintro
  iintro %u
  unfold inv
  rw [heldQ_all, heldO_all, earlier_all, owed_done]
  iintro ⟨-, -, Hq, Ho, -, -, Hw, HaQ, -, HaO, -, -, Hz⟩
  imod (Rounds.cell_close EH (rd m) (Set.mem_univ (K (c, iQS))) (fun h => h) (R := 15) (duties_qS_later m c)) $$ [HaQ] with HzQ
  · isplitr; · iapply (inv_of m K c iQS); iexact HR
    iexact HaQ
  imod (Rounds.cell_close EH (rd m) (Set.mem_univ (K (c, iOS))) (fun h => h) (R := 15) (duties_oS_later m c)) $$ [HaO] with HzO
  · isplitr; · iapply (inv_of m K c iOS); iexact HR
    iexact HaO
  rw [Prog.bind_ret, wp_ret]; imodintro
  iapply Hk
  unfold bodyPost rest ptsQ ptsO
  isplitl [Hz HzQ HzO HzB]
  · isplitl [Hz]; · iexact Hz
    isplitl [HzQ]; · iexact HzQ
    isplitl [HzO]; · iexact HzO
    iexact HzB
  isplitl [Hw]; · iexact Hw
  isplitl [Hx]; · iexact Hx
  isplitl [Hy]; · iexact Hy
  isplitl [Hq]; · iexact Hq
  iexact Ho

/-- The body as the launch asks for it. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show iprop(start m c ∗ (dats m 0 c).owesAt () t0_0.castSucc
      ∗ (∃ d, stg c cc0_stg0_0 ((dats m 0 c).before (0 : Fin 4) t0_0 d))
      ∗ (∃ d, stg c cc0_stg1_0 ((dats m 0 c).before (1 : Fin 4) t0_0 d))
      ∗ (∃ d, stg c cc0_stg2_0 ((dats m 0 c).before (2 : Fin 4) t0_0 d))
      ∗ (∃ d, stg c cc0_stg3_0 ((dats m 0 c).before (3 : Fin 4) t0_0 d))) ⊢ wp frame (wpE (defs₀ (F := F)) 𝒱₀ c none) Set.univ
    (cc0_body qIn (Memref.isWhole_whole _) oIn (Memref.isWhole_whole _) qM (Memref.isWhole_whole _) oM (Memref.isWhole_whole _)
      cc0_scratch0 cc0_scratch1 cc0_scratch2 cc0_scratch3)
    (fun _ => iprop(rest c ∗ (dats m 0 c).owesAt () t0_0.succ ∗ stg c cc0_stg0_0 (shardQ m c) ∗ stg c cc0_stg1_0 (shardO m c)
      ∗ stg c cc0_stg2_0 (outQ m) ∗ stg c cc0_stg3_0 (outO m)))
  simp only [before0, before1]
  unfold start Dat.owesAt Pipeline.owesWithin
  rw [show (dats m 0 c).owed t0_0.castSucc = owed₀ c from rfl, show (dats m 0 c).owed t0_0.succ = 0 from rfl]
  iintro ⟨⟨⟨%K, Hg⟩, Hrest⟩, ⟨%W, -, Hw⟩, ⟨%d0, %g0, %hg0, Hx⟩, ⟨%d1, %g1, %hg1, Hy⟩, ⟨%d2, %g2, -, Hq⟩, ⟨%d3, %g3, -, Ho⟩⟩
  subst hg0 hg1
  iapply (sound_body m K c _)
  unfold bodyPre
  isplitl
  · isplitl [Hg Hrest]
    · isplitl [Hg]; · iexact Hg
      iexact Hrest
    isplitl [Hw]; · iexists W; iexact Hw
    isplitl [Hx]; · iexact Hx
    isplitl [Hy]; · iexact Hy
    isplitl [Hq]; · iexists g2; iexact Hq
    iexists g3; iexact Ho
  unfold bodyPost
  iintro ⟨Hz, ⟨%W', Hw⟩, Hx, Hy, Hq, Ho⟩
  isplitl [Hz]; · iexact Hz
  isplitl [Hw]
  · iexists W'
    isplitr; · ipureintro; exact fun _ _ => Or.inl trivial
    iexact Hw
  isplitl [Hx]
  · iexists _; isplitr; · (ipureintro; rfl)
    iexact Hx
  isplitl [Hy]
  · iexists _; isplitr; · (ipureintro; rfl)
    iexact Hy
  isplitl [Hq]
  · iexists _; isplitr; · (ipureintro; rfl)
    iexact Hq
  iexists _; isplitr; · (ipureintro; rfl)
  iexact Ho

end Cert.Hop

end
-- ==== Proof.Hop.Launch.lean ====
/-
  The ring's launch: the protocol's state made and dealt around, and the run of the whole program.
-/
module

public import proofs.«01_k».proof.Proof.Hop.Body
public import Idealize.ShloMosaic.Lib.Pipeline.CollectiveSegs

@[expose] public section

noncomputable section

namespace Cert.Hop

open Cert.Ring Cert.Ring.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## The cells and their duties -/

theorem ownSemFacts : Pipeline.OwnSemFacts cfg0.spec osem := by decide +kernel

theorem share_eq (c : Dev nD) (w : Fin cfg0.W) : (dats m 0 c).share w = fullShare := by unfold Dat.share; split <;> rfl

theorem csem_injective : Function.Injective csem := by decide +kernel

theorem kcell_injective : Function.Injective (kcell : Dev nD × CI → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def ringCells : Finset (GSem nD τ sig) := Finset.univ.map ⟨kcell, kcell_injective⟩

/-- A device's own cells' duties: its barrier's two, and per array, end and hop one. -/
abbrev TI : Type := Bool ⊕ (Bool × Bool × Fin 15)
abbrev tokAt : TI → SemLoc sig × ℕ × Bool := fun
  | .inl b => (csem iBar, 0, b)
  | .inr (o, false, h) => (osem (o, .inl ()), h.val, false)
  | .inr (o, true, h) => (osem (o, .inr h), 0, false)
abbrev tokOf (cj : Dev nD × TI) : GSem nD τ sig × ℕ × Bool := (((cj.1 : Thread nD τ), (tokAt cj.2).1), (tokAt cj.2).2)
theorem tokAt_injective : Function.Injective tokAt := by decide +kernel
theorem tokOf_injective : Function.Injective (tokOf : Dev nD × TI → GSem nD τ sig × ℕ × Bool) := by
  rintro ⟨c, j⟩ ⟨c', j'⟩ h
  have h1 : c = c' := congrArg (fun x : GSem nD τ sig × ℕ × Bool => x.1.1.1) h
  have h2 : tokAt j = tokAt j' :=
    Prod.ext (congrArg (fun x : GSem nD τ sig × ℕ × Bool => x.1.2) h) (congrArg (fun x : GSem nD τ sig × ℕ × Bool => x.2) h)
  rw [h1, tokAt_injective h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

omit [FloatOps F] in
theorem big_unit (Φ : Unit → sProp 𝕄) : bigSep Finset.univ Φ = Φ () := by
  rw [bigSep_univ_eq_bigSepL [()] (by decide) (by decide), bigSepL_singleton]
omit [FloatOps F] in
theorem big_bool (Φ : Bool → sProp 𝕄) : bigSep Finset.univ Φ = iprop(Φ false ∗ Φ true) := by
  rw [bigSep_univ_eq_bigSepL [false, true] (by decide) (by decide), bigSepL_cons_cons, bigSepL_singleton]; rfl

omit [FloatOps F] in
/-- A product over the kernel's own semaphores, listed. -/
theorem big_KI (Φ : KI → sProp 𝕄) : bigSep Finset.univ Φ
    = iprop((Φ (false, .inl ()) ∗ bigSep Finset.univ fun h : Fin 15 => Φ (false, .inr h)) ∗ Φ (true, .inl ()) ∗ bigSep Finset.univ fun h : Fin 15 => Φ (true, .inr h)) := by
  rw [bigSep_univ_prod, big_bool, BI.bigSep_univ_sum, BI.bigSep_univ_sum, big_unit, big_unit]; rfl
omit [FloatOps F] in
theorem big_CI (Φ : CI → sProp 𝕄) : bigSep Finset.univ Φ
    = iprop(Φ iBar ∗ (Φ iQS ∗ bigSep Finset.univ fun h : Fin 15 => Φ (iQR h)) ∗ Φ iOS ∗ bigSep Finset.univ fun h : Fin 15 => Φ (iOR h)) := by
  rw [BI.bigSep_univ_sum, big_unit, big_KI]; rfl
omit [FloatOps F] in
theorem big_TI (Φ : TI → sProp 𝕄) : bigSep Finset.univ Φ
    = iprop((Φ (.inl false) ∗ Φ (.inl true))
      ∗ ((bigSep Finset.univ fun h : Fin 15 => Φ (.inr (false, false, h))) ∗ bigSep Finset.univ fun h : Fin 15 => Φ (.inr (false, true, h)))
      ∗ (bigSep Finset.univ fun h : Fin 15 => Φ (.inr (true, false, h))) ∗ bigSep Finset.univ fun h : Fin 15 => Φ (.inr (true, true, h))) := by
  rw [BI.bigSep_univ_sum, big_bool, bigSep_univ_prod, big_bool, bigSep_univ_prod, bigSep_univ_prod, big_bool, big_bool]; rfl

/-- The duty tokens of device `c`'s own cells. -/
def toks (c : Dev nD) : sProp 𝕄 :=
  iprop((dutyTok EH (barC c) 0 false ∗ dutyTok EH (barC c) 0 true)
    ∗ ((bigSep Finset.univ fun h : Fin 15 => dutyTok EH (qSC c) h.val false) ∗ bigSep Finset.univ fun h : Fin 15 => dutyTok EH (qRC c h) 0 false)
    ∗ (bigSep Finset.univ fun h : Fin 15 => dutyTok EH (oSC c) h.val false) ∗ bigSep Finset.univ fun h : Fin 15 => dutyTok EH (oRC c h) 0 false)

/-- What the launch deals device `c`, -/
def G (c : Dev nD) : sProp 𝕄 :=
  iprop((bigSep Finset.univ fun k : CI => roundState EH (rd m) (kcell (c, k)) 0)
    ∗ (bigSep Finset.univ fun k : CI => iprop(atPos EH (kcell (c, k)) 0 ∅ 0 ∗ reached EH (kcell (c, k)) 0)) ∗ toks c)
/-- and what is made of it. -/
def G' (c : Dev nD) : sProp 𝕄 := iprop(∃ K, ghost m K c)

omit [FloatOps F] in
theorem fund_ring : BI.own (EH (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok EH x.1 x.2.1 x.2.2 : sProp 𝕄)) = bigSep Finset.univ fun c : Dev nD => toks c := by
    unfold ringToks; rw [bigSep_map, bigSep_univ_prod]
    exact bigSep_congr fun c _ => by unfold toks; rw [big_TI]; rfl
  iintro HX
  imod (Rounds.fund EH (rd m) ringCells ringToks) $$ HX with ⟨Hst, Hr, Hat, Htok⟩
  imodintro
  ihave Hst' := (Entails.of_eq (hX fun g => roundState EH (rd m) g 0)) $$ Hst
  ihave Hat' := (Entails.of_eq (hX fun g => atPos EH g 0 ∅ 0)) $$ Hat
  ihave Hr' := (Entails.of_eq (hX fun g => reached EH g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
/-- The barrier semaphore is the one the launch does not scope. -/
theorem unscopedSems0_eq (c : Dev nD) : (unscopedSems0 c : sProp 𝕄) = semVal (barC c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, BI.bigSep_univ_sum, big_unit]
  unfold Pipeline.ownSems0
  show iprop((bigSep Finset.univ fun k : KI => semVal ((c : Thread nD τ), osem k) 0) ∗ semVal (barC c) 0)
    ⊢ (iprop(semVal (barC c) 0 ∗ bigSep Finset.univ fun k : KI => semVal ((c : Thread nD τ), osem k) 0) : sProp 𝕄)
  iintro ⟨HS, HB⟩
  isplitl [HB]; · iexact HB
  iexact HS

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EH (rd m) κ (kcell (c, k))))
          ∗ (bigSep Finset.univ fun k => iprop(atPos EH (kcell (c, k)) 0 ∅ 0 ∗ reached EH (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState EH (rd m) (kcell (c, k)) 0)
      ⊢ (|={Set.univ}=> bigSep Finset.univ fun k => iprop(∃ κ : ℕ, cellInv EH (rd m) κ (kcell (c, k))) : sProp 𝕄) from by
        rw [← bigSep_sep']
        exact (bigSep_mono fun k _ => (Rounds.body_intro EH (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around -/

/-- The tokens of the duties device `c` pays. -/
def payToks (c : Dev nD) : sProp 𝕄 :=
  iprop((dutyTok EH (barC (nxt c)) 0 false ∗ dutyTok EH (barC (prv c)) 0 true)
    ∗ ((bigSep Finset.univ fun h : Fin 15 => dutyTok EH (qSC c) h.val false) ∗ bigSep Finset.univ fun h : Fin 15 => dutyTok EH (qRC (nxt c) h) 0 false)
    ∗ (bigSep Finset.univ fun h : Fin 15 => dutyTok EH (oSC c) h.val false) ∗ bigSep Finset.univ fun h : Fin 15 => dutyTok EH (oRC (nxt c) h) 0 false)

omit [FloatOps F] in
theorem toks_around : (bigSep Finset.univ fun c : Dev nD => (toks (F := F) c)) = bigSep Finset.univ fun c : Dev nD => payToks (F := F) c := by
  unfold toks payToks
  simp only [bigSep_sep']
  rw [bigSep_univ_equiv around (fun c : Dev nD => (dutyTok EH (barC c) 0 false : sProp 𝕄)),
    bigSep_univ_equiv around.symm (fun c : Dev nD => (dutyTok EH (barC c) 0 true : sProp 𝕄)),
    bigSep_univ_equiv around (fun c : Dev nD => (bigSep Finset.univ fun h : Fin 15 => dutyTok EH (qRC c h) 0 false : sProp 𝕄)),
    bigSep_univ_equiv around (fun c : Dev nD => (bigSep Finset.univ fun h : Fin 15 => dutyTok EH (oRC c h) 0 false : sProp 𝕄))]
  rfl

/-- What stays with device `c`: its positions and those tokens. -/
def linear (c : Dev nD) : sProp 𝕄 := iprop((bigSep Finset.univ fun k : CI => (atPos EH (kcell (c, k)) 0 ∅ 0 : sProp 𝕄)) ∗ payToks c)

omit [FloatOps F] in
theorem ghost_intro (K : Dev nD × CI → ℕ) (c : Dev nD) : iprop(records m K ∗ linear (F := F) c) ⊢ G' m c := by
  unfold linear payToks G' ghost
  rw [big_CI]
  have hp : bigSep Finset.univ (pass (F := F) c) = iprop((bigSep Finset.univ fun h : Fin 15 => dutyTok EH (qSC c) h.val false)
      ∗ (bigSep Finset.univ fun h : Fin 15 => dutyTok EH (oSC c) h.val false)
      ∗ (bigSep Finset.univ fun h : Fin 15 => dutyTok EH (qRC (nxt c) h) 0 false) ∗ (bigSep Finset.univ fun h : Fin 15 => dutyTok EH (oRC (nxt c) h) 0 false)
      ∗ (bigSep Finset.univ fun h : Fin 15 => atPos EH (qRC c h) 0 ∅ 0) ∗ bigSep Finset.univ fun h : Fin 15 => atPos EH (oRC c h) 0 ∅ 0) := by
    unfold pass; simp only [bigSep_sep']
  rw [hp]
  iintro ⟨HR, ⟨HaB, ⟨HaQ, HaQR⟩, HaO, HaOR⟩, ⟨HtB, HtP⟩, ⟨HtQ, HtQR⟩, HtO, HtOR⟩
  iexists K
  isplitl [HR]; · iexact HR
  isplitl [HaB]; · iexact HaB
  isplitl [HaQ]; · iexact HaQ
  isplitl [HaO]; · iexact HaO
  isplitl [HtB]; · iexact HtB
  isplitl [HtP]; · iexact HtP
  isplitl [HtQ]; · iexact HtQ
  isplitl [HtO]; · iexact HtO
  isplitl [HtQR]; · iexact HtQR
  isplitl [HtOR]; · iexact HtOR
  isplitl [HaQR]; · iexact HaQR
  iexact HaOR

omit [FloatOps F] in
theorem big_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv EH (rd m) κ (kcell (c, k))))
          ∗ (bigSep Finset.univ fun k => iprop(atPos EH (kcell (c, k)) 0 ∅ 0 ∗ reached EH (kcell (c, k)) 0)) ∗ toks c) : sProp 𝕄)
      ⊢ bigSep Finset.univ (G' m) := by
  rw [bigSep_sep', bigSep_sep', ← bigSep_univ_prod (fun ck : Dev nD × CI => iprop(∃ κ : ℕ, cellInv EH (rd m) κ (kcell ck))),
    bigSep_congr (s := Finset.univ) (fun (c : Dev nD) _ => bigSep_sep' Finset.univ (fun k : CI => (atPos EH (kcell (c, k)) 0 ∅ 0 : sProp 𝕄)) (fun k => reached EH (kcell (c, k)) 0)),
    bigSep_sep', ← bigSep_univ_prod (fun ck : Dev nD × CI => (reached EH (kcell ck) 0 : sProp 𝕄)), toks_around]
  iintro ⟨HI, ⟨Hat, #HR⟩, Htk⟩
  ihave HK := (BI.bigSep_exists_pi Finset.univ (fun (ck : Dev nD × CI) (κ : ℕ) => (cellInv EH (rd m) κ (kcell ck) : sProp 𝕄))) $$ HI
  icases HK with ⟨%K, #HI⟩
  iapply (big_with_persistent (R := records m K) fun c _ => ghost_intro m K c)
  isplitr
  · unfold records; isplitl; · iexact HI
    iexact HR
  · iapply (Entails.of_eq (bigSep_sep' Finset.univ (fun c : Dev nD => bigSep Finset.univ fun k : CI => (atPos EH (kcell (c, k)) 0 ∅ 0 : sProp 𝕄)) (payToks (F := F))).symm)
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What the devices owe, by the cell's device. -/
def dueAt (c : Dev nD) : CellTallies nD τ sig Unit :=
  (∑ h : Fin 15, (tallyAt (oRC c h) () NO + tallyAt (qRC c h) () NQ)) + tallyAt (barC c) () 1 + tallyAt (barC c) () 1

theorem owed_sum : (∑ d, owed₀ d) = ∑ d, dueAt d := by
  unfold owed₀ owed₁ owed dueAt
  rw [later_zero]
  simp only [Finset.sum_add_distrib]
  have e1 := Equiv.sum_comp around (fun d : Dev nD => (∑ h : Fin 15, tallyAt (oRC d h) () NO : CellTallies nD τ sig Unit))
  have e2 := Equiv.sum_comp around (fun d : Dev nD => (∑ h : Fin 15, tallyAt (qRC d h) () NQ : CellTallies nD τ sig Unit))
  have e3 := Equiv.sum_comp around (fun d : Dev nD => (tallyAt (barC d) () 1 : CellTallies nD τ sig Unit))
  have e4 := Equiv.sum_comp around.symm (fun d : Dev nD => (tallyAt (barC d) () 1 : CellTallies nD τ sig Unit))
  exact congrArg₂ (· + ·) (congrArg₂ (· + ·) (congrArg₂ (· + ·) e1 e2) e3) e4

theorem tallyAt_off {g g' : GSem nD τ sig} (n : ℕ) (h : g' ≠ g) : (tallyAt g () n : CellTallies nD τ sig Unit) g' = 0 :=
  Finsupp.ext fun u => by rw [tallyAt_ne_cell h]

theorem dueAt_own (d : Dev nD) (g : GSem nD τ sig) (h : dueAt d g ≠ 0) : g.1 = (d : Thread nD τ) := by
  by_contra hn
  refine h ?_
  have hne (sm : SemLoc sig) : g ≠ ((d : Thread nD τ), sm) := fun e => hn (congrArg Prod.fst e)
  unfold dueAt
  rw [Pi.add_apply, Pi.add_apply, tallyAt_off _ (hne _), add_zero, add_zero, Finset.sum_apply]
  exact Finset.sum_eq_zero fun h _ => by rw [Pi.add_apply, tallyAt_off _ (hne _), tallyAt_off _ (hne _), add_zero]

omit [FloatOps F] in
theorem cred_add' (a b : CellTallies nD τ sig Unit) : (cred (a + b) : sProp 𝕄) = iprop(cred a ∗ cred b) :=
  BI.Entails.antisymm (cred_add _ _).1 (cred_add _ _).2

omit [FloatOps F] in
theorem due_intro (c : Dev nD) : (bigSep Finset.univ (fun h : Fin 15 => cred (tallyAt (oRC c h) () NO + tallyAt (qRC c h) () NQ)) : sProp 𝕄)
    ⊢ bigSep Finset.univ (due (F := F) c) :=
  bigSep_mono fun h _ => by
    rw [cred_add']; unfold due
    show iprop(cred (tallyAt (oRC c h) () NO) ∗ cred (tallyAt (qRC c h) () NQ)) ⊢ (iprop(cred (tallyAt (qRC c h) () NQ) ∗ cred (tallyAt (oRC c h) () NO)) : sProp 𝕄)
    iintro ⟨H1, H2⟩
    isplitl [H2]; · iexact H2
    iexact H1

omit [FloatOps F] in
theorem creds (c : Dev nD) :
    (Pipeline.launchCred owed₀ c : sProp 𝕄) ⊢ iprop(cred (tallyAt (barC c) () 2) ∗ bigSep Finset.univ (due (F := F) c)) := by
  rw [Pipeline.launchCred_of_sum owed₀ dueAt owed_sum dueAt_own c]
  unfold dueAt
  rw [add_assoc, tallyAt_add, cred_add', Pipeline.cred_finsetSum]
  iintro ⟨H1, H2⟩
  isplitl [H2]; · iexact H2
  ihave H := (due_intro (F := F) c) $$ H1
  iexact H

/-! ## The side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨Hs, -, -⟩
  iexact Hs

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = rest c from rfl, scopedRest0_eq, unscopedSems0_eq]
  unfold rest Pipeline.ownSems0
  rw [big_KI]
  have hl : bigSep Finset.univ (left (F := F) c) = iprop((bigSep Finset.univ fun h : Fin 15 => semVal (qRC c h) 0) ∗ bigSep Finset.univ fun h : Fin 15 => semVal (oRC c h) 0) := by
    unfold left; rw [bigSep_sep']
  rw [hl]
  iintro ⟨⟨HQ, HO⟩, HzQ, HzO, HzB⟩
  isplitl [HzB]; · iexact HzB
  isplitl
  · isplitl [HQ HzQ]
    · isplitl [HzQ]; · iexact HzQ
      iexact HQ
    · isplitl [HzO]; · iexact HzO
      iexact HO
  · iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every weakly fair run of the program on the sixteen devices ends, with each window's array at its final contents and
    every semaphore at zero. -/
theorem run_main : θ_run (defs (F := F)) (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem finalA_arg0 (c : Dev nD) : finalA m c (0 : Fin 4) = m ((c : Thread nD τ).loc main_arg0) :=
  (dats (F := F) m 0 c).arrAt_in (0 : Fin 4) rfl _
theorem finalA_arg1 (c : Dev nD) : finalA m c (1 : Fin 4) = m ((c : Thread nD τ).loc main_arg1) :=
  (dats (F := F) m 0 c).arrAt_in (1 : Fin 4) rfl _

omit [FloatOps F] in
theorem read_out0 (f : Vec F S16x512x256 .bf16) : (win0_2.blk (0 : Fin 1)).view.read (Elt F) f = f :=
  Memref.read_access_unit_zero (Elt F) main_v1_0 (funext fun a => by fin_cases a <;> decide) (fun a => by fin_cases a <;> decide) f
omit [FloatOps F] in
theorem read_out1 (f : Vec F S16x256x512 .bf16) : (win0_3.blk (0 : Fin 1)).view.read (Elt F) f = f :=
  Memref.read_access_unit_zero (Elt F) main_v1_1 (funext fun a => by fin_cases a <;> decide) (fun a => by fin_cases a <;> decide) f

theorem finalA_out0 (c : Dev nD) : finalA m c (2 : Fin 4) = outQ m := by
  refine (read_out0 (F := F) _).symm.trans ?_
  unfold finalA
  rw [show cfg0.N = ((0 : Fin 1) : Fin cfg0.N).val + 1 from rfl, (dats m 0 c).arrAt_succ (2 : Fin 4) (0 : Fin 1)]
  rw [show (cfg0.win 2).flush (0 : Fin 1) = true from by decide, if_pos rfl]
  exact View.read_write_univ _ _
theorem finalA_out1 (c : Dev nD) : finalA m c (3 : Fin 4) = outO m := by
  refine (read_out1 (F := F) _).symm.trans ?_
  unfold finalA
  rw [show cfg0.N = ((0 : Fin 1) : Fin cfg0.N).val + 1 from rfl, (dats m 0 c).arrAt_succ (3 : Fin 4) (0 : Fin 1)]
  rw [show (cfg0.win 3).flush (0 : Fin 1) = true from by decide, if_pos rfl]
  exact View.read_write_univ _ _

end Cert.Hop

end
-- ==== Proof.Hop.Claims.lean ====
/-
  The three claims of the ring: it runs to rest, its reference does, and its results are the reference's on every device.
-/
module

public import proofs.«01_k».proof.Defs
public import proofs.«01_k».proof.Proof.Hop.Launch
public import proofs.«01_k».proof.Proof.Gen.Gather
public import proofs.«01_k».proof.Proof.Gen.Gather.Run
public import Idealize.ShloMosaic.Lib.Quiescent
public import Idealize.ShloMosaic.Lib.PointwiseCore

@[expose] public section

noncomputable section

namespace Cert.Hop

open Idealize.ShloMosaic Idealize.SL.Sem

variable {F : FTy → Type} [FloatOps F]

open Cert.Ring in
/-- The ring's end: both gathered arrays on every device, the shards unchanged, every semaphore at zero. -/
theorem run_ring (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v1_0) = outQ m
      ∧ r.2.mem ((c.tc : Thread nD τ).loc main_v1_1) = outO m
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c 2).trans (finalA_out0 m c), (h.1 c 3).trans (finalA_out1 m c),
      (h.1 c 0).trans (finalA_arg0 m c), (h.1 c 1).trans (finalA_arg1 m c)⟩, h.2⟩) (run_main m ρ)

theorem frame_ring : Cert.quiescent_Ring := fun m ρ _ =>
  (θ_run (Cert.Ring.defs (F := Bits)) _ _).mono (fun _ h => ⟨fun c => (h.1 c).2.2, h.2⟩) (run_ring (F := Bits) m ρ)

theorem frame_gather : Cert.quiescent_Gather := fun m ρ _ =>
  (θ_run (Cert.Gather.defs (F := Bits)) _ _).mono (fun r h => ⟨fun c => (h c).2.2, sem_eq_zero_of_no_sems rfl r.2⟩)
    (Cert.Gather.Value.run m ρ)

/-- The columns of the whole array in sixteen blocks, the block's number in front. -/
def wholeQ (v : Vec F Cert.Gather.S512x4096 .bf16) : Vec F Cert.Gather.S16x512x256 .bf16 :=
  transpose Cert.Gather.S16x512x256 [1, 0, 2] (shapeCast _ v Cert.Gather.Gen.shapeCasts_S512x4096_S512x16x256)
    Cert.Gather.Gen.transposes_S512x16x256_S16x512x256_1_0_2
/-- Its rows. -/
def wholeO (v : Vec F Cert.Gather.S4096x512 .bf16) : Vec F Cert.Gather.S16x256x512 .bf16 :=
  shapeCast _ v Cert.Gather.Gen.shapeCasts_S4096x512_S16x256x512

theorem wholeQ_apply (v : Vec F Cert.Gather.S512x4096 .bf16) (j : Fin 16) (a : Fin 512) (b : Fin 256) :
    wholeQ v (ix3 j a b) = v (ix2 a ⟨j.val * 256 + b.val, by omega⟩) := by
  pointwise [wholeQ]

theorem wholeO_apply (v : Vec F Cert.Gather.S4096x512 .bf16) (j : Fin 16) (a : Fin 256) (b : Fin 512) :
    wholeO v (ix3 j a b) = v (ix2 ⟨j.val * 256 + a.val, by omega⟩ b) := by
  pointwise [wholeO]

theorem blockQ_apply (v : Vec F Cert.Gather.S512x4096 .bf16) (c : Fin 16) (a : Fin 512) (b : Fin 256) :
    Layout.block ⟨2, ![512, 256]⟩ ⟨2, ![512, 4096]⟩ 1 16 c v (by decide) (ix2 a b) = v (ix2 a ⟨c.val * 256 + b.val, by omega⟩) :=
  congrArg v (funext fun x => Fin.ext (by match x with | 0 => rfl | 1 => rfl))

theorem blockO_apply (v : Vec F Cert.Gather.S4096x512 .bf16) (c : Fin 16) (a : Fin 256) (b : Fin 512) :
    Layout.block ⟨2, ![256, 512]⟩ ⟨2, ![4096, 512]⟩ 0 16 c v (by decide) (ix2 a b) = v (ix2 ⟨c.val * 256 + a.val, by omega⟩ b) :=
  congrArg v (funext fun x => Fin.ext (by match x with | 0 => rfl | 1 => rfl))

theorem outQ_whole (m : (ℓ : Loc Cert.Ring.nD Cert.Ring.τ Cert.Ring.sig) → Buf (Elt F) ℓ) (v : Vec F Cert.Gather.S512x4096 .bf16)
    (h : ∀ c : Dev Cert.Ring.nD, shardQ m c = Layout.block ⟨2, ![512, 256]⟩ ⟨2, ![512, 4096]⟩ 1 16 c v (by decide)) : outQ m = wholeQ v := by
  funext y
  rw [eq_ix3 y]
  refine Eq.trans ?_ (wholeQ_apply v (y 0) (y 1) (y 2)).symm
  show shardQ m (y 0) (ix2 (y 1) (y 2)) = _
  exact (congrFun (h (y 0)) (ix2 (y 1) (y 2))).trans (blockQ_apply v (y 0) (y 1) (y 2))

theorem outO_whole (m : (ℓ : Loc Cert.Ring.nD Cert.Ring.τ Cert.Ring.sig) → Buf (Elt F) ℓ) (v : Vec F Cert.Gather.S4096x512 .bf16)
    (h : ∀ c : Dev Cert.Ring.nD, shardO m c = Layout.block ⟨2, ![256, 512]⟩ ⟨2, ![4096, 512]⟩ 0 16 c v (by decide)) : outO m = wholeO v := by
  funext y
  rw [eq_ix3 y]
  refine Eq.trans ?_ (wholeO_apply v (y 0) (y 1) (y 2)).symm
  show shardO m (y 0) (ix2 (y 1) (y 2)) = _
  exact (congrFun (h (y 0)) (ix2 (y 1) (y 2))).trans (blockO_apply v (y 0) (y 1) (y 2))

theorem ring_values : Cert.bitexact_Ring_Gather := fun m ρ m' ρ' _ hargs =>
  ⟨wholeQ (m' (((0 : Dev Cert.Gather.nD).tc : Thread Cert.Gather.nD Cert.Gather.τ).loc Cert.Gather.main_arg0)),
    wholeO (m' (((0 : Dev Cert.Gather.nD).tc : Thread Cert.Gather.nD Cert.Gather.τ).loc Cert.Gather.main_arg1)),
    (θ_run (Cert.Ring.defs (F := Bits)) _ _).mono (fun _ h c =>
      ⟨(h.1 c).1.trans (outQ_whole m _ fun d => (hargs d).1), (h.1 c).2.1.trans (outO_whole m _ fun d => (hargs d).2), (h.1 c).2.2⟩)
      (run_ring (F := Bits) m ρ),
    (θ_run (Cert.Gather.defs (F := Bits)) _ _).mono (fun _ h => h 0) (Cert.Gather.Value.run m' ρ')⟩

end Cert.Hop

end
-- ==== Proof.Own.Names.lean ====
/-
  The names of the ring as it is written, and of the altered ring beside it in which every hop sends a device's own shard:
  a device's neighbours, the age of a slot of the gathered arrays (how many hops a shard has made on its way to a device),
  the slots as sets of indices, and what a device holds when the altered ring is done.
-/
module

public import proofs.«01_k».proof.Proof.Gen.Written
public import proofs.«01_k».proof.Proof.Gen.Written.Skeleton
public import proofs.«01_k».proof.Proof.Gen.Written.Launch
public import proofs.«01_k».proof.Proof.Gen.Written.Points
public import Idealize.ShloMosaic.Lib.Pipeline.Launch
public import Idealize.ShloMosaic.Lib.Pipeline.Kit
public import Idealize.ShloMosaic.Lib.Tactic
public import Idealize.ShloMosaic.Lib.PointwiseCore

@[expose] public section

noncomputable section

namespace Cert.Own

open Cert.Written Cert.Written.Gen
open Idealize.ShloMosaic Idealize.ShloMosaic.TcCoe
open Idealize.SL Idealize.SL.Sem

variable {F : FTy → Type} [FloatOps F]

/-! ## The ring of sixteen devices -/

set_option backward.proofsInPublic true in
/-- The device a shard goes to. -/
def nxt (c : Dev nD) : Dev nD := ⟨(c.val + 1) % 16, Nat.mod_lt _ (by decide)⟩
set_option backward.proofsInPublic true in
/-- The device a shard comes from. -/
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

theorem dev1_prv (c : Dev nD) : (⟨k0_dev1 c, k0_dev1_lt c⟩ : Dev nD) = prv c := Fin.ext (k0_dev1_eq c)
theorem dev2_nxt (c : Dev nD) : (⟨k0_dev2 c, k0_dev2_lt c⟩ : Dev nD) = nxt c := Fin.ext (k0_dev2_eq c)
theorem dev3_nxt (c : Dev nD) : (⟨k0_dev3 c, k0_dev3_lt c⟩ : Dev nD) = nxt c := Fin.ext (k0_dev3_eq c)
theorem dev4_nxt (c : Dev nD) : (⟨k0_dev4 c, k0_dev4_lt c⟩ : Dev nD) = nxt c := Fin.ext (k0_dev4_eq c)

/-- Going round the ring, as a permutation of the devices. -/
def around : Dev nD ≃ Dev nD := ⟨nxt, prv, prv_nxt, nxt_prv⟩

theorem trips15 : k0_t1_loop.trips = 15 := by decide +kernel
theorem t_lt (t : Fin k0_t1_loop.trips) : t.val < 15 := lt_of_lt_of_eq t.isLt trips15

/-! ## Ages and slots -/

/-- How many hops the shard of device `j` has made when it reaches device `c`. -/
def age (c : Dev nD) (j : ℕ) : ℕ := (c.val + 16 - j) % 16

theorem age_nxt (c : Dev nD) (j k : ℕ) (hj : j < 16) (hk : k < 15) : age (nxt c) j = k + 1 ↔ age c j = k := by
  have hc : c.val < 16 := c.isLt
  unfold age nxt; dsimp only; omega

theorem age_src (c : Dev nD) (j k : ℕ) (hj : j < 16) (hk : k < 16) : j = (c.val + 32 - k) % 16 ↔ age c j = k := by
  have hc : c.val < 16 := c.isLt
  unfold age; omega

theorem age_own (c : Dev nD) (j : ℕ) (hj : j < 16) : j = c.val ↔ age c j = 0 := by
  have hc : c.val < 16 := c.isLt
  unfold age; omega

theorem age_lt (c : Dev nD) (j : ℕ) : age c j < 16 := Nat.mod_lt _ (by decide)

/-- The slots of the first gathered array: the one of age `k`, those of age at most `k`, and those still to be sent on. -/
def slotQ (c : Dev nD) (k : ℕ) : Finset S16x512x256.Idx := Finset.univ.filter fun i => age c (i 0).val = k
def heldQ (c : Dev nD) (k : ℕ) : Finset S16x512x256.Idx := Finset.univ.filter fun i => age c (i 0).val ≤ k
def restQ (c : Dev nD) (k : ℕ) : Finset S16x512x256.Idx := Finset.univ.filter fun i => k ≤ age c (i 0).val ∧ age c (i 0).val < 15
/-- The same of the second. -/
def slotO (c : Dev nD) (k : ℕ) : Finset S16x256x512.Idx := Finset.univ.filter fun i => age c (i 0).val = k
def heldO (c : Dev nD) (k : ℕ) : Finset S16x256x512.Idx := Finset.univ.filter fun i => age c (i 0).val ≤ k
def restO (c : Dev nD) (k : ℕ) : Finset S16x256x512.Idx := Finset.univ.filter fun i => k ≤ age c (i 0).val ∧ age c (i 0).val < 15

theorem slotQ_nxt (c : Dev nD) {k : ℕ} (hk : k < 15) : slotQ (nxt c) (k + 1) = slotQ c k :=
  Finset.filter_congr fun i _ => age_nxt c _ k (i 0).isLt hk
theorem slotO_nxt (c : Dev nD) {k : ℕ} (hk : k < 15) : slotO (nxt c) (k + 1) = slotO c k :=
  Finset.filter_congr fun i _ => age_nxt c _ k (i 0).isLt hk

theorem heldQ_zero (c : Dev nD) : heldQ c 0 = slotQ c 0 := Finset.filter_congr fun i _ => Nat.le_zero
theorem heldO_zero (c : Dev nD) : heldO c 0 = slotO c 0 := Finset.filter_congr fun i _ => Nat.le_zero
theorem heldQ_all (c : Dev nD) : heldQ c 15 = Finset.univ := Finset.filter_true_of_mem fun i _ => Nat.le_of_lt_succ (age_lt c _)
theorem heldO_all (c : Dev nD) : heldO c 15 = Finset.univ := Finset.filter_true_of_mem fun i _ => Nat.le_of_lt_succ (age_lt c _)

theorem slotQ_sub_held (c : Dev nD) (k : ℕ) : slotQ c k ⊆ heldQ c k := Finset.monotone_filter_right _ fun i _ h => le_of_eq h
theorem slotO_sub_held (c : Dev nD) (k : ℕ) : slotO c k ⊆ heldO c k := Finset.monotone_filter_right _ fun i _ h => le_of_eq h
theorem slotQ_sub_rest (c : Dev nD) {k : ℕ} (hk : k < 15) : slotQ c k ⊆ restQ c k :=
  Finset.monotone_filter_right _ fun i _ h => ⟨le_of_eq h.symm, by rw [h]; exact hk⟩
theorem slotO_sub_rest (c : Dev nD) {k : ℕ} (hk : k < 15) : slotO c k ⊆ restO c k :=
  Finset.monotone_filter_right _ fun i _ h => ⟨le_of_eq h.symm, by rw [h]; exact hk⟩
theorem restQ_next (c : Dev nD) (k : ℕ) : restQ c k \ slotQ c k = restQ c (k + 1) := by
  ext i; simp only [restQ, slotQ, Finset.mem_sdiff, Finset.mem_filter, Finset.mem_univ, true_and]; omega
theorem restO_next (c : Dev nD) (k : ℕ) : restO c k \ slotO c k = restO c (k + 1) := by
  ext i; simp only [restO, slotO, Finset.mem_sdiff, Finset.mem_filter, Finset.mem_univ, true_and]; omega
theorem heldQ_succ (c : Dev nD) (k : ℕ) : heldQ c k ∪ slotQ c (k + 1) = heldQ c (k + 1) := by
  ext i; simp only [heldQ, slotQ, Finset.mem_union, Finset.mem_filter, Finset.mem_univ, true_and]; omega
theorem heldO_succ (c : Dev nD) (k : ℕ) : heldO c k ∪ slotO c (k + 1) = heldO c (k + 1) := by
  ext i; simp only [heldO, slotO, Finset.mem_union, Finset.mem_filter, Finset.mem_univ, true_and]; omega
theorem heldQ_disj (c : Dev nD) (k : ℕ) : Disjoint (heldQ c k) (slotQ c (k + 1)) := by
  rw [Finset.disjoint_left]; intro i; simp only [heldQ, slotQ, Finset.mem_filter, Finset.mem_univ, true_and]; omega
theorem heldO_disj (c : Dev nD) (k : ℕ) : Disjoint (heldO c k) (slotO c (k + 1)) := by
  rw [Finset.disjoint_left]; intro i; simp only [heldO, slotO, Finset.mem_filter, Finset.mem_univ, true_and]; omega
/-- All but a device's own slot are, seen from the device before it, the slots that one is to send on. -/
theorem others_eq_restQ (c : Dev nD) : (Finset.univ : Finset S16x512x256.Idx) \ slotQ c 0 = restQ (prv c) 0 := by
  ext i; simp only [restQ, slotQ, Finset.mem_sdiff, Finset.mem_filter, Finset.mem_univ, true_and]
  have hc : c.val < 16 := c.isLt
  have hi : (i 0).val < 16 := (i 0).isLt
  unfold age prv; dsimp only; omega
theorem others_eq_restO (c : Dev nD) : (Finset.univ : Finset S16x256x512.Idx) \ slotO c 0 = restO (prv c) 0 := by
  ext i; simp only [restO, slotO, Finset.mem_sdiff, Finset.mem_filter, Finset.mem_univ, true_and]
  have hc : c.val < 16 := c.isLt
  have hi : (i 0).val < 16 := (i 0).isLt
  unfold age prv; dsimp only; omega

/-! ## The buffers and the views of a slot -/

abbrev qIn : Memref sig .tc .vmem S512x256 .bf16 := Memref.whole cc0_stg0_0
abbrev oIn : Memref sig .tc .vmem S256x512 .bf16 := Memref.whole cc0_stg1_0
abbrev qM : Memref sig .tc .vmem S16x512x256 .bf16 := Memref.whole cc0_stg2_0
abbrev oM : Memref sig .tc .vmem S16x256x512 .bf16 := Memref.whole cc0_stg3_0

/-- The view of one slot, at a given offset, as a copy takes it. -/
abbrev qSlot (off : Fin 3 → ℕ) (h : ∀ a, off a + S1x512x256.size a ≤ S16x512x256.size a) : Memref sig .tc .vmem S512x256 .bf16 :=
  (qM.slice (Rect.unit (s := S16x512x256) off S1x512x256.size h) (fun _ => rfl)).squeeze S512x256 squeezes_S1x512x256_S512x256
abbrev oSlot (off : Fin 3 → ℕ) (h : ∀ a, off a + S1x256x512.size a ≤ S16x256x512.size a) : Memref sig .tc .vmem S256x512 .bf16 :=
  (oM.slice (Rect.unit (s := S16x256x512) off S1x256x512.size h) (fun _ => rfl)).squeeze S256x512 squeezes_S1x256x512_S256x512

theorem rectQ_set (off : Fin 3 → ℕ) (h) (j : ℕ) (ho : off = ![j, 0, 0]) :
    (Rect.unit (s := S16x512x256) off S1x512x256.size h).set = Finset.univ.filter fun i => (i 0).val = j := by
  subst ho
  ext i
  rw [Rect.mem_set_unit, Finset.mem_filter]
  constructor
  · intro hi
    have h0 := hi 0
    refine ⟨Finset.mem_univ _, ?_⟩
    have h1 : j ≤ (i 0).val := h0.1
    have h2 : (i 0).val < j + 1 := h0.2
    omega
  · rintro ⟨-, hi⟩ a
    fin_cases a
    · exact ⟨le_of_eq hi.symm, by show (i 0).val < j + 1; omega⟩
    · exact ⟨Nat.zero_le _, by show (i 1).val < 0 + 512; rw [Nat.zero_add]; exact (i 1).isLt⟩
    · exact ⟨Nat.zero_le _, by show (i 2).val < 0 + 256; rw [Nat.zero_add]; exact (i 2).isLt⟩

theorem rectO_set (off : Fin 3 → ℕ) (h) (j : ℕ) (ho : off = ![j, 0, 0]) :
    (Rect.unit (s := S16x256x512) off S1x256x512.size h).set = Finset.univ.filter fun i => (i 0).val = j := by
  subst ho
  ext i
  rw [Rect.mem_set_unit, Finset.mem_filter]
  constructor
  · intro hi
    have h0 := hi 0
    refine ⟨Finset.mem_univ _, ?_⟩
    have h1 : j ≤ (i 0).val := h0.1
    have h2 : (i 0).val < j + 1 := h0.2
    omega
  · rintro ⟨-, hi⟩ a
    fin_cases a
    · exact ⟨le_of_eq hi.symm, by show (i 0).val < j + 1; omega⟩
    · exact ⟨Nat.zero_le _, by show (i 1).val < 0 + 256; rw [Nat.zero_add]; exact (i 1).isLt⟩
    · exact ⟨Nat.zero_le _, by show (i 2).val < 0 + 512; rw [Nat.zero_add]; exact (i 2).isLt⟩

theorem accQ_set (c : Dev nD) : (qM.access (Rect.unit (s := S16x512x256) (k0_off1 c) S1x512x256.size (k0_off1_inb c)) : View sig .tc _ _ _).set = slotQ c 0 :=
  (View.set_slice_whole _ _).trans ((rectQ_set _ _ _ (k0_off1_eq c)).trans (Finset.filter_congr fun i _ => age_own c _ (i 0).isLt))
theorem accO_set (c : Dev nD) : (oM.access (Rect.unit (s := S16x256x512) (k0_off2 c) S1x256x512.size (k0_off2_inb c)) : View sig .tc _ _ _).set = slotO c 0 :=
  (View.set_slice_whole _ _).trans ((rectO_set _ _ _ (k0_off2_eq c)).trans (Finset.filter_congr fun i _ => age_own c _ (i 0).isLt))

theorem qSlot_set (c : Dev nD) (t : Fin k0_t1_loop.trips) : (qSlot (k0_off3 c t) (k0_off3_inb c t)).view.set = slotQ c t.val :=
  (View.set_reshape _ _).trans ((View.set_slice_whole _ _).trans ((rectQ_set _ _ _ (k0_off3_eq c t)).trans
    (Finset.filter_congr fun i _ => age_src c _ _ (i 0).isLt (by have := t_lt t; omega))))
theorem oSlot_set (c : Dev nD) (t : Fin k0_t1_loop.trips) : (oSlot (k0_off4 c t) (k0_off4_inb c t)).view.set = slotO c t.val :=
  (View.set_reshape _ _).trans ((View.set_slice_whole _ _).trans ((rectO_set _ _ _ (k0_off4_eq c t)).trans
    (Finset.filter_congr fun i _ => age_src c _ _ (i 0).isLt (by have := t_lt t; omega))))

/-- The credits of the two copies of a hop. -/
def NQ : ℕ := (qSlot ![0, 0, 0] (by decide)).view.dmaCredit
def NO : ℕ := (oSlot ![0, 0, 0] (by decide)).view.dmaCredit
theorem NQ_pos : 0 < NQ := View.dmaCredit_pos _ (by decide)
theorem NO_pos : 0 < NO := View.dmaCredit_pos _ (by decide)
theorem credit_qSlot (off h) : (qSlot off h).view.dmaCredit = NQ := rfl
theorem credit_oSlot (off h) : (oSlot off h).view.dmaCredit = NO := rfl

/-! ## The gathered arrays -/

section Contents

variable (m : (ℓ : Loc nD τ sig) → Buf (Elt F) ℓ)

/-- The shards of device `c`. -/
def shardQ (c : Dev nD) : Vec F S512x256 .bf16 := m ((c : Thread nD τ).loc main_arg0)
def shardO (c : Dev nD) : Vec F S256x512 .bf16 := m ((c : Thread nD τ).loc main_arg1)

/-- What device `c` holds when the altered ring is done: its own shard in its own slot, the shard of the device before it in
    every other. -/
def gotQ (c : Dev nD) : Vec F S16x512x256 .bf16 := fun i => shardQ m (if (i 0).val = c.val then c else prv c) (ix2 (i 1) (i 2))
def gotO (c : Dev nD) : Vec F S16x256x512 .bf16 := fun i => shardO m (if (i 0).val = c.val then c else prv c) (ix2 (i 1) (i 2))

abbrev rQ (c : Dev nD) : Rect S16x512x256 := Rect.unit (s := S16x512x256) (k0_off1 c) S1x512x256.size (k0_off1_inb c)
abbrev rO (c : Dev nD) : Rect S16x256x512 := Rect.unit (s := S16x256x512) (k0_off2 c) S1x256x512.size (k0_off2_inb c)

theorem idxQ (off : Fin 3 → ℕ) (inb : ∀ a, off a + S1x512x256.size a ≤ S16x512x256.size a) (k : ℕ) (h : off = ![k, 0, 0])
    (j : Fin 16) (hj : j.val = k) (a : Fin 512) (b : Fin 256) :
    (Rect.unit (s := S16x512x256) off S1x512x256.size inb).idx (ix3 (0 : Fin 1) a b) = ix3 j a b := by
  subst h
  funext d; apply Fin.ext
  match d with
  | ⟨0, _⟩ => show k + 1 * 0 = j.val; omega
  | ⟨1, _⟩ => show 0 + 1 * a.val = a.val; omega
  | ⟨2, _⟩ => show 0 + 1 * b.val = b.val; omega

theorem idxO (off : Fin 3 → ℕ) (inb : ∀ a, off a + S1x256x512.size a ≤ S16x256x512.size a) (k : ℕ) (h : off = ![k, 0, 0])
    (j : Fin 16) (hj : j.val = k) (a : Fin 256) (b : Fin 512) :
    (Rect.unit (s := S16x256x512) off S1x256x512.size inb).idx (ix3 (0 : Fin 1) a b) = ix3 j a b := by
  subst h
  funext d; apply Fin.ext
  match d with
  | ⟨0, _⟩ => show k + 1 * 0 = j.val; omega
  | ⟨1, _⟩ => show 0 + 1 * a.val = a.val; omega
  | ⟨2, _⟩ => show 0 + 1 * b.val = b.val; omega

theorem pay1_at (w : Vec F S512x256 .bf16) (a : Fin 512) (b : Fin 256) : k0_pay1 w (ix3 (0 : Fin 1) a b) = w (ix2 a b) := by
  pointwise [k0_pay1]
theorem pay2_at (w : Vec F S256x512 .bf16) (a : Fin 256) (b : Fin 512) : k0_pay2 w (ix3 (0 : Fin 1) a b) = w (ix2 a b) := by
  pointwise [k0_pay2]

theorem own_eq (c : Dev nD) (j : Fin 16) (h : age c j.val = 0) : j = c := Fin.ext ((age_own c _ j.isLt).mpr h)

/-- A device's store of its own shard leaves its own slot at the gathered array. -/
theorem store_ownQ (c : Dev nD) (f : Vec F S16x512x256 .bf16) (i : S16x512x256.Idx) (hi : i ∈ slotQ c 0) :
    (qM.access (rQ c) : View sig .tc _ _ _).write (Elt F) f (k0_pay1 (shardQ m c)) Finset.univ i = gotQ m c i := by
  have h0 : (i 0 : Fin 16) = c := own_eq c (i 0) (Finset.mem_filter.mp hi).2
  have e : (qM.access (rQ c) : View sig .tc _ _ _).emb (ix3 (0 : Fin 1) (i 1) (i 2)) = i := by
    refine (idxQ _ _ _ (k0_off1_eq c) (i 0) (congrArg Fin.val h0) (i 1) (i 2)).trans (eq_ix3 i).symm
  have w := View.write_emb_of_mem (v := (qM.access (rQ c) : View sig .tc _ _ _)) f (k0_pay1 (shardQ m c)) (M := Finset.univ) (Finset.mem_univ (ix3 (0 : Fin 1) (i 1) (i 2)))
  refine ((congrArg ((qM.access (rQ c) : View sig .tc _ _ _).write (Elt F) f (k0_pay1 (shardQ m c)) Finset.univ) e).symm.trans w).trans
    ((pay1_at (shardQ m c) (i 1) (i 2)).trans ?_)
  show shardQ m c _ = shardQ m (if (i 0).val = c.val then c else prv c) _
  rw [if_pos (congrArg Fin.val h0)]

theorem store_ownO (c : Dev nD) (f : Vec F S16x256x512 .bf16) (i : S16x256x512.Idx) (hi : i ∈ slotO c 0) :
    (oM.access (rO c) : View sig .tc _ _ _).write (Elt F) f (k0_pay2 (shardO m c)) Finset.univ i = gotO m c i := by
  have h0 : (i 0 : Fin 16) = c := own_eq c (i 0) (Finset.mem_filter.mp hi).2
  have e : (oM.access (rO c) : View sig .tc _ _ _).emb (ix3 (0 : Fin 1) (i 1) (i 2)) = i := by
    refine (idxO _ _ _ (k0_off2_eq c) (i 0) (congrArg Fin.val h0) (i 1) (i 2)).trans (eq_ix3 i).symm
  have w := View.write_emb_of_mem (v := (oM.access (rO c) : View sig .tc _ _ _)) f (k0_pay2 (shardO m c)) (M := Finset.univ) (Finset.mem_univ (ix3 (0 : Fin 1) (i 1) (i 2)))
  refine ((congrArg ((oM.access (rO c) : View sig .tc _ _ _).write (Elt F) f (k0_pay2 (shardO m c)) Finset.univ) e).symm.trans w).trans
    ((pay2_at (shardO m c) (i 1) (i 2)).trans ?_)
  show shardO m c _ = shardO m (if (i 0).val = c.val then c else prv c) _
  rw [if_pos (congrArg Fin.val h0)]

/-- Where a slot's view puts the index whose place in one slot is `w`. -/
theorem qSlot_emb (off h) (j : Fin 16) (ho : off = ![j.val, 0, 0]) (y : S512x256.Idx) :
    (qSlot off h).view.emb y
      = ix3 j (Shape.reshapeEquiv squeezes_S1x512x256_S512x256.numel_eq y 1) (Shape.reshapeEquiv squeezes_S1x512x256_S512x256.numel_eq y 2) := by
  have e := idxQ off h j.val ho j rfl (Shape.reshapeEquiv squeezes_S1x512x256_S512x256.numel_eq y 1) (Shape.reshapeEquiv squeezes_S1x512x256_S512x256.numel_eq y 2)
  refine Eq.trans ?_ e
  show (Rect.unit (s := S16x512x256) off S1x512x256.size h).idx (Shape.reshapeEquiv squeezes_S1x512x256_S512x256.numel_eq y) = _
  refine congrArg _ ((eq_ix3 (Shape.reshapeEquiv squeezes_S1x512x256_S512x256.numel_eq y)).trans ?_)
  rw [Subsingleton.elim (α := Fin 1) (Shape.reshapeEquiv squeezes_S1x512x256_S512x256.numel_eq y 0) 0]
theorem oSlot_emb (off h) (j : Fin 16) (ho : off = ![j.val, 0, 0]) (y : S256x512.Idx) :
    (oSlot off h).view.emb y
      = ix3 j (Shape.reshapeEquiv squeezes_S1x256x512_S256x512.numel_eq y 1) (Shape.reshapeEquiv squeezes_S1x256x512_S256x512.numel_eq y 2) := by
  have e := idxO off h j.val ho j rfl (Shape.reshapeEquiv squeezes_S1x256x512_S256x512.numel_eq y 1) (Shape.reshapeEquiv squeezes_S1x256x512_S256x512.numel_eq y 2)
  refine Eq.trans ?_ e
  show (Rect.unit (s := S16x256x512) off S1x256x512.size h).idx (Shape.reshapeEquiv squeezes_S1x256x512_S256x512.numel_eq y) = _
  refine congrArg _ ((eq_ix3 (Shape.reshapeEquiv squeezes_S1x256x512_S256x512.numel_eq y)).trans ?_)
  rw [Subsingleton.elim (α := Fin 1) (Shape.reshapeEquiv squeezes_S1x256x512_S256x512.numel_eq y 0) 0]

/-- The first hop. -/
def hop0 : Fin k0_t1_loop.trips := ⟨0, by rw [trips15]; decide⟩

/-- The slot of hop `t`, as a number. -/
def slotNo (c : Dev nD) (t : Fin k0_t1_loop.trips) : Fin 16 := ⟨(c.val + 32 - t.val) % 16, Nat.mod_lt _ (by decide)⟩
theorem slotNo_hop0 (c : Dev nD) : slotNo c hop0 = c := by
  have hc : c.val < 16 := c.isLt
  refine Fin.ext ?_; show (c.val + 32 - 0) % 16 = c.val; omega
theorem slotNo_ne (c : Dev nD) (t : Fin k0_t1_loop.trips) : (slotNo c t).val ≠ (nxt c).val := by
  have hc : c.val < 16 := c.isLt
  have := t_lt t
  show (c.val + 32 - t.val) % 16 ≠ (c.val + 1) % 16; omega

/-- A copy of a device's own slot into the slot of hop `t` of the next device leaves there what that device is to hold. -/
theorem landQ (c : Dev nD) (t : Fin k0_t1_loop.trips) (f : Vec F S16x512x256 .bf16) (i : S16x512x256.Idx) (hi : i ∈ slotQ c t.val) :
    (qSlot (k0_off3 c t) (k0_off3_inb c t)).view.write (Elt F) f ((qSlot (k0_off3 c hop0) (k0_off3_inb c hop0)).view.read (Elt F) (gotQ m c)) Finset.univ i = gotQ m (nxt c) i := by
  rw [← qSlot_set c t] at hi
  obtain ⟨y, -, rfl⟩ := Finset.mem_map.mp hi
  refine (View.write_emb_of_mem (v := (qSlot (k0_off3 c t) (k0_off3_inb c t)).view) f _ (Finset.mem_univ y)).trans ?_
  show gotQ m c ((qSlot (k0_off3 c hop0) (k0_off3_inb c hop0)).view.emb y) = gotQ m (nxt c) ((qSlot (k0_off3 c t) (k0_off3_inb c t)).view.emb y)
  rw [qSlot_emb _ _ (slotNo c hop0) (k0_off3_eq c hop0) y, qSlot_emb _ _ (slotNo c t) (k0_off3_eq c t) y]
  unfold gotQ
  refine congrArg (fun d => shardQ m d _) ?_
  exact (if_pos (congrArg Fin.val (slotNo_hop0 c))).trans ((if_neg (slotNo_ne c t)).trans (prv_nxt c)).symm
theorem landO (c : Dev nD) (t : Fin k0_t1_loop.trips) (f : Vec F S16x256x512 .bf16) (i : S16x256x512.Idx) (hi : i ∈ slotO c t.val) :
    (oSlot (k0_off4 c t) (k0_off4_inb c t)).view.write (Elt F) f ((oSlot (k0_off4 c hop0) (k0_off4_inb c hop0)).view.read (Elt F) (gotO m c)) Finset.univ i = gotO m (nxt c) i := by
  rw [← oSlot_set c t] at hi
  obtain ⟨y, -, rfl⟩ := Finset.mem_map.mp hi
  refine (View.write_emb_of_mem (v := (oSlot (k0_off4 c t) (k0_off4_inb c t)).view) f _ (Finset.mem_univ y)).trans ?_
  show gotO m c ((oSlot (k0_off4 c hop0) (k0_off4_inb c hop0)).view.emb y) = gotO m (nxt c) ((oSlot (k0_off4 c t) (k0_off4_inb c t)).view.emb y)
  rw [oSlot_emb _ _ (slotNo c hop0) (k0_off4_eq c hop0) y, oSlot_emb _ _ (slotNo c t) (k0_off4_eq c t) y]
  unfold gotO
  refine congrArg (fun d => shardO m d _) ?_
  exact (if_pos (congrArg Fin.val (slotNo_hop0 c))).trans ((if_neg (slotNo_ne c t)).trans (prv_nxt c)).symm

end Contents

end Cert.Own

end
-- ==== Proof.Own.Ring.lean ====
/-
  The ring's body told once for two programs: in hop `t` the copies are taken out of the slots of hop `g t`. With `g t = t` it
  is the body as it is written; with `g t` the first hop throughout it is the altered ring, which sends a device's own
  shard in every hop.
-/
module

public import proofs.«01_k».proof.Proof.Own.Names

@[expose] public section

noncomputable section

namespace Cert.Own

open Cert.Written Cert.Written.Gen
open Idealize.ShloMosaic Idealize.ShloMosaic.TcCoe
open Idealize.SL Idealize.SL.Sem

variable {F : FTy → Type} [FloatOps F]

abbrev Trip : Type := Fin k0_t1_loop.trips

/-- The slots of hop `t` on device `c`. -/
abbrev qAt (c : Dev nD) (t : Trip) : Memref sig .tc .vmem S512x256 .bf16 := qSlot (k0_off3 c t) (k0_off3_inb c t)
abbrev oAt (c : Dev nD) (t : Trip) : Memref sig .tc .vmem S256x512 .bf16 := oSlot (k0_off4 c t) (k0_off4_inb c t)

theorem qAt_exact (c : Dev nD) (t : Trip) : (qAt c t).view.WordExact :=
  ((Memref.isWhole_whole cc0_stg2_0).wordExact_slice rfl _ (k0_off3_wordsbf16 c t)).reshape _ _
theorem oAt_exact (c : Dev nD) (t : Trip) : (oAt c t).view.WordExact :=
  ((Memref.isWhole_whole cc0_stg3_0).wordExact_slice rfl _ (k0_off4_wordsbf16 c t)).reshape _ _

/-- A hop: the two copies out of the slots of hop `g t` into the slots of hop `t` of the next device, and their four waits. -/
def hopOf (g : Trip → Trip) (c : Dev nD) (t : Trip) (_ : Unit) : Prog (TpuEff nD τ sig (Elt F) Λ₀ .tc) Unit := do
  Prog.lift (.enqueueDma (qAt c (g t)) (.remote (Dev.tc (⟨k0_dev3 c, k0_dev3_lt c⟩ : Dev nD)) (qAt c t) (.dma (cc0_scratch0 : DmaSems sig S_).sem))
    (.dma (cc0_scratch1 : DmaSems sig S_).sem) (qAt_exact c (g t)) (qAt_exact c t) ⟨⟨rfl, Or.inl rfl⟩, trivial⟩)
  Prog.lift (.enqueueDma (oAt c (g t)) (.remote (Dev.tc (⟨k0_dev4 c, k0_dev4_lt c⟩ : Dev nD)) (oAt c t) (.dma (cc0_scratch2 : DmaSems sig S_).sem))
    (.dma (cc0_scratch3 : DmaSems sig S_).sem) (oAt_exact c (g t)) (oAt_exact c t) ⟨⟨rfl, Or.inl rfl⟩, trivial⟩)
  Prog.lift (.waitDma2 (cc0_scratch0 : DmaSems sig S_).sem (qAt c t) (qAt c t) (qAt_exact c t) (qAt_exact c t))
  Prog.lift (.waitDma2 (cc0_scratch1 : DmaSems sig S_).sem (qAt c t) (qAt c t) (qAt_exact c t) (qAt_exact c t))
  Prog.lift (.waitDma2 (cc0_scratch2 : DmaSems sig S_).sem (oAt c t) (oAt c t) (oAt_exact c t) (oAt_exact c t))
  Prog.lift (.waitDma2 (cc0_scratch3 : DmaSems sig S_).sem (oAt c t) (oAt c t) (oAt_exact c t) (oAt_exact c t))
  pure ⟨⟩

/-- The body: the handshake with both neighbours, a device's own shards put in its own slots, and the hops. -/
def bodyOf (g : Trip → Trip) : Prog (TpuEff nD τ sig (Elt F) Λ₀ .tc) PUnit := do
  let c : Dev nD ← Prog.lift .deviceId
  Prog.lift (.semSignal (Dev.tc (⟨k0_dev1 c, k0_dev1_lt c⟩ : Dev nD)) (SemArray.scalar (sig.barrier 0 rfl) : Sems sig S_).sem (1#32).toInt)
  Prog.lift (.semSignal (Dev.tc (⟨k0_dev2 c, k0_dev2_lt c⟩ : Dev nD)) (SemArray.scalar (sig.barrier 0 rfl) : Sems sig S_).sem (1#32).toInt)
  Prog.lift (.semWait (SemArray.scalar (sig.barrier 0 rfl) : Sems sig S_).sem (2#32).toInt)
  let x : Vec F S512x256 .bf16 ← Prog.lift (.load qIn (Rect.unit (s := S512x256) ![0, 0] S512x256.size inb_S512x256_S512x256_0_0).toLoadRect (View.loadsAt_vmem h_S512x256))
  let _ : Vec F S1x512x256 .bf16 ← Prog.lift (.load qM (rQ c).toLoadRect (View.loadsAt_vmem h_S1x512x256))
  Prog.lift (.store qM (rQ c) (k0_pay1 x) Finset.univ
    (View.stores_vmem h_S1x512x256 ((Memref.isWhole_whole cc0_stg2_0).storeExact_slice rfl _ (k0_off1_packedbf16 c)) (fun _ => rfl)) (.inl rfl))
  let y : Vec F S256x512 .bf16 ← Prog.lift (.load oIn (Rect.unit (s := S256x512) ![0, 0] S256x512.size inb_S256x512_S256x512_0_0).toLoadRect (View.loadsAt_vmem h_S256x512))
  let _ : Vec F S1x256x512 .bf16 ← Prog.lift (.load oM (rO c).toLoadRect (View.loadsAt_vmem h_S1x256x512))
  Prog.lift (.store oM (rO c) (k0_pay2 y) Finset.univ
    (View.stores_vmem h_S1x256x512 ((Memref.isWhole_whole cc0_stg3_0).storeExact_slice rfl _ (k0_off2_packedbf16 c)) (fun _ => rfl)) (.inl rfl))
  Scf.Loop.for k0_t1_loop k0_t1_ok ⟨⟩ (hopOf g c)
  pure ⟨⟩

/-- The altered ring's body table, and its program's. -/
def lateDefs₀ : Defs nD τ sig (Elt F) Λ₀ := Defs.onTc fun
  | 0, _ => bodyOf fun _ => hop0
  | ⟨_ + 1, h⟩, _ => absurd h (Nat.not_lt.2 (Nat.le_add_left _ _))
def lateDefs : Defs nD τ sig (Elt F) (Pipeline.Sig Λ₀ (Fin 1) fun p => (pcfgs (F := F) p).Adm) := Pipeline.defs pcfgs lateDefs₀

theorem hop_written (v2 v7 : BitVec 32) (c : Dev nD) :
    k0_t1_body (F := F) qIn (Memref.isWhole_whole _) oIn (Memref.isWhole_whole _) qM (Memref.isWhole_whole _) oM (Memref.isWhole_whole _)
      cc0_scratch0 cc0_scratch1 cc0_scratch2 cc0_scratch3 c v2 v7 = hopOf (fun t => t) c := by
  funext t u
  unfold k0_t1_body
  rw [k0_part1_eq_skeleton]
  rfl

/-- The body as it is written. -/
theorem body_written :
    cc0_body (F := F) qIn (Memref.isWhole_whole _) oIn (Memref.isWhole_whole _) qM (Memref.isWhole_whole _) oM (Memref.isWhole_whole _)
      cc0_scratch0 cc0_scratch1 cc0_scratch2 cc0_scratch3 = bodyOf fun t => t := by
  rw [cc0_body_eq_skeleton]; unfold cc0_body_skel
  rw [k0_part2_eq_skeleton]; unfold k0_part2_skel
  simp only [hop_written]
  unfold bodyOf
  simp only [semSignalWord, semWaitWord, Prog.lift, Prog.bind_op, Prog.bind_ret, Prog.pure_eq_ret, Prog.bind_assoc]

end Cert.Own

end
-- ==== Proof.Own.Sched.lean ====
/-
  The protocol of the altered ring: which semaphore is raised in which round, what each raise hands over, what each device
  owes at the start, and in which order the waits may stand. A device's fifteen receives on one semaphore are one round of
  fifteen duties, a duty to a hop: only when all fifteen are in is it known of each slot that it has come.
-/
module

public import proofs.«01_k».proof.Proof.Own.Ring

@[expose] public section

noncomputable section

namespace Cert.Own

open Cert.Written Cert.Written.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The staging pipeline's rounds (one duty each) beside the ring's (two duties at a barrier, one at a send's end, fifteen at the receives'). -/
abbrev UH : Type := URounds (GSem nD τ sig) (Fin 15)
abbrev UU : Type := UR sig nD τ × UH

local notation "𝕄" => MT nD τ sig (Fin 15) (Elt F) ℕ UU ℕ

abbrev EP : Emb (UR sig nD τ) (MT nD τ sig (Fin 15) (Elt F) ℕ UU ℕ) := embL
abbrev EH : Emb UH (MT nD τ sig (Fin 15) (Elt F) ℕ UU ℕ) := embR

variable (m : (ℓ : Loc nD τ sig) → Buf (Elt F) ℓ)

/-! ## The cells -/

abbrev barS : Sem sig := (SemArray.scalar (sig.barrier 0 rfl) : Sems sig S_).sem
/-- The two send semaphores, and the two receive semaphores. -/
abbrev qS : DmaSem sig := (cc0_scratch0 : DmaSems sig S_).sem
abbrev oS : DmaSem sig := (cc0_scratch2 : DmaSems sig S_).sem
abbrev qR : DmaSem sig := (cc0_scratch1 : DmaSems sig S_).sem
abbrev oR : DmaSem sig := (cc0_scratch3 : DmaSems sig S_).sem

abbrev barC (c : Dev nD) : GSem nD τ sig := ((c : Thread nD τ), .reg barS)
abbrev qSC (c : Dev nD) : GSem nD τ sig := ((c : Thread nD τ), .dma qS)
abbrev oSC (c : Dev nD) : GSem nD τ sig := ((c : Thread nD τ), .dma oS)
abbrev qRC (c : Dev nD) : GSem nD τ sig := ((c : Thread nD τ), .dma qR)
abbrev oRC (c : Dev nD) : GSem nD τ sig := ((c : Thread nD τ), .dma oR)

theorem qS_val : (qS : Fin 8).val = 4 := by decide
theorem qR_val : (qR : Fin 8).val = 5 := by decide
theorem oS_val : (oS : Fin 8).val = 6 := by decide
theorem oR_val : (oR : Fin 8).val = 7 := by decide

/-! ## What is handed over -/

/-- The elements `S` of device `c`'s first gathered array, at contents `f`; of the second. -/
def ptsQ (c : Dev nD) (S : Finset S16x512x256.Idx) (f : Vec F S16x512x256 .bf16) : sProp 𝕄 :=
  ((c : Thread nD τ).loc cc0_stg2_0) ↦[S]{fullShare} f
def ptsO (c : Dev nD) (S : Finset S16x256x512.Idx) (f : Vec F S16x256x512 .bf16) : sProp 𝕄 :=
  ((c : Thread nD τ).loc cc0_stg3_0) ↦[S]{fullShare} f

omit [FloatOps F] in
instance ptsQ_storable (c : Dev nD) (S f) : BI.Storable (upEmb : UEmb _ 𝕄) (ptsQ (F := F) c S f) := by unfold ptsQ; infer_instance
omit [FloatOps F] in
instance ptsO_storable (c : Dev nD) (S f) : BI.Storable (upEmb : UEmb _ 𝕄) (ptsO (F := F) c S f) := by unfold ptsO; infer_instance

/-- What the next device's signal hands over: its two gathered arrays but for its own slots. -/
def barPay (c : Dev nD) : sProp 𝕄 := iprop((∃ f, ptsQ (F := F) (nxt c) (restQ c 0) f) ∗ (∃ f, ptsO (F := F) (nxt c) (restO c 0) f))

/-- What a copy's end hands over: at a send semaphore the device's own slot back, at a receive semaphore the slot of hop `d`. -/
def dmaPay (c : Dev nD) (q : ℕ) (d : Fin 15) : sProp 𝕄 :=
  if q = 4 then ptsQ c (slotQ c 0) (gotQ m c)
  else if q = 5 then ptsQ c (slotQ c (d.val + 1)) (gotQ m c)
  else if q = 6 then ptsO c (slotO c 0) (gotO m c)
  else ptsO c (slotO c (d.val + 1)) (gotO m c)

def dmaDuties (q r : ℕ) : Finset (Fin 15) :=
  if q = 4 ∨ q = 6 then (if r < 15 then {0} else ∅) else if 4 < q ∧ r = 0 then Finset.univ else ∅

/-- The rounds of the ring's cells. -/
def rd : Rounds.Schedule (GSem nD τ sig) (Fin 15) 𝕄 where
  duties g r := if g.1.2 = .tc then
      match g.2 with
      | .reg _ => if r = 0 then {0, 1} else ∅
      | .dma q => dmaDuties q.val r
    else ∅
  unitless _ := False
  amount g _ _ := match g.2 with
    | .reg _ => 1
    | .dma q => if q.val < 6 then NQ else NO
  payload g r d := match g.2 with
    | .reg _ => if d = 1 then barPay g.1.1 else iprop(emp)
    | .dma q => dmaPay m g.1.1 q.val d
  amount_pos g _ _ _ := by
    rcases g.2 with s | q
    · exact Nat.one_pos
    · dsimp only; split
      · exact NQ_pos
      · exact NO_pos

instance rd_storable (g : GSem nD τ sig) (r : ℕ) (d : Fin 15) : BI.Storable (upEmb : UEmb _ 𝕄) ((rd (F := F) m).payload g r d) := by
  obtain ⟨t, sm⟩ := g
  rcases sm with s | q
  · show BI.Storable upEmb (if d = 1 then barPay (F := F) t.1 else iprop(emp))
    unfold barPay; split <;> infer_instance
  · show BI.Storable upEmb (dmaPay m t.1 q.val d)
    unfold dmaPay
    (repeat' split) <;> infer_instance

section Facts
variable (c : Dev nD)

omit [FloatOps F] in
theorem duties_bar : (rd (F := F) m).duties (barC c) 0 = {0, 1} := rfl
omit [FloatOps F] in
theorem duties_bar_later : ∀ r, 1 ≤ r → (rd (F := F) m).duties (barC c) r = ∅ := fun r hr => by
  show (if r = 0 then {0, 1} else ∅) = ∅
  rw [if_neg (by omega)]
omit [FloatOps F] in
theorem duties_qS {r : ℕ} (hr : r < 15) : (rd (F := F) m).duties (qSC c) r = {0} := by
  show dmaDuties (qS : Fin 8).val r = _
  unfold dmaDuties; rw [if_pos (Or.inl qS_val), if_pos hr]
omit [FloatOps F] in
theorem duties_qS_later : ∀ r, 15 ≤ r → (rd (F := F) m).duties (qSC c) r = ∅ := fun r hr => by
  show dmaDuties (qS : Fin 8).val r = _
  unfold dmaDuties; rw [if_pos (Or.inl qS_val), if_neg (by omega)]
omit [FloatOps F] in
theorem duties_qR : (rd (F := F) m).duties (qRC c) 0 = Finset.univ := by
  show dmaDuties (qR : Fin 8).val 0 = _
  unfold dmaDuties; rw [qR_val, if_neg (by decide), if_pos ⟨by decide, rfl⟩]
omit [FloatOps F] in
theorem duties_qR_later : ∀ r, 1 ≤ r → (rd (F := F) m).duties (qRC c) r = ∅ := fun r hr => by
  show dmaDuties (qR : Fin 8).val r = _
  unfold dmaDuties; rw [qR_val, if_neg (by decide), if_neg (by omega)]
omit [FloatOps F] in
theorem amount_qS (r : ℕ) (d : Fin 15) : (rd (F := F) m).amount (qSC c) r d = NQ := by
  show (if (qS : Fin 8).val < 6 then NQ else NO) = NQ
  rw [qS_val]; rfl
omit [FloatOps F] in
theorem amount_qR (r : ℕ) (d : Fin 15) : (rd (F := F) m).amount (qRC c) r d = NQ := by
  show (if (qR : Fin 8).val < 6 then NQ else NO) = NQ
  rw [qR_val]; rfl
omit [FloatOps F] in
theorem payload_qS (r : ℕ) (d : Fin 15) : (rd (F := F) m).payload (qSC c) r d = ptsQ c (slotQ c 0) (gotQ m c) := by
  show dmaPay m c (qS : Fin 8).val d = _
  rw [qS_val]; rfl
omit [FloatOps F] in
theorem payload_qR (r : ℕ) (d : Fin 15) : (rd (F := F) m).payload (qRC c) r d = ptsQ c (slotQ c (d.val + 1)) (gotQ m c) := by
  show dmaPay m c (qR : Fin 8).val d = _
  rw [qR_val]; rfl
omit [FloatOps F] in
theorem expect_qS {r : ℕ} (hr : r < 15) : (rd (F := F) m).expect (qSC c) r = NQ := by
  unfold Schedule.expect Schedule.amountOf; rw [duties_qS m c hr, Finset.sum_singleton, amount_qS]
omit [FloatOps F] in
theorem expect_qR : (rd (F := F) m).expect (qRC c) 0 = 15 * NQ := by
  unfold Schedule.expect Schedule.amountOf
  rw [duties_qR, Finset.sum_congr rfl fun d _ => amount_qR m c 0 d, Finset.sum_const, Finset.card_univ, Fintype.card_fin, smul_eq_mul]
omit [FloatOps F] in
theorem pay_qS {r : ℕ} (hr : r < 15) : bigSep ((rd (F := F) m).duties (qSC c) r \ ∅) (fun d => (rd (F := F) m).payload (qSC c) r d) = ptsQ c (slotQ c 0) (gotQ m c) := by
  rw [Finset.sdiff_empty, duties_qS m c hr, bigSep_singleton, payload_qS]
omit [FloatOps F] in
theorem duties_oS {r : ℕ} (hr : r < 15) : (rd (F := F) m).duties (oSC c) r = {0} := by
  show dmaDuties (oS : Fin 8).val r = _
  unfold dmaDuties; rw [if_pos (Or.inr oS_val), if_pos hr]
omit [FloatOps F] in
theorem duties_oS_later : ∀ r, 15 ≤ r → (rd (F := F) m).duties (oSC c) r = ∅ := fun r hr => by
  show dmaDuties (oS : Fin 8).val r = _
  unfold dmaDuties; rw [if_pos (Or.inr oS_val), if_neg (by omega)]
omit [FloatOps F] in
theorem duties_oR : (rd (F := F) m).duties (oRC c) 0 = Finset.univ := by
  show dmaDuties (oR : Fin 8).val 0 = _
  unfold dmaDuties; rw [oR_val, if_neg (by decide), if_pos ⟨by decide, rfl⟩]
omit [FloatOps F] in
theorem duties_oR_later : ∀ r, 1 ≤ r → (rd (F := F) m).duties (oRC c) r = ∅ := fun r hr => by
  show dmaDuties (oR : Fin 8).val r = _
  unfold dmaDuties; rw [oR_val, if_neg (by decide), if_neg (by omega)]
omit [FloatOps F] in
theorem amount_oS (r : ℕ) (d : Fin 15) : (rd (F := F) m).amount (oSC c) r d = NO := by
  show (if (oS : Fin 8).val < 6 then NQ else NO) = NO
  rw [oS_val]; rfl
omit [FloatOps F] in
theorem amount_oR (r : ℕ) (d : Fin 15) : (rd (F := F) m).amount (oRC c) r d = NO := by
  show (if (oR : Fin 8).val < 6 then NQ else NO) = NO
  rw [oR_val]; rfl
omit [FloatOps F] in
theorem payload_oS (r : ℕ) (d : Fin 15) : (rd (F := F) m).payload (oSC c) r d = ptsO c (slotO c 0) (gotO m c) := by
  show dmaPay m c (oS : Fin 8).val d = _
  rw [oS_val]; rfl
omit [FloatOps F] in
theorem payload_oR (r : ℕ) (d : Fin 15) : (rd (F := F) m).payload (oRC c) r d = ptsO c (slotO c (d.val + 1)) (gotO m c) := by
  show dmaPay m c (oR : Fin 8).val d = _
  rw [oR_val]; rfl
omit [FloatOps F] in
theorem expect_oS {r : ℕ} (hr : r < 15) : (rd (F := F) m).expect (oSC c) r = NO := by
  unfold Schedule.expect Schedule.amountOf; rw [duties_oS m c hr, Finset.sum_singleton, amount_oS]
omit [FloatOps F] in
theorem expect_oR : (rd (F := F) m).expect (oRC c) 0 = 15 * NO := by
  unfold Schedule.expect Schedule.amountOf
  rw [duties_oR, Finset.sum_congr rfl fun d _ => amount_oR m c 0 d, Finset.sum_const, Finset.card_univ, Fintype.card_fin, smul_eq_mul]
omit [FloatOps F] in
theorem pay_oS {r : ℕ} (hr : r < 15) : bigSep ((rd (F := F) m).duties (oSC c) r \ ∅) (fun d => (rd (F := F) m).payload (oSC c) r d) = ptsO c (slotO c 0) (gotO m c) := by
  rw [Finset.sdiff_empty, duties_oS m c hr, bigSep_singleton, payload_oS]
omit [FloatOps F] in
theorem amount_bar (d : Fin 15) : (rd (F := F) m).amount (barC c) 0 d = 1 := rfl
omit [FloatOps F] in
theorem payload_bar_next : (rd (F := F) m).payload (barC c) 0 1 = barPay c := rfl
omit [FloatOps F] in
theorem payload_bar_prev : (rd (F := F) m).payload (barC c) 0 0 = iprop(emp) := rfl
omit [FloatOps F] in
theorem expect_bar : (rd (F := F) m).expect (barC c) 0 = 2 := rfl
omit [FloatOps F] in
theorem pay_bar : bigSep ((rd (F := F) m).duties (barC c) 0 \ ∅) (fun d => (rd (F := F) m).payload (barC c) 0 d) = iprop(emp ∗ barPay c) := by
  rw [Finset.sdiff_empty, duties_bar, bigSep_insert (by decide), bigSep_singleton, payload_bar_prev, payload_bar_next]
  rfl

end Facts

/-! ## The hops still to come, and what is owed -/

def later (k : ℕ) : Finset (Fin 15) := Finset.univ.filter fun h => k ≤ h.val
def earlier (k : ℕ) : Finset (Fin 15) := Finset.univ.filter fun h => h.val < k

theorem later_zero : later 0 = Finset.univ := Finset.filter_true_of_mem fun h _ => Nat.zero_le _
theorem earlier_zero : earlier 0 = ∅ := Finset.filter_false_of_mem fun h _ => Nat.not_lt_zero _
theorem earlier_all : earlier 15 = Finset.univ := Finset.filter_true_of_mem fun h _ => h.isLt
theorem later_all : later 15 = ∅ := Finset.filter_false_of_mem fun h _ => Nat.not_le_of_lt h.isLt
theorem not_mem_later (h : Fin 15) : h ∉ later (h.val + 1) := fun hm => Nat.not_succ_le_self _ (Finset.mem_filter.mp hm).2
theorem not_mem_earlier (h : Fin 15) : h ∉ earlier h.val := fun hm => Nat.lt_irrefl _ (Finset.mem_filter.mp hm).2
theorem later_insert (h : Fin 15) : later h.val = insert h (later (h.val + 1)) := by
  ext x; simp only [later, Finset.mem_filter, Finset.mem_insert, Finset.mem_univ, true_and, Fin.ext_iff]; omega
theorem earlier_insert (h : Fin 15) : earlier (h.val + 1) = insert h (earlier h.val) := by
  ext x; simp only [earlier, Finset.mem_filter, Finset.mem_insert, Finset.mem_univ, true_and, Fin.ext_iff]; omega

/-- What a device owes from hop `k` on: of every hop the credits of the two copies into the next device. -/
def owed (c : Dev nD) (k : ℕ) : CellTallies nD τ sig (Fin 15) :=
  ∑ h ∈ later k, (tallyAt (oRC (nxt c)) h NO + tallyAt (qRC (nxt c)) h NQ)
/-- What it owes besides before its second signal, and before its first. -/
def owed₁ (c : Dev nD) : CellTallies nD τ sig (Fin 15) := owed c 0 + tallyAt (barC (nxt c)) 0 1
def owed₀ (c : Dev nD) : CellTallies nD τ sig (Fin 15) := owed₁ c + tallyAt (barC (prv c)) 0 1

theorem owed_step (c : Dev nD) (h : Fin 15) :
    owed c h.val = (owed c (h.val + 1) + tallyAt (oRC (nxt c)) h NO) + tallyAt (qRC (nxt c)) h NQ := by
  unfold owed
  rw [later_insert, Finset.sum_insert (not_mem_later h), add_comm, add_assoc]

theorem owed_done (c : Dev nD) : owed c 15 = 0 := by unfold owed; rw [later_all, Finset.sum_empty]

def L (g : GSem nD τ sig) : Finset (Fin 15) := if g.1.2 = .tc then Finset.univ else ∅
/-- The order of the waits: a barrier before every hop, a hop's receives before the later hops'; sends and staging copies first. -/
def lv (g : GSem nD τ sig) (u : Fin 15) : ℕ := match g.2 with
  | .reg _ => 1
  | .dma q => if q.val = 5 ∨ q.val = 7 then 2 + u.val else 0

theorem L_of_ne (g : GSem nD τ sig) (h : g.1.2 ≠ .tc) : L g = ∅ := if_neg h
theorem L_tc (c : Dev nD) (sm : SemLoc sig) : L ((c : Thread nD τ), sm) = Finset.univ := if_pos rfl

theorem lv_qR (c : Dev nD) (h : Fin 15) : lv (qRC c) h = 2 + h.val := by
  show (if (qR : Fin 8).val = 5 ∨ (qR : Fin 8).val = 7 then 2 + h.val else 0) = 2 + h.val
  exact if_pos (Or.inl qR_val)
theorem lv_oR (c : Dev nD) (h : Fin 15) : lv (oRC c) h = 2 + h.val := by
  show (if (oR : Fin 8).val = 5 ∨ (oR : Fin 8).val = 7 then 2 + h.val else 0) = 2 + h.val
  exact if_pos (Or.inr oR_val)
theorem lv_bar (c : Dev nD) (h : Fin 15) : lv (barC c) h = 1 := rfl
theorem lv_qS (c : Dev nD) (h : Fin 15) : lv (qSC c) h = 0 := by
  show (if (qS : Fin 8).val = 5 ∨ (qS : Fin 8).val = 7 then 2 + h.val else 0) = 0
  exact if_neg (by rw [qS_val]; decide)
theorem lv_oS (c : Dev nD) (h : Fin 15) : lv (oSC c) h = 0 := by
  show (if (oS : Fin 8).val = 5 ∨ (oS : Fin 8).val = 7 then 2 + h.val else 0) = 0
  exact if_neg (by rw [oS_val]; decide)

theorem tallyAt_pos {g g' : GSem nD τ sig} {n : ℕ} {u u' : Fin 15} (h : 0 < (tallyAt g u n : CellTallies nD τ sig (Fin 15)) g' u') : g' = g ∧ u' = u := by
  rw [tallyAt_apply] at h
  by_contra hn
  rw [if_neg hn] at h
  exact Nat.lt_irrefl 0 h

theorem owed_pos {c : Dev nD} {k : ℕ} {g : GSem nD τ sig} {u : Fin 15} (h : 0 < owed c k g u) :
    k ≤ u.val ∧ (g = oRC (nxt c) ∨ g = qRC (nxt c)) := by
  unfold owed at h
  rw [Finset.sum_apply, Finsupp.finset_sum_apply] at h
  obtain ⟨x, hx, hp⟩ := Finset.exists_ne_zero_of_sum_ne_zero (Nat.pos_iff_ne_zero.mp h)
  rw [Pi.add_apply, Finsupp.add_apply] at hp
  by_cases h1 : (tallyAt (oRC (nxt c)) x NO : CellTallies nD τ sig (Fin 15)) g u = 0
  · obtain ⟨hg, rfl⟩ := tallyAt_pos (Nat.pos_of_ne_zero fun h2 => hp (by rw [h1, h2]; rfl))
    exact ⟨(Finset.mem_filter.mp hx).2, Or.inr hg⟩
  · obtain ⟨hg, rfl⟩ := tallyAt_pos (Nat.pos_of_ne_zero h1)
    exact ⟨(Finset.mem_filter.mp hx).2, Or.inl hg⟩

theorem owed₀_pos {c : Dev nD} {g : GSem nD τ sig} {u : Fin 15} (h : 0 < owed₀ c g u) :
    (g = oRC (nxt c) ∨ g = qRC (nxt c)) ∨ g = barC (nxt c) ∨ g = barC (prv c) := by
  unfold owed₀ owed₁ at h
  rw [Pi.add_apply, Finsupp.add_apply, Pi.add_apply, Finsupp.add_apply] at h
  rcases Nat.eq_zero_or_pos (owed c 0 g u) with h1 | h1
  · rcases Nat.eq_zero_or_pos ((tallyAt (barC (nxt c)) 0 1 : CellTallies nD τ sig (Fin 15)) g u) with h2 | h2
    · exact Or.inr (Or.inr (tallyAt_pos (by rw [h1, h2] at h; exact Nat.lt_of_lt_of_eq h (Nat.zero_add _))).1)
    · exact Or.inr (Or.inl (tallyAt_pos h2).1)
  · exact Or.inl (owed_pos h1).2

omit [FloatOps F] in
/-- A wait below everything owed is admitted. -/
theorem mayWait_of (c : Dev nD) (sm : SemLoc sig) (ι : Fin 15) (O : CellTallies nD τ sig (Fin 15)) (b : ℕ) (hb : lv ((c : Thread nD τ), sm) ι ≤ b)
    (hO : ∀ (g : GSem nD τ sig) (u : Fin 15), 0 < O g u → g.1.2 = .tc ∧ b < lv g u) :
    (levAts L lv : sProp 𝕄) ⊢ MayWait (c : Thread nD τ) sm ι O :=
  MayOwe.of_cut (L := L) (lev := lv) b (fun p hp => by rw [Finset.mem_singleton.mp hp, L_tc]; exact Finset.mem_univ _)
    (fun g u hg => by unfold L; rw [if_pos (hO g u hg).1]; exact Finset.mem_univ _)
    (fun p hp => by rw [Finset.mem_singleton.mp hp]; exact hb)
    (fun g u hg => (hO g u hg).2)

omit [FloatOps F] in
/-- In hop `k` everything still owed is of later hops. -/
theorem mayWait_hop (c : Dev nD) (sm : SemLoc sig) (ι : Fin 15) (k : ℕ) (hb : lv ((c : Thread nD τ), sm) ι ≤ 2 + k) :
    (levAts L lv : sProp 𝕄) ⊢ MayWait (c : Thread nD τ) sm ι (owed c (k + 1)) :=
  mayWait_of c sm ι _ (2 + k) hb fun g u hg => by
    obtain ⟨hx, rfl | rfl⟩ := owed_pos hg
    · refine ⟨rfl, ?_⟩; rw [lv_oR]; omega
    · refine ⟨rfl, ?_⟩; rw [lv_qR]; omega

omit [FloatOps F] in
theorem mayWait_bar (c : Dev nD) : (levAts L lv : sProp 𝕄) ⊢ MayWait (c : Thread nD τ) (.reg barS) 0 (owed c 0) :=
  mayWait_of c _ _ _ 1 (le_of_eq (lv_bar c 0)) fun g u hg => by
    obtain ⟨hx, rfl | rfl⟩ := owed_pos hg
    · refine ⟨rfl, ?_⟩; rw [lv_oR]; omega
    · refine ⟨rfl, ?_⟩; rw [lv_qR]; omega

omit [FloatOps F] in
/-- The staging copies wait below everything. -/
theorem mayWait_stage (c : Dev nD) (q : DmaSem sig) (hq : lv ((c : Thread nD τ), .dma q) 0 = 0) (O : CellTallies nD τ sig (Fin 15)) (hO : O = owed₀ c ∨ O = 0) :
    (levAts L lv : sProp 𝕄) ⊢ MayWait (c : Thread nD τ) (.dma q) 0 O := by
  rcases hO with rfl | rfl
  · refine mayWait_of c _ _ _ 0 (le_of_eq hq) fun g u hg => ?_
    rcases owed₀_pos hg with (rfl | rfl) | rfl | rfl
    · exact ⟨rfl, by rw [lv_oR]; omega⟩
    · exact ⟨rfl, by rw [lv_qR]; omega⟩
    · exact ⟨rfl, by rw [lv_bar]; decide⟩
    · exact ⟨rfl, by rw [lv_bar]; decide⟩
  · rw [MayWait_zero]; iintro -; iempintro

end Cert.Own

end
-- ==== Proof.Own.Step.lean ====
/-
  One hop of the altered ring: both copies of a device's own shards started, their four waits, and what a device holds from
  one hop to the next. Of its receives it knows only that some duties were paid, until the last wait shows that all were.
-/
module

public import proofs.«01_k».proof.Proof.Own.Sched

@[expose] public section

noncomputable section

namespace Cert.Own

open Cert.Written Cert.Written.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 15) (Elt F) ℕ UU ℕ

variable (m : (ℓ : Loc nD τ sig) → Buf (Elt F) ℓ)

abbrev 𝒱₀ : Variants := Variants.none

/-- The kernel's own scoped semaphores: of each of the two gathered arrays the send and the receive semaphore. -/
abbrev KI : Type := Bool × Bool
abbrev osem : KI → SemLoc sig := fun
  | (false, false) => .dma qS
  | (false, true) => .dma qR
  | (true, false) => .dma oS
  | (true, true) => .dma oR
/-- Those and the barrier semaphore. -/
abbrev CI : Type := Unit ⊕ KI
abbrev csem : CI → SemLoc sig := fun
  | .inl _ => .reg barS
  | .inr k => osem k
abbrev kcell (ck : Dev nD × CI) : GSem nD τ sig := ((ck.1 : Thread nD τ), csem ck.2)

abbrev iBar : CI := .inl ()
abbrev iQS : CI := .inr (false, false)
abbrev iQR : CI := .inr (false, true)
abbrev iOS : CI := .inr (true, false)
abbrev iOR : CI := .inr (true, true)

/-- Every cell's invariant, and that every cell has reached round 0. -/
def records (K : Dev nD × CI → ℕ) : sProp 𝕄 :=
  iprop((bigSep Finset.univ fun ck : Dev nD × CI => cellInv EH (rd m) (K ck) (kcell ck))
    ∗ bigSep Finset.univ fun ck : Dev nD × CI => reached EH (kcell ck) 0)

instance records_persistent (K : Dev nD × CI → ℕ) : BI.Persistent (records m K) := by unfold records; infer_instance

omit [FloatOps F] in
theorem inv_at (K : Dev nD × CI → ℕ) (x : Dev nD × CI) :
    (bigSep Finset.univ fun ck : Dev nD × CI => (cellInv EH (rd m) (K ck) (kcell ck) : sProp 𝕄)) ⊢ cellInv EH (rd m) (K x) (kcell x) :=
  bigSep_elim (Finset.mem_univ x)
omit [FloatOps F] in
theorem reached_at (x : Dev nD × CI) :
    (bigSep Finset.univ fun ck : Dev nD × CI => (reached EH (kcell ck) 0 : sProp 𝕄)) ⊢ reached EH (kcell x) 0 :=
  bigSep_elim (Finset.mem_univ x)
omit [FloatOps F] in
theorem inv_of (K : Dev nD × CI → ℕ) (c : Dev nD) (k : CI) : records m K ⊢ cellInv EH (rd m) (K (c, k)) (kcell (c, k)) := by
  unfold records
  iintro ⟨H, -⟩
  iapply (inv_at m K (c, k)); iexact H
omit [FloatOps F] in
theorem reached_of (K : Dev nD × CI → ℕ) (c : Dev nD) (k : CI) : records m K ⊢ reached EH (kcell (c, k)) 0 := by
  unfold records
  iintro ⟨-, H⟩
  iapply (reached_at (F := F) (c, k)); iexact H

/-- What hop `h` needs: the right to pay its four copy ends, and the credits of its two receives. -/
def item (c : Dev nD) (h : Fin 15) : sProp 𝕄 :=
  iprop(dutyTok EH (qSC c) h.val 0 ∗ dutyTok EH (oSC c) h.val 0
    ∗ dutyTok EH (qRC (nxt c)) 0 h ∗ dutyTok EH (oRC (nxt c)) 0 h
    ∗ cred (tallyAt (qRC c) h NQ) ∗ cred (tallyAt (oRC c) h NO))

/-- The receives of device `c` before hop `k`: of some hops the slot has come; after the last, of all. -/
def comeQ (c : Dev nD) (k : ℕ) : sProp 𝕄 :=
  if k < 15 then iprop(∃ T : Finset (Fin 15), atPos EH (qRC c) 0 T (k * NQ) ∗ bigSep T fun d => ptsQ c (slotQ c (d.val + 1)) (gotQ m c))
  else iprop(atPos EH (qRC c) 1 ∅ 0 ∗ bigSep Finset.univ fun d : Fin 15 => ptsQ c (slotQ c (d.val + 1)) (gotQ m c))
def comeO (c : Dev nD) (k : ℕ) : sProp 𝕄 :=
  if k < 15 then iprop(∃ T : Finset (Fin 15), atPos EH (oRC c) 0 T (k * NO) ∗ bigSep T fun d => ptsO c (slotO c (d.val + 1)) (gotO m c))
  else iprop(atPos EH (oRC c) 1 ∅ 0 ∗ bigSep Finset.univ fun d : Fin 15 => ptsO c (slotO c (d.val + 1)) (gotO m c))

/-- What a device holds before hop `k`. -/
def inv (K : Dev nD × CI → ℕ) (c : Dev nD) (k : ℕ) (_ : Unit) : sProp 𝕄 :=
  iprop(records m K ∗ levAts L lv
    ∗ ptsQ c (slotQ c 0) (gotQ m c) ∗ ptsO c (slotO c 0) (gotO m c)
    ∗ (∃ f, ptsQ (F := F) (nxt c) (restQ c k) f) ∗ (∃ f, ptsO (F := F) (nxt c) (restO c k) f)
    ∗ (∃ W, owes (c : Thread nD τ) (owed c k) W)
    ∗ atPos EH (qSC c) k ∅ 0 ∗ reached EH (qSC c) k ∗ atPos EH (oSC c) k ∅ 0 ∗ reached EH (oSC c) k
    ∗ comeQ m c k ∗ comeO m c k ∗ bigSep (later k) (item (F := F) c))

/-! ## The copies and the waits of a hop -/

/-- The first hop's slots are a device's own, and the slots of hop `h` those `h` places back. -/
theorem slotQ_home (c : Dev nD) : slotQ c 0 = (qAt c hop0).view.set := (qSlot_set c hop0).symm
theorem slotO_home (c : Dev nD) : slotO c 0 = (oAt c hop0).view.set := (oSlot_set c hop0).symm

set_option maxHeartbeats 400000 in
/-- The copy of hop `t` of the first array's own slot into the next device. -/
theorem wp_copyQ (K : Dev nD × CI → ℕ) (c n : Dev nD) (hn : n = nxt c) (t : Trip) (h : Fin 15) (ht : h.val = t.val)
    {hsc : (qAt c t : Memref sig (Dev.tc n : Thread nD τ).2.kind .vmem S512x256 .bf16).view.ref.isScScratch = false}
    {hsrc : (qAt c hop0).view.WordExact} {hdst : (qAt c t).view.WordExact}
    {hsem : DmaTarget.Typed .vmem (.dma qR) (.remote (Dev.tc n : Thread nD τ) (qAt c t) (.dma qS) hsc)}
    {α : Type} {Q : α → sProp 𝕄} {k : PUnit → Prog (TpuEff nD τ sig (Elt F) Λ₀ .tc) α}
    (f : Vec F S16x512x256 .bf16) (O : CellTallies nD τ sig (Fin 15)) (W : Waits sig (Fin 15)) :
    iprop(cellInv EH (rd m) (K (c, iQS)) (qSC c) ∗ cellInv EH (rd m) (K (nxt c, iQR)) (qRC (nxt c))
        ∗ ptsQ c (slotQ c 0) (gotQ m c) ∗ ptsQ (nxt c) (slotQ c h.val) f
        ∗ owes (c : Thread nD τ) (O + tallyAt (qRC (nxt c)) h NQ) W
        ∗ dutyTok EH (qSC c) h.val 0 ∗ reached EH (qSC c) h.val
        ∗ dutyTok EH (qRC (nxt c)) 0 h ∗ reached EH (qRC (nxt c)) 0)
      ⊢ iprop(((cred (tallyAt (qSC c) 0 NQ) ∗ owes (c : Thread nD τ) O W) -∗ wp frame (wpE (lateDefs₀ (F := F)) 𝒱₀ (c : Thread nD τ) none) Set.univ (k ⟨⟩) Q)
          -∗ wp frame (wpE (lateDefs₀ (F := F)) 𝒱₀ (c : Thread nD τ) none) Set.univ
              (.op (.enqueueDma (qAt c hop0) (.remote (Dev.tc n : Thread nD τ) (qAt c t) (.dma qS) hsc) (.dma qR) hsrc hdst hsem) k) Q) := by
  subst hn
  have hs : slotQ c h.val = (qAt c t).view.set := (congrArg (slotQ c) ht).trans (qSlot_set c t).symm
  have h15 : h.val < 15 := h.isLt
  have hp₁ : (((qAt c hop0).view.loc (c : Thread nD τ)) ↦[(qAt c hop0).view.set]{fullShare} (gotQ m c) : sProp 𝕄) ⊢ (rd m).payload (qSC c) h.val 0 := by
    rw [payload_qS]; unfold ptsQ; rw [slotQ_home]
  have hp₂ : (((qAt c t).view.loc (nxt c : Thread nD τ)) ↦[(qAt c t).view.set]{fullShare} ((qAt c t).view.write (Elt F) f ((qAt c hop0).view.read (Elt F) (gotQ m c)) Finset.univ) : sProp 𝕄)
      ⊢ (rd m).payload (qRC (nxt c)) 0 h := by
    rw [payload_qR, slotQ_nxt c h15]; unfold ptsQ; rw [hs]
    refine Entails.of_eq (pointsTo_congr fun i hi => ?_)
    exact landQ m c t f i (by rw [qSlot_set] at hi; exact hi)
  unfold ptsQ
  rw [slotQ_home, hs]
  have w := Rounds.wp_send_pointsTo (defs := lateDefs₀ (F := F)) (Q := Q) (k := k) (hsrc := hsrc) (hdst := hdst) (hsem := hsem) (hsc := hsc)
    (q := fullShare) (Es := Set.univ) 𝒱₀ EH (rd m) (c : Thread nD τ) none (Γ := PendingWaitsCtx.empty) (κ₁ := K (c, iQS)) (κ₂ := K (nxt c, iQR))
    (src := qAt c hop0) (dst := qAt c t) (c' := (nxt c : Thread nD τ)) (sS := .dma qS) (sem := .dma qR)
    (r₁ := h.val) (r₂ := 0) (d₁ := 0) (d₂ := h) (fd := f) (fs := gotQ m c)
    (by rw [duties_qS m c h15]; exact Finset.mem_singleton_self _) (by rw [duties_qR]; exact Finset.mem_univ _)
    h 0 NQ (credit_qSlot _ _) (amount_qS m c h.val 0) (amount_qR m (nxt c) 0 h) O rfl (W := W) hp₁ hp₂
  exact w

/-- The wait for the copy out of it, which gives the own slot back, -/
theorem wp_sentQ (K : Dev nD × CI → ℕ) (c : Dev nD) (t : Trip) (h : Fin 15)
    {hsrc hdst : (qAt c t).view.WordExact}
    {α : Type} {Q : α → sProp 𝕄} {k : PUnit → Prog (TpuEff nD τ sig (Elt F) Λ₀ .tc) α} (W : Waits sig (Fin 15)) :
    iprop(cellInv EH (rd m) (K (c, iQS)) (qSC c) ∗ cred (tallyAt (qSC c) 0 NQ) ∗ owes (c : Thread nD τ) (owed c (h.val + 1)) W ∗ levAts L lv ∗ atPos EH (qSC c) h.val ∅ 0)
      ⊢ iprop(((owes (c : Thread nD τ) (owed c (h.val + 1)) (insert (.dma qS, 0) W) ∗ atPos EH (qSC c) (h.val + 1) ∅ 0 ∗ reached EH (qSC c) (h.val + 1)
              ∗ ptsQ c (slotQ c 0) (gotQ m c)) -∗ wp frame (wpE (lateDefs₀ (F := F)) 𝒱₀ (c : Thread nD τ) none) Set.univ (k ⟨⟩) Q)
          -∗ wp frame (wpE (lateDefs₀ (F := F)) 𝒱₀ (c : Thread nD τ) none) Set.univ
              (.op (.waitDma2 qS (qAt c t) (qAt c t) hsrc hdst) k) Q) := by
  iintro ⟨H1, H2, H3, #H4, H5⟩ Hk
  iapply (Rounds.wp_wait_rest_token 𝒱₀ EH (rd m) (c : Thread nD τ) none (κ := K (c, iQS))
    (wpE_waitDma2_eq 𝒱₀ (c : Thread nD τ) none Set.univ) (Set.mem_univ _) 0 (O := owed c (h.val + 1)) (W := W) (R := h.val) (m := 0) (T := ∅)
    (by rw [Nat.zero_add, expect_qS m c h.isLt]; exact credit_qSlot _ _)) $$ [H1 H2 H3 H5]
  · isplitl [H1]; · iexact H1
    isplitl [H2]; · iexact H2
    isplitl [H3]; · iexact H3
    isplitr; · iapply (mayWait_hop (F := F) c (.dma qS) 0 h.val (by rw [lv_qS]; omega)); iexact H4
    iexact H5
  iintro ⟨H1, H2, H3, H4⟩
  ihave H5 := (Entails.of_eq (pay_qS m c h.isLt)) $$ H4
  iapply Hk
  isplitl [H1]; · iexact H1
  isplitl [H2]; · iexact H2
  isplitl [H3]; · iexact H3
  iexact H5

omit [FloatOps F] in
/-- More of the receives seen paid, the slots they hand over beside those already here. -/
theorem moreQ (c : Dev nD) (T S : Finset (Fin 15)) (h : T ⊆ S) :
    iprop(bigSep T (fun d => ptsQ c (slotQ c (d.val + 1)) (gotQ m c)) ∗ bigSep (S \ T) (fun d => (rd m).payload (qRC c) 0 d))
      ⊢ bigSep S (fun d => ptsQ c (slotQ c (d.val + 1)) (gotQ m c)) := by
  rw [show (fun d => (rd (F := F) m).payload (qRC c) 0 d) = fun d => ptsQ c (slotQ c (d.val + 1)) (gotQ m c) from funext fun d => payload_qR m c 0 d]
  exact Entails.of_eq (bigSep_sdiff_split h).symm

/-- and the wait for a copy into it. -/
theorem wp_comeQ (K : Dev nD × CI → ℕ) (c : Dev nD) (t : Trip) (h : Fin 15)
    {hsrc hdst : (qAt c t).view.WordExact}
    {α : Type} {Q : α → sProp 𝕄} {k : PUnit → Prog (TpuEff nD τ sig (Elt F) Λ₀ .tc) α} (W : Waits sig (Fin 15)) :
    iprop(cellInv EH (rd m) (K (c, iQR)) (qRC c) ∗ cred (tallyAt (qRC c) h NQ) ∗ owes (c : Thread nD τ) (owed c (h.val + 1)) W ∗ levAts L lv ∗ comeQ m c h.val)
      ⊢ iprop(((∃ W', owes (c : Thread nD τ) (owed c (h.val + 1)) W') ∗ comeQ m c (h.val + 1) -∗ wp frame (wpE (lateDefs₀ (F := F)) 𝒱₀ (c : Thread nD τ) none) Set.univ (k ⟨⟩) Q)
          -∗ wp frame (wpE (lateDefs₀ (F := F)) 𝒱₀ (c : Thread nD τ) none) Set.univ
              (.op (.waitDma2 qR (qAt c t) (qAt c t) hsrc hdst) k) Q) := by
  have h15 : h.val < 15 := h.isLt
  have hN : (qAt c t).view.amount (.dma qR) = NQ := credit_qSlot _ _
  unfold comeQ
  rw [if_pos h15]
  by_cases hl : h.val + 1 < 15
  · rw [if_pos hl]
    iintro ⟨H1, H2, H3, #H4, ⟨%T, H5, H6⟩⟩ Hk
    iapply (Rounds.wp_wait 𝒱₀ EH (rd m) (c : Thread nD τ) none (κ := K (c, iQR))
      (wpE_waitDma2_eq 𝒱₀ (c : Thread nD τ) none Set.univ) (Set.mem_univ _) (cr := Finsupp.single h NQ) (O := owed c (h.val + 1)) (W := W)
      {(.dma qR, h)} (R := 0) (m := h.val * NQ) (T := T) ((Util.total_single h NQ).trans hN.symm) (image_single_subset (.dma qR) h NQ)) $$ [H1 H2 H3 H5]
    · isplitl [H1]; · iexact H1
      isplitl [H2]; · iexact H2
      isplitl [H3]; · iexact H3
      isplitr; · iapply (mayWait_hop (F := F) c (.dma qR) h h.val (by rw [lv_qR])); iexact H4
      iexact H5
    iintro %S ⟨%hS, H1, H2, H3⟩
    iapply Hk
    isplitl [H1]; · iexists _; iexact H1
    iexists S
    isplitl [H2]
    · rw [Nat.succ_mul, ← hN]; iexact H2
    iapply (moreQ m c T S hS.1)
    isplitl [H6]; · iexact H6
    iexact H3
  · rw [if_neg hl]
    have h14 : h.val = 14 := by omega
    iintro ⟨H1, H2, H3, #H4, ⟨%T, H5, H6⟩⟩ Hk
    iapply (Rounds.wp_wait_rest_token 𝒱₀ EH (rd m) (c : Thread nD τ) none (κ := K (c, iQR))
      (wpE_waitDma2_eq 𝒱₀ (c : Thread nD τ) none Set.univ) (Set.mem_univ _) h (O := owed c (h.val + 1)) (W := W)
      (R := 0) (m := h.val * NQ) (T := T) (by rw [expect_qR, h14]; exact (congrArg (14 * NQ + ·) hN).trans (Nat.succ_mul 14 NQ).symm)) $$ [H1 H2 H3 H5]
    · isplitl [H1]; · iexact H1
      isplitl [H2]; · iexact H2
      isplitl [H3]; · iexact H3
      isplitr; · iapply (mayWait_hop (F := F) c (.dma qR) h h.val (by rw [lv_qR])); iexact H4
      iexact H5
    iintro ⟨H1, H2, -, H3⟩
    iapply Hk
    isplitl [H1]; · iexists _; iexact H1
    isplitl [H2]; · iexact H2
    iapply (moreQ m c T Finset.univ (Finset.subset_univ T))
    isplitl [H6]; · iexact H6
    rw [duties_qR]; iexact H3

set_option maxHeartbeats 400000 in
/-- The copy of hop `t` of the second array's own slot into the next device. -/
theorem wp_copyO (K : Dev nD × CI → ℕ) (c n : Dev nD) (hn : n = nxt c) (t : Trip) (h : Fin 15) (ht : h.val = t.val)
    {hsc : (oAt c t : Memref sig (Dev.tc n : Thread nD τ).2.kind .vmem S256x512 .bf16).view.ref.isScScratch = false}
    {hsrc : (oAt c hop0).view.WordExact} {hdst : (oAt c t).view.WordExact}
    {hsem : DmaTarget.Typed .vmem (.dma oR) (.remote (Dev.tc n : Thread nD τ) (oAt c t) (.dma oS) hsc)}
    {α : Type} {Q : α → sProp 𝕄} {k : PUnit → Prog (TpuEff nD τ sig (Elt F) Λ₀ .tc) α}
    (f : Vec F S16x256x512 .bf16) (O : CellTallies nD τ sig (Fin 15)) (W : Waits sig (Fin 15)) :
    iprop(cellInv EH (rd m) (K (c, iOS)) (oSC c) ∗ cellInv EH (rd m) (K (nxt c, iOR)) (oRC (nxt c))
        ∗ ptsO c (slotO c 0) (gotO m c) ∗ ptsO (nxt c) (slotO c h.val) f
        ∗ owes (c : Thread nD τ) (O + tallyAt (oRC (nxt c)) h NO) W
        ∗ dutyTok EH (oSC c) h.val 0 ∗ reached EH (oSC c) h.val
        ∗ dutyTok EH (oRC (nxt c)) 0 h ∗ reached EH (oRC (nxt c)) 0)
      ⊢ iprop(((cred (tallyAt (oSC c) 0 NO) ∗ owes (c : Thread nD τ) O W) -∗ wp frame (wpE (lateDefs₀ (F := F)) 𝒱₀ (c : Thread nD τ) none) Set.univ (k ⟨⟩) Q)
          -∗ wp frame (wpE (lateDefs₀ (F := F)) 𝒱₀ (c : Thread nD τ) none) Set.univ
              (.op (.enqueueDma (oAt c hop0) (.remote (Dev.tc n : Thread nD τ) (oAt c t) (.dma oS) hsc) (.dma oR) hsrc hdst hsem) k) Q) := by
  subst hn
  have hs : slotO c h.val = (oAt c t).view.set := (congrArg (slotO c) ht).trans (oSlot_set c t).symm
  have h15 : h.val < 15 := h.isLt
  have hp₁ : (((oAt c hop0).view.loc (c : Thread nD τ)) ↦[(oAt c hop0).view.set]{fullShare} (gotO m c) : sProp 𝕄) ⊢ (rd m).payload (oSC c) h.val 0 := by
    rw [payload_oS]; unfold ptsO; rw [slotO_home]
  have hp₂ : (((oAt c t).view.loc (nxt c : Thread nD τ)) ↦[(oAt c t).view.set]{fullShare} ((oAt c t).view.write (Elt F) f ((oAt c hop0).view.read (Elt F) (gotO m c)) Finset.univ) : sProp 𝕄)
      ⊢ (rd m).payload (oRC (nxt c)) 0 h := by
    rw [payload_oR, slotO_nxt c h15]; unfold ptsO; rw [hs]
    refine Entails.of_eq (pointsTo_congr fun i hi => ?_)
    exact landO m c t f i (by rw [oSlot_set] at hi; exact hi)
  unfold ptsO
  rw [slotO_home, hs]
  have w := Rounds.wp_send_pointsTo (defs := lateDefs₀ (F := F)) (Q := Q) (k := k) (hsrc := hsrc) (hdst := hdst) (hsem := hsem) (hsc := hsc)
    (q := fullShare) (Es := Set.univ) 𝒱₀ EH (rd m) (c : Thread nD τ) none (Γ := PendingWaitsCtx.empty) (κ₁ := K (c, iOS)) (κ₂ := K (nxt c, iOR))
    (src := oAt c hop0) (dst := oAt c t) (c' := (nxt c : Thread nD τ)) (sS := .dma oS) (sem := .dma oR)
    (r₁ := h.val) (r₂ := 0) (d₁ := 0) (d₂ := h) (fd := f) (fs := gotO m c)
    (by rw [duties_oS m c h15]; exact Finset.mem_singleton_self _) (by rw [duties_oR]; exact Finset.mem_univ _)
    h 0 NO (credit_oSlot _ _) (amount_oS m c h.val 0) (amount_oR m (nxt c) 0 h) O rfl (W := W) hp₁ hp₂
  exact w

/-- The wait for the copy out of it, which gives the own slot back, -/
theorem wp_sentO (K : Dev nD × CI → ℕ) (c : Dev nD) (t : Trip) (h : Fin 15)
    {hsrc hdst : (oAt c t).view.WordExact}
    {α : Type} {Q : α → sProp 𝕄} {k : PUnit → Prog (TpuEff nD τ sig (Elt F) Λ₀ .tc) α} (W : Waits sig (Fin 15)) :
    iprop(cellInv EH (rd m) (K (c, iOS)) (oSC c) ∗ cred (tallyAt (oSC c) 0 NO) ∗ owes (c : Thread nD τ) (owed c (h.val + 1)) W ∗ levAts L lv ∗ atPos EH (oSC c) h.val ∅ 0)
      ⊢ iprop(((owes (c : Thread nD τ) (owed c (h.val + 1)) (insert (.dma oS, 0) W) ∗ atPos EH (oSC c) (h.val + 1) ∅ 0 ∗ reached EH (oSC c) (h.val + 1)
              ∗ ptsO c (slotO c 0) (gotO m c)) -∗ wp frame (wpE (lateDefs₀ (F := F)) 𝒱₀ (c : Thread nD τ) none) Set.univ (k ⟨⟩) Q)
          -∗ wp frame (wpE (lateDefs₀ (F := F)) 𝒱₀ (c : Thread nD τ) none) Set.univ
              (.op (.waitDma2 oS (oAt c t) (oAt c t) hsrc hdst) k) Q) := by
  iintro ⟨H1, H2, H3, #H4, H5⟩ Hk
  iapply (Rounds.wp_wait_rest_token 𝒱₀ EH (rd m) (c : Thread nD τ) none (κ := K (c, iOS))
    (wpE_waitDma2_eq 𝒱₀ (c : Thread nD τ) none Set.univ) (Set.mem_univ _) 0 (O := owed c (h.val + 1)) (W := W) (R := h.val) (m := 0) (T := ∅)
    (by rw [Nat.zero_add, expect_oS m c h.isLt]; exact credit_oSlot _ _)) $$ [H1 H2 H3 H5]
  · isplitl [H1]; · iexact H1
    isplitl [H2]; · iexact H2
    isplitl [H3]; · iexact H3
    isplitr; · iapply (mayWait_hop (F := F) c (.dma oS) 0 h.val (by rw [lv_oS]; omega)); iexact H4
    iexact H5
  iintro ⟨H1, H2, H3, H4⟩
  ihave H5 := (Entails.of_eq (pay_oS m c h.isLt)) $$ H4
  iapply Hk
  isplitl [H1]; · iexact H1
  isplitl [H2]; · iexact H2
  isplitl [H3]; · iexact H3
  iexact H5

omit [FloatOps F] in
/-- More of the receives seen paid, the slots they hand over beside those already here. -/
theorem moreO (c : Dev nD) (T S : Finset (Fin 15)) (h : T ⊆ S) :
    iprop(bigSep T (fun d => ptsO c (slotO c (d.val + 1)) (gotO m c)) ∗ bigSep (S \ T) (fun d => (rd m).payload (oRC c) 0 d))
      ⊢ bigSep S (fun d => ptsO c (slotO c (d.val + 1)) (gotO m c)) := by
  rw [show (fun d => (rd (F := F) m).payload (oRC c) 0 d) = fun d => ptsO c (slotO c (d.val + 1)) (gotO m c) from funext fun d => payload_oR m c 0 d]
  exact Entails.of_eq (bigSep_sdiff_split h).symm

/-- and the wait for a copy into it. -/
theorem wp_comeO (K : Dev nD × CI → ℕ) (c : Dev nD) (t : Trip) (h : Fin 15)
    {hsrc hdst : (oAt c t).view.WordExact}
    {α : Type} {Q : α → sProp 𝕄} {k : PUnit → Prog (TpuEff nD τ sig (Elt F) Λ₀ .tc) α} (W : Waits sig (Fin 15)) :
    iprop(cellInv EH (rd m) (K (c, iOR)) (oRC c) ∗ cred (tallyAt (oRC c) h NO) ∗ owes (c : Thread nD τ) (owed c (h.val + 1)) W ∗ levAts L lv ∗ comeO m c h.val)
      ⊢ iprop(((∃ W', owes (c : Thread nD τ) (owed c (h.val + 1)) W') ∗ comeO m c (h.val + 1) -∗ wp frame (wpE (lateDefs₀ (F := F)) 𝒱₀ (c : Thread nD τ) none) Set.univ (k ⟨⟩) Q)
          -∗ wp frame (wpE (lateDefs₀ (F := F)) 𝒱₀ (c : Thread nD τ) none) Set.univ
              (.op (.waitDma2 oR (oAt c t) (oAt c t) hsrc hdst) k) Q) := by
  have h15 : h.val < 15 := h.isLt
  have hN : (oAt c t).view.amount (.dma oR) = NO := credit_oSlot _ _
  unfold comeO
  rw [if_pos h15]
  by_cases hl : h.val + 1 < 15
  · rw [if_pos hl]
    iintro ⟨H1, H2, H3, #H4, ⟨%T, H5, H6⟩⟩ Hk
    iapply (Rounds.wp_wait 𝒱₀ EH (rd m) (c : Thread nD τ) none (κ := K (c, iOR))
      (wpE_waitDma2_eq 𝒱₀ (c : Thread nD τ) none Set.univ) (Set.mem_univ _) (cr := Finsupp.single h NO) (O := owed c (h.val + 1)) (W := W)
      {(.dma oR, h)} (R := 0) (m := h.val * NO) (T := T) ((Util.total_single h NO).trans hN.symm) (image_single_subset (.dma oR) h NO)) $$ [H1 H2 H3 H5]
    · isplitl [H1]; · iexact H1
      isplitl [H2]; · iexact H2
      isplitl [H3]; · iexact H3
      isplitr; · iapply (mayWait_hop (F := F) c (.dma oR) h h.val (by rw [lv_oR])); iexact H4
      iexact H5
    iintro %S ⟨%hS, H1, H2, H3⟩
    iapply Hk
    isplitl [H1]; · iexists _; iexact H1
    iexists S
    isplitl [H2]
    · rw [Nat.succ_mul, ← hN]; iexact H2
    iapply (moreO m c T S hS.1)
    isplitl [H6]; · iexact H6
    iexact H3
  · rw [if_neg hl]
    have h14 : h.val = 14 := by omega
    iintro ⟨H1, H2, H3, #H4, ⟨%T, H5, H6⟩⟩ Hk
    iapply (Rounds.wp_wait_rest_token 𝒱₀ EH (rd m) (c : Thread nD τ) none (κ := K (c, iOR))
      (wpE_waitDma2_eq 𝒱₀ (c : Thread nD τ) none Set.univ) (Set.mem_univ _) h (O := owed c (h.val + 1)) (W := W)
      (R := 0) (m := h.val * NO) (T := T) (by rw [expect_oR, h14]; exact (congrArg (14 * NO + ·) hN).trans (Nat.succ_mul 14 NO).symm)) $$ [H1 H2 H3 H5]
    · isplitl [H1]; · iexact H1
      isplitl [H2]; · iexact H2
      isplitl [H3]; · iexact H3
      isplitr; · iapply (mayWait_hop (F := F) c (.dma oR) h h.val (by rw [lv_oR])); iexact H4
      iexact H5
    iintro ⟨H1, H2, -, H3⟩
    iapply Hk
    isplitl [H1]; · iexists _; iexact H1
    isplitl [H2]; · iexact H2
    iapply (moreO m c T Finset.univ (Finset.subset_univ T))
    isplitl [H6]; · iexact H6
    rw [duties_oR]; iexact H3

/-! ## Taking a slot out -/

omit [FloatOps F] in
theorem restQ_split (c d : Dev nD) {k : ℕ} (hk : k < 15) (f) : ptsQ (F := F) d (restQ c k) f = iprop(ptsQ d (slotQ c k) f ∗ ptsQ d (restQ c (k + 1)) f) := by
  unfold ptsQ; rw [← restQ_next]; exact BI.Entails.antisymm (pointsTo_split_subset (slotQ_sub_rest c hk)).1 (pointsTo_split_subset (slotQ_sub_rest c hk)).2
omit [FloatOps F] in
theorem restO_split (c d : Dev nD) {k : ℕ} (hk : k < 15) (f) : ptsO (F := F) d (restO c k) f = iprop(ptsO d (slotO c k) f ∗ ptsO d (restO c (k + 1)) f) := by
  unfold ptsO; rw [← restO_next]; exact BI.Entails.antisymm (pointsTo_split_subset (slotO_sub_rest c hk)).1 (pointsTo_split_subset (slotO_sub_rest c hk)).2

omit [FloatOps F] in
theorem big_insert {h : Fin 15} {S : Finset (Fin 15)} (hn : h ∉ S) (Φ : Fin 15 → sProp 𝕄) : bigSep (insert h S) Φ = iprop(Φ h ∗ bigSep S Φ) :=
  bigSep_insert hn

set_option maxHeartbeats 1600000 in
/-- One hop. -/
theorem hop (K : Dev nD × CI → ℕ) (c : Dev nD) (t : Trip) (u : Unit) :
    inv m K c t.val u ⊢ wp frame (wpE (lateDefs₀ (F := F)) 𝒱₀ (c : Thread nD τ) none) Set.univ
      (hopOf (fun _ => hop0) c t u) (inv m K c (t.val + 1)) := by
  obtain ⟨h, ht⟩ : ∃ h : Fin 15, h.val = t.val := ⟨⟨t.val, t_lt t⟩, rfl⟩
  have h15 : h.val < 15 := h.isLt
  rw [← ht]
  unfold hopOf
  simp only [Prog.lift, Prog.bind_op, Prog.bind_ret, Prog.pure_eq_ret]
  unfold inv
  rw [later_insert, big_insert (not_mem_later h)]
  unfold item
  iintro ⟨#HR, #Hlev, HQ, HO, ⟨%fq, HnQ⟩, ⟨%fo, HnO⟩, ⟨%W, Hw⟩, HaQ, #HrQ, HaO, #HrO, HRQ, HRO, ⟨⟨HtQ, HtO, HtQn, HtOn, HcQ, HcO⟩, Hlater⟩⟩
  ihave HnQ := (Entails.of_eq (restQ_split (F := F) c (nxt c) h15 fq)) $$ HnQ
  ihave HnO := (Entails.of_eq (restO_split (F := F) c (nxt c) h15 fo)) $$ HnO
  icases HnQ with ⟨HnQ, HnQr⟩
  icases HnO with ⟨HnO, HnOr⟩
  rw [owed_step]
  iapply (wp_copyQ m K c _ (dev3_nxt c) t h ht fq (owed c (h.val + 1) + tallyAt (oRC (nxt c)) h NO) W) $$ [HQ HnQ Hw HtQ HtQn]
  · isplitr; · iapply (inv_of m K c iQS); iexact HR
    isplitr; · iapply (inv_of m K (nxt c) iQR); iexact HR
    isplitl [HQ]; · iexact HQ
    isplitl [HnQ]; · iexact HnQ
    isplitl [Hw]; · iexact Hw
    isplitl [HtQ]; · iexact HtQ
    isplitr; · iexact HrQ
    isplitl [HtQn]; · iexact HtQn
    iapply (reached_of m K (nxt c) iQR); iexact HR
  iintro ⟨HcqS, Hw⟩
  iapply (wp_copyO m K c _ (dev4_nxt c) t h ht fo (owed c (h.val + 1)) W) $$ [HO HnO Hw HtO HtOn]
  · isplitr; · iapply (inv_of m K c iOS); iexact HR
    isplitr; · iapply (inv_of m K (nxt c) iOR); iexact HR
    isplitl [HO]; · iexact HO
    isplitl [HnO]; · iexact HnO
    isplitl [Hw]; · iexact Hw
    isplitl [HtO]; · iexact HtO
    isplitr; · iexact HrO
    isplitl [HtOn]; · iexact HtOn
    iapply (reached_of m K (nxt c) iOR); iexact HR
  iintro ⟨HcoS, Hw⟩
  iapply (wp_sentQ m K c t h W) $$ [HcqS Hw HaQ]
  · isplitr; · iapply (inv_of m K c iQS); iexact HR
    isplitl [HcqS]; · iexact HcqS
    isplitl [Hw]; · iexact Hw
    isplitr; · iexact Hlev
    iexact HaQ
  iintro ⟨Hw, HaQ, #HrQ', HQ⟩
  iapply (wp_comeQ m K c t h _) $$ [HcQ Hw HRQ]
  · isplitr; · iapply (inv_of m K c iQR); iexact HR
    isplitl [HcQ]; · iexact HcQ
    isplitl [Hw]; · iexact Hw
    isplitr; · iexact Hlev
    iexact HRQ
  iintro ⟨⟨%W₁, Hw⟩, HRQ⟩
  iapply (wp_sentO m K c t h _) $$ [HcoS Hw HaO]
  · isplitr; · iapply (inv_of m K c iOS); iexact HR
    isplitl [HcoS]; · iexact HcoS
    isplitl [Hw]; · iexact Hw
    isplitr; · iexact Hlev
    iexact HaO
  iintro ⟨Hw, HaO, #HrO', HO⟩
  iapply (wp_comeO m K c t h _) $$ [HcO Hw HRO]
  · isplitr; · iapply (inv_of m K c iOR); iexact HR
    isplitl [HcO]; · iexact HcO
    isplitl [Hw]; · iexact Hw
    isplitr; · iexact Hlev
    iexact HRO
  iintro ⟨Hw, HRO⟩
  rw [wp_ret]; imodintro
  isplitr; · iexact HR
  isplitr; · iexact Hlev
  isplitl [HQ]; · iexact HQ
  isplitl [HO]; · iexact HO
  isplitl [HnQr]; · iexists fq; iexact HnQr
  isplitl [HnOr]; · iexists fo; iexact HnOr
  isplitl [Hw]; · iexact Hw
  isplitl [HaQ]; · iexact HaQ
  isplitr; · iexact HrQ'
  isplitl [HaO]; · iexact HaO
  isplitr; · iexact HrO'
  isplitl [HRQ]; · iexact HRQ
  isplitl [HRO]; · iexact HRO
  iexact Hlater

end Cert.Own

end
-- ==== Proof.Own.Body.lean ====
/-
  The altered ring's body on one device, from the handshake of the neighbours to the last hop.
-/
module

public import proofs.«01_k».proof.Proof.Own.Step

@[expose] public section

noncomputable section

namespace Cert.Own

open Cert.Written Cert.Written.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig (Fin 15) (Elt F) ℕ UU ℕ

variable (m : (ℓ : Loc nD τ sig) → Buf (Elt F) ℓ)

/-! ## What a device starts from -/

/-- A hop's share of the ring's state at launch, its credits apart. -/
def pass (c : Dev nD) (h : Fin 15) : sProp 𝕄 :=
  iprop(dutyTok EH (qSC c) h.val 0 ∗ dutyTok EH (oSC c) h.val 0
    ∗ dutyTok EH (qRC (nxt c)) 0 h ∗ dutyTok EH (oRC (nxt c)) 0 h)
/-- The credits of a hop's two receives. -/
def due (c : Dev nD) (h : Fin 15) : sProp 𝕄 := iprop(cred (tallyAt (qRC c) h NQ) ∗ cred (tallyAt (oRC c) h NO))

omit [FloatOps F] in
theorem item_eq (c : Dev nD) (h : Fin 15) : iprop(pass (F := F) c h ∗ due (F := F) c h) ⊢ item (F := F) c h := by
  unfold pass due item
  iintro ⟨⟨H1, H2, H3, H4⟩, H7, H8⟩
  isplitl [H1]; · iexact H1
  isplitl [H2]; · iexact H2
  isplitl [H3]; · iexact H3
  isplitl [H4]; · iexact H4
  isplitl [H7]; · iexact H7
  iexact H8

/-- The ring's state device `c` starts from, at the names `K`. -/
def ghost (K : Dev nD × CI → ℕ) (c : Dev nD) : sProp 𝕄 :=
  iprop(records m K ∗ atPos EH (barC c) 0 ∅ 0 ∗ (atPos EH (qSC c) 0 ∅ 0 ∗ atPos EH (qRC c) 0 ∅ 0) ∗ (atPos EH (oSC c) 0 ∅ 0 ∗ atPos EH (oRC c) 0 ∅ 0)
    ∗ dutyTok EH (barC (nxt c)) 0 0 ∗ dutyTok EH (barC (prv c)) 0 1 ∗ bigSep Finset.univ (pass (F := F) c))

def start (c : Dev nD) : sProp 𝕄 :=
  iprop((∃ K, ghost m K c) ∗ cred (tallyAt (barC c) 0 2) ∗ bigSep Finset.univ (due (F := F) c) ∗ levAts L lv)

/-- Every semaphore of the kernel at zero. -/
def rest (c : Dev nD) : sProp 𝕄 := iprop((semVal (qSC c) 0 ∗ semVal (qRC c) 0) ∗ (semVal (oSC c) 0 ∗ semVal (oRC c) 0) ∗ semVal (barC c) 0)

def dats (_ : Fin 1) (c : Dev nD) : Dat τ (Elt F) (Fin 15) ℕ UU ℕ cfg0 c where
  A w := m ((cfg0.win w).arr.view.loc (c : Thread nD τ))
  after w _ := match w with
    | ⟨0, _⟩ => shardQ m c
    | ⟨1, _⟩ => shardO m c
    | ⟨2, _⟩ => gotQ m c
    | ⟨3, _⟩ => gotO m c
    | ⟨_ + 4, h⟩ => absurd h (Nat.not_lt.2 (Nat.le_add_left _ _))
  Φ t := match t with
    | ⟨0, _⟩ => start m c
    | ⟨_ + 1, _⟩ => rest c
  q _ := fullShare
  owed t := match t with
    | ⟨0, _⟩ => owed₀ c
    | ⟨_ + 1, _⟩ => 0

omit [FloatOps F] in
theorem owns_whole_eq (c : Dev nD) (b : Ref sig .tc) (X : b.ty.Contents (Elt F)) :
    (owns (Ix := Fin 15) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem zero2 : (![0, 0] : Fin 2 → Nat) = fun _ => 0 := funext fun a => by fin_cases a <;> rfl

omit [FloatOps F] in
/-- The two argument windows hold a device's shards, whole. -/
theorem read_arg0 (f : Vec F S512x256 .bf16) : (win0_0.blk (0 : Fin 1)).view.read (Elt F) f = f :=
  Memref.read_access_unit_zero (Elt F) main_arg0 (funext fun a => by fin_cases a <;> decide) (fun a => by fin_cases a <;> decide) f
omit [FloatOps F] in
theorem read_arg1 (f : Vec F S256x512 .bf16) : (win0_1.blk (0 : Fin 1)).view.read (Elt F) f = f :=
  Memref.read_access_unit_zero (Elt F) main_arg1 (funext fun a => by fin_cases a <;> decide) (fun a => by fin_cases a <;> decide) f

omit [FloatOps F] in
theorem before0 (c : Dev nD) (d) : (dats m 0 c).before (0 : Fin 4) t0_0 d = shardQ m c := by
  unfold Dat.before; rw [if_pos (fetch0_0 t0_0)]; exact (show _ = (win0_0.blk (0 : Fin 1)).view.read (Elt F) (m ((c : Thread nD τ).loc main_arg0)) from rfl).trans (read_arg0 (F := F) _)
omit [FloatOps F] in
theorem before1 (c : Dev nD) (d) : (dats m 0 c).before (1 : Fin 4) t0_0 d = shardO m c := by
  unfold Dat.before; rw [if_pos (fetch0_1 t0_0)]; exact (show _ = (win0_1.blk (0 : Fin 1)).view.read (Elt F) (m ((c : Thread nD τ).loc main_arg1)) from rfl).trans (read_arg1 (F := F) _)

/-! ## The two arrays as the kernel finds them, split in the device's own slot and the others' -/

omit [FloatOps F] in
theorem ownQ_split (c : Dev nD) (f : Vec F S16x512x256 .bf16) :
    ((((c : Thread nD τ).loc cc0_stg2_0) ↦{fullShare} f) : sProp 𝕄) = iprop(ptsQ c (slotQ c 0) f ∗ ptsQ c (restQ (prv c) 0) f) := by
  unfold ptsQ; rw [← others_eq_restQ]
  exact BI.Entails.antisymm (pointsTo_split_subset (Finset.subset_univ _)).1 (pointsTo_split_subset (Finset.subset_univ _)).2
omit [FloatOps F] in
theorem ownO_split (c : Dev nD) (f : Vec F S16x256x512 .bf16) :
    ((((c : Thread nD τ).loc cc0_stg3_0) ↦{fullShare} f) : sProp 𝕄) = iprop(ptsO c (slotO c 0) f ∗ ptsO c (restO (prv c) 0) f) := by
  unfold ptsO; rw [← others_eq_restO]
  exact BI.Entails.antisymm (pointsTo_split_subset (Finset.subset_univ _)).1 (pointsTo_split_subset (Finset.subset_univ _)).2

omit [FloatOps F] in
theorem read_inQ (f : Vec F S512x256 .bf16) :
    (qIn : Memref sig .tc .vmem S512x256 .bf16).view.readAt (Elt F) (Rect.unit (s := S512x256) ![0, 0] S512x256.size inb_S512x256_S512x256_0_0).toLoadRect f = f :=
  Memref.readAt_unit_zero (Elt F) cc0_stg0_0 zero2 _ f
omit [FloatOps F] in
theorem read_inO (f : Vec F S256x512 .bf16) :
    (oIn : Memref sig .tc .vmem S256x512 .bf16).view.readAt (Elt F) (Rect.unit (s := S256x512) ![0, 0] S256x512.size inb_S256x512_S256x512_0_0).toLoadRect f = f :=
  Memref.readAt_unit_zero (Elt F) cc0_stg1_0 zero2 _ f

omit [FloatOps F] in
theorem stored_ownQ [FloatOps F] (c : Dev nD) (f : Vec F S16x512x256 .bf16) :
    ((((qM.access (rQ c) : View sig .tc _ _ _).loc (c : Thread nD τ)) ↦[slotQ c 0]{fullShare} ((qM.access (rQ c) : View sig .tc _ _ _).write (Elt F) f (k0_pay1 (shardQ m c)) Finset.univ)) : sProp 𝕄) = ptsQ c (slotQ c 0) (gotQ m c) := by
  unfold ptsQ; exact pointsTo_congr fun i hi => store_ownQ m c f i hi
omit [FloatOps F] in
theorem stored_ownO [FloatOps F] (c : Dev nD) (f : Vec F S16x256x512 .bf16) :
    ((((oM.access (rO c) : View sig .tc _ _ _).loc (c : Thread nD τ)) ↦[slotO c 0]{fullShare} ((oM.access (rO c) : View sig .tc _ _ _).write (Elt F) f (k0_pay2 (shardO m c)) Finset.univ)) : sProp 𝕄) = ptsO c (slotO c 0) (gotO m c) := by
  unfold ptsO; exact pointsTo_congr fun i hi => store_ownO m c f i hi

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The loop -/

/-- All the hops. -/
theorem hops (K : Dev nD × CI → ℕ) (c : Dev nD) {α : Type} {Q : α → sProp 𝕄} {kk : Unit → Prog (TpuEff nD τ sig (Elt F) Λ₀ .tc) α} :
    inv m K c 0 () ⊢ iprop((∀ u, inv m K c 15 u -∗ wp frame (wpE (lateDefs₀ (F := F)) 𝒱₀ (c : Thread nD τ) none) Set.univ (kk u) Q)
      -∗ wp frame (wpE (lateDefs₀ (F := F)) 𝒱₀ (c : Thread nD τ) none) Set.univ
        (Scf.Loop.for k0_t1_loop k0_t1_ok ⟨⟩ (hopOf (fun _ => hop0) c) >>= kk) Q) := by
  have w := Scf.wp_for_bind (Q := Q) (kk := kk) frame (wpE (lateDefs₀ (F := F)) 𝒱₀ (c : Thread nD τ) none) Set.univ k0_t1_loop.lb k0_t1_loop.ub k0_t1_loop.st k0_t1_ok ()
    (hopOf (fun _ => hop0) c) (inv m K c) (fun t u => hop m K c t u)
  rw [show Scf.trips k0_t1_loop.lb k0_t1_loop.ub k0_t1_loop.st = 15 from trips15] at w
  exact w

/-! ## The slots put together -/

omit [FloatOps F] in
theorem swap_last (A B C : sProp 𝕄) : iprop(A ∗ B ∗ C) = iprop((A ∗ C) ∗ B) := by
  refine BI.Entails.antisymm ?_ ?_
  · show iprop(A ∗ B ∗ C) ⊢ (iprop((A ∗ C) ∗ B) : sProp 𝕄)
    iintro ⟨H1, H2, H3⟩
    isplitl [H1 H3]
    · isplitl [H1]; · iexact H1
      iexact H3
    iexact H2
  · show iprop((A ∗ C) ∗ B) ⊢ (iprop(A ∗ B ∗ C) : sProp 𝕄)
    iintro ⟨⟨H1, H3⟩, H2⟩
    isplitl [H1]; · iexact H1
    isplitl [H2]; · iexact H2
    iexact H3

omit [FloatOps F] in
theorem growQ (c : Dev nD) (f : Vec F S16x512x256 .bf16) : ∀ k, k ≤ 15 →
    iprop(ptsQ c (slotQ c 0) f ∗ bigSep (earlier k) fun d => ptsQ c (slotQ c (d.val + 1)) f) = ptsQ (F := F) c (heldQ c k) f
  | 0, _ => by rw [earlier_zero, bigSep_empty, heldQ_zero]; exact BI.Entails.antisymm (sep_emp (PROP := sProp 𝕄)).1 (sep_emp (PROP := sProp 𝕄)).2
  | k + 1, hk => by
    have hk' : k < 15 := hk
    have e : earlier (k + 1) = insert (⟨k, hk'⟩ : Fin 15) (earlier k) := earlier_insert ⟨k, hk'⟩
    have g : ptsQ (F := F) c (heldQ c (k + 1)) f = iprop(ptsQ c (heldQ c k) f ∗ ptsQ c (slotQ c (k + 1)) f) := by
      unfold ptsQ; rw [← heldQ_succ]; exact BI.Entails.antisymm (pointsTo_union (heldQ_disj c k)).1 (pointsTo_union (heldQ_disj c k)).2
    rw [e, big_insert (not_mem_earlier ⟨k, hk'⟩), g, ← growQ c f k (Nat.le_of_lt hk')]
    exact swap_last _ _ _

omit [FloatOps F] in
/-- A device's own slot and the slots of all fifteen hops are the whole array. -/
theorem wholeQ (c : Dev nD) (f : Vec F S16x512x256 .bf16) :
    iprop(ptsQ c (slotQ c 0) f ∗ bigSep Finset.univ fun d : Fin 15 => ptsQ c (slotQ c (d.val + 1)) f) ⊢ ((((c : Thread nD τ).loc cc0_stg2_0) ↦{fullShare} f) : sProp 𝕄) := by
  rw [← earlier_all, growQ c f 15 le_rfl, heldQ_all]; exact Entails.of_eq rfl

omit [FloatOps F] in
theorem growO (c : Dev nD) (f : Vec F S16x256x512 .bf16) : ∀ k, k ≤ 15 →
    iprop(ptsO c (slotO c 0) f ∗ bigSep (earlier k) fun d => ptsO c (slotO c (d.val + 1)) f) = ptsO (F := F) c (heldO c k) f
  | 0, _ => by rw [earlier_zero, bigSep_empty, heldO_zero]; exact BI.Entails.antisymm (sep_emp (PROP := sProp 𝕄)).1 (sep_emp (PROP := sProp 𝕄)).2
  | k + 1, hk => by
    have hk' : k < 15 := hk
    have e : earlier (k + 1) = insert (⟨k, hk'⟩ : Fin 15) (earlier k) := earlier_insert ⟨k, hk'⟩
    have g : ptsO (F := F) c (heldO c (k + 1)) f = iprop(ptsO c (heldO c k) f ∗ ptsO c (slotO c (k + 1)) f) := by
      unfold ptsO; rw [← heldO_succ]; exact BI.Entails.antisymm (pointsTo_union (heldO_disj c k)).1 (pointsTo_union (heldO_disj c k)).2
    rw [e, big_insert (not_mem_earlier ⟨k, hk'⟩), g, ← growO c f k (Nat.le_of_lt hk')]
    exact swap_last _ _ _

omit [FloatOps F] in
/-- A device's own slot and the slots of all fifteen hops are the whole array. -/
theorem wholeO (c : Dev nD) (f : Vec F S16x256x512 .bf16) :
    iprop(ptsO c (slotO c 0) f ∗ bigSep Finset.univ fun d : Fin 15 => ptsO c (slotO c (d.val + 1)) f) ⊢ ((((c : Thread nD τ).loc cc0_stg3_0) ↦{fullShare} f) : sProp 𝕄) := by
  rw [← earlier_all, growO c f 15 le_rfl, heldO_all]; exact Entails.of_eq rfl
/-! ## The body -/

def bodyPre (K : Dev nD × CI → ℕ) (c : Dev nD) : sProp 𝕄 :=
  iprop((ghost m K c ∗ cred (tallyAt (barC c) 0 2) ∗ bigSep Finset.univ (due (F := F) c) ∗ levAts L lv)
    ∗ (∃ W, owes (c : Thread nD τ) (owed₀ c) W)
    ∗ (((c : Thread nD τ).loc cc0_stg0_0) ↦{fullShare} (shardQ m c)) ∗ (((c : Thread nD τ).loc cc0_stg1_0) ↦{fullShare} (shardO m c))
    ∗ (∃ f : Vec F S16x512x256 .bf16, ((c : Thread nD τ).loc cc0_stg2_0) ↦{fullShare} f) ∗ (∃ f : Vec F S16x256x512 .bf16, ((c : Thread nD τ).loc cc0_stg3_0) ↦{fullShare} f))

def bodyPost (c : Dev nD) : sProp 𝕄 :=
  iprop(rest (F := F) c ∗ (∃ W, owes (c : Thread nD τ) 0 W)
    ∗ (((c : Thread nD τ).loc cc0_stg0_0) ↦{fullShare} (shardQ m c)) ∗ (((c : Thread nD τ).loc cc0_stg1_0) ↦{fullShare} (shardO m c))
    ∗ (((c : Thread nD τ).loc cc0_stg2_0) ↦{fullShare} (gotQ m c)) ∗ (((c : Thread nD τ).loc cc0_stg3_0) ↦{fullShare} (gotO m c)))

set_option maxHeartbeats 1600000 in
theorem sound_body (K : Dev nD × CI → ℕ) (c : Dev nD) (Kt : PUnit → sProp 𝕄) :
    iprop(bodyPre m K c ∗ (bodyPost m c -∗ Kt ⟨⟩))
      ⊢ wp frame (wpE (lateDefs₀ (F := F)) 𝒱₀ c none) Set.univ
          (bodyOf fun _ => hop0) Kt := by
  unfold bodyOf
  simp only [Prog.lift, Prog.bind_op, Prog.bind_ret, Prog.pure_eq_ret, wp_deviceId]
  unfold bodyPre ghost
  iintro ⟨⟨⟨⟨#HR, HaB, ⟨HaQ, HaQR⟩, ⟨HaO, HaOR⟩, HtB, HtP, Hpass⟩, HcB, Hdue, #Hlev⟩, ⟨%W, Hw⟩, Hx, Hy, ⟨%fq, Hq⟩, ⟨%fo, Ho⟩⟩, Hk⟩
  simp only [dev1_prv c, dev2_nxt c]
  ihave Hq := (Entails.of_eq (ownQ_split (F := F) c fq)) $$ Hq
  ihave Ho := (Entails.of_eq (ownO_split (F := F) c fo)) $$ Ho
  icases Hq with ⟨Hq, Hqr⟩
  icases Ho with ⟨Ho, Hor⟩
  unfold owed₀
  iapply (Rounds.wp_signal 𝒱₀ EH (rd m) (c : Thread nD τ) none (dst := (prv c : Thread nD τ)) (κ := K (prv c, iBar)) (r := 0)
      (d := 1) (by rw [duties_bar]; decide) ((amount_bar m (prv c) 1).trans (by decide)) 0 (owed₁ c) rfl)
    $$ [Hw HtP Hqr Hor]
  · isplitr; · iapply (inv_of m K (prv c) iBar); iexact HR
    isplitl [Hw]; · iexact Hw
    isplitl [HtP]; · iexact HtP
    isplitl [Hqr Hor]
    · rw [payload_bar_next]; unfold barPay; rw [nxt_prv]
      isplitl [Hqr]; · iexists fq; iexact Hqr
      iexists fo; iexact Hor
    · iapply (reached_of m K (prv c) iBar); iexact HR
  iintro Hw
  unfold owed₁
  iapply (Rounds.wp_signal 𝒱₀ EH (rd m) (c : Thread nD τ) none (dst := (nxt c : Thread nD τ)) (κ := K (nxt c, iBar)) (r := 0)
      (d := 0) (by rw [duties_bar]; decide) ((amount_bar m (nxt c) 0).trans (by decide)) 0 (owed c 0) rfl)
    $$ [Hw HtB]
  · isplitr; · iapply (inv_of m K (nxt c) iBar); iexact HR
    isplitl [Hw]; · iexact Hw
    isplitl [HtB]; · iexact HtB
    isplitr; · rw [payload_bar_prev]; iempintro
    iapply (reached_of m K (nxt c) iBar); iexact HR
  iintro Hw
  iapply (Rounds.wp_wait_rest_token 𝒱₀ EH (rd m) (c : Thread nD τ) none (κ := K (c, iBar))
      (wpE_semWait_eq 𝒱₀ (c : Thread nD τ) none Set.univ) (Set.mem_univ _) 0 (O := owed c 0) (W := W) (R := 0) (m := 0) (T := ∅)
      (by rw [expect_bar]; decide)) $$ [HcB Hw HaB]
  · isplitr; · iapply (inv_of m K c iBar); iexact HR
    isplitl [HcB]; · iexact HcB
    isplitl [Hw]; · iexact Hw
    isplitr; · iapply (mayWait_bar (F := F) c); iexact Hlev
    iexact HaB
  iintro ⟨Hw, HaB, -, Hpay⟩
  ihave Hp := (Entails.of_eq (pay_bar m c)) $$ Hpay
  unfold barPay
  icases Hp with ⟨-, HnQ, HnO⟩
  imod (Rounds.cell_close EH (rd m) (Set.mem_univ (K (c, iBar))) (fun h => h) (R := 0 + 1) (duties_bar_later m c)) $$ [HaB] with HzB
  · isplitr; · iapply (inv_of m K c iBar); iexact HR
    iexact HaB
  iapply (wp_load 𝒱₀ (c : Thread nD τ) none Set.univ (m := qIn) (Finset.subset_univ _)) $$ Hx; iintro Hx
  rw [read_inQ]
  unfold ptsQ
  iapply (wp_load_rect 𝒱₀ (c : Thread nD τ) none Set.univ (m := qM) (r := rQ c) (f := fq) (S := slotQ c 0) (accQ_set c).subset) $$ Hq; iintro Hq
  iapply (wp_store 𝒱₀ (c : Thread nD τ) none Set.univ (m := qM) (r := rQ c) (Mk := Finset.univ) (f := fq) (S := slotQ c 0) (accQ_set c).subset) $$ Hq; iintro Hq
  iapply (wp_load 𝒱₀ (c : Thread nD τ) none Set.univ (m := oIn) (Finset.subset_univ _)) $$ Hy; iintro Hy
  rw [read_inO]
  unfold ptsO
  iapply (wp_load_rect 𝒱₀ (c : Thread nD τ) none Set.univ (m := oM) (r := rO c) (f := fo) (S := slotO c 0) (accO_set c).subset) $$ Ho; iintro Ho
  iapply (wp_store 𝒱₀ (c : Thread nD τ) none Set.univ (m := oM) (r := rO c) (Mk := Finset.univ) (f := fo) (S := slotO c 0) (accO_set c).subset) $$ Ho; iintro Ho
  ihave Hq := (Entails.of_eq (stored_ownQ m c fq)) $$ Hq
  ihave Ho := (Entails.of_eq (stored_ownO m c fo)) $$ Ho
  iapply (hops m K c) $$ [Hq Ho HnQ HnO Hw HaQ HaQR HaO HaOR Hpass Hdue]
  · unfold inv
    rw [later_zero]
    isplitr; · iexact HR
    isplitr; · iexact Hlev
    isplitl [Hq]; · iexact Hq
    isplitl [Ho]; · iexact Ho
    isplitl [HnQ]; · iexact HnQ
    isplitl [HnO]; · iexact HnO
    isplitl [Hw]; · iexists _; iexact Hw
    isplitl [HaQ]; · iexact HaQ
    isplitr; · iapply (reached_of m K c iQS); iexact HR
    isplitl [HaO]; · iexact HaO
    isplitr; · iapply (reached_of m K c iOS); iexact HR
    isplitl [HaQR]
    · unfold comeQ; rw [if_pos (by decide), Nat.zero_mul]
      iexists ∅
      rw [bigSep_empty]
      isplitl [HaQR]; · iexact HaQR
      iempintro
    isplitl [HaOR]
    · unfold comeO; rw [if_pos (by decide), Nat.zero_mul]
      iexists ∅
      rw [bigSep_empty]
      isplitl [HaOR]; · iexact HaOR
      iempintro
    iapply ((Entails.of_eq (bigSep_sep' Finset.univ (pass (F := F) c) (due (F := F) c)).symm).trans (bigSep_mono fun h _ => item_eq (F := F) c h))
    isplitl [Hpass]; · iexact Hpass
    iexact Hdue
  iintro %u
  unfold inv comeQ comeO
  rw [owed_done, if_neg (by decide), if_neg (by decide)]
  iintro ⟨-, -, Hq, Ho, -, -, Hw, HaQ, -, HaO, -, ⟨HaQR, Hqs⟩, ⟨HaOR, Hos⟩, -⟩
  ihave Hq := (wholeQ (F := F) c (gotQ m c)) $$ [Hq Hqs]
  · isplitl [Hq]; · iexact Hq
    iexact Hqs
  ihave Ho := (wholeO (F := F) c (gotO m c)) $$ [Ho Hos]
  · isplitl [Ho]; · iexact Ho
    iexact Hos
  imod (Rounds.cell_close EH (rd m) (Set.mem_univ (K (c, iQS))) (fun h => h) (R := 15) (duties_qS_later m c)) $$ [HaQ] with HzQ
  · isplitr; · iapply (inv_of m K c iQS); iexact HR
    iexact HaQ
  imod (Rounds.cell_close EH (rd m) (Set.mem_univ (K (c, iQR))) (fun h => h) (R := 1) (duties_qR_later m c)) $$ [HaQR] with HzQR
  · isplitr; · iapply (inv_of m K c iQR); iexact HR
    iexact HaQR
  imod (Rounds.cell_close EH (rd m) (Set.mem_univ (K (c, iOS))) (fun h => h) (R := 15) (duties_oS_later m c)) $$ [HaO] with HzO
  · isplitr; · iapply (inv_of m K c iOS); iexact HR
    iexact HaO
  imod (Rounds.cell_close EH (rd m) (Set.mem_univ (K (c, iOR))) (fun h => h) (R := 1) (duties_oR_later m c)) $$ [HaOR] with HzOR
  · isplitr; · iapply (inv_of m K c iOR); iexact HR
    iexact HaOR
  rw [wp_ret]; imodintro
  iapply Hk
  unfold bodyPost rest
  isplitl [HzQ HzQR HzO HzOR HzB]
  · isplitl [HzQ HzQR]
    · isplitl [HzQ]; · iexact HzQ
      iexact HzQR
    isplitl [HzO HzOR]
    · isplitl [HzO]; · iexact HzO
      iexact HzOR
    iexact HzB
  isplitl [Hw]; · iexact Hw
  isplitl [Hx]; · iexact Hx
  isplitl [Hy]; · iexact Hy
  isplitl [Hq]; · iexact Hq
  iexact Ho

/-- The body as the launch asks for it. -/
theorem body_obligation (c : Dev nD) : BodyObligation (dats (F := F) m 0 c) (lateDefs₀ (F := F)) 𝒱₀ (0 : Fin 15) Set.univ := fun t => by
  rw [fin_N0 t]
  rw [bigSep_W0, bigSep_W0]
  simp only [owns_whole_eq]
  show iprop(start m c ∗ (dats m 0 c).owesAt (0 : Fin 15) t0_0.castSucc
      ∗ (∃ d, stg c cc0_stg0_0 ((dats m 0 c).before (0 : Fin 4) t0_0 d))
      ∗ (∃ d, stg c cc0_stg1_0 ((dats m 0 c).before (1 : Fin 4) t0_0 d))
      ∗ (∃ d, stg c cc0_stg2_0 ((dats m 0 c).before (2 : Fin 4) t0_0 d))
      ∗ (∃ d, stg c cc0_stg3_0 ((dats m 0 c).before (3 : Fin 4) t0_0 d))) ⊢ wp frame (wpE (lateDefs₀ (F := F)) 𝒱₀ c none) Set.univ
    (bodyOf fun _ => hop0)
    (fun _ => iprop(rest c ∗ (dats m 0 c).owesAt (0 : Fin 15) t0_0.succ ∗ stg c cc0_stg0_0 (shardQ m c) ∗ stg c cc0_stg1_0 (shardO m c)
      ∗ stg c cc0_stg2_0 (gotQ m c) ∗ stg c cc0_stg3_0 (gotO m c)))
  simp only [before0, before1]
  unfold start Dat.owesAt Pipeline.owesWithin
  rw [show (dats m 0 c).owed t0_0.castSucc = owed₀ c from rfl, show (dats m 0 c).owed t0_0.succ = 0 from rfl]
  iintro ⟨⟨⟨%K, Hg⟩, Hrest⟩, ⟨%W, -, Hw⟩, ⟨%d0, %g0, %hg0, Hx⟩, ⟨%d1, %g1, %hg1, Hy⟩, ⟨%d2, %g2, -, Hq⟩, ⟨%d3, %g3, -, Ho⟩⟩
  subst hg0 hg1
  iapply (sound_body m K c _)
  unfold bodyPre
  isplitl
  · isplitl [Hg Hrest]
    · isplitl [Hg]; · iexact Hg
      iexact Hrest
    isplitl [Hw]; · iexists W; iexact Hw
    isplitl [Hx]; · iexact Hx
    isplitl [Hy]; · iexact Hy
    isplitl [Hq]; · iexists g2; iexact Hq
    iexists g3; iexact Ho
  unfold bodyPost
  iintro ⟨Hz, ⟨%W', Hw⟩, Hx, Hy, Hq, Ho⟩
  isplitl [Hz]; · iexact Hz
  isplitl [Hw]
  · iexists W'
    isplitr; · ipureintro; exact fun _ _ => Or.inl trivial
    iexact Hw
  isplitl [Hx]
  · iexists _; isplitr; · (ipureintro; rfl)
    iexact Hx
  isplitl [Hy]
  · iexists _; isplitr; · (ipureintro; rfl)
    iexact Hy
  isplitl [Hq]
  · iexists _; isplitr; · (ipureintro; rfl)
    iexact Hq
  iexists _; isplitr; · (ipureintro; rfl)
  iexact Ho

end Cert.Own

end
-- ==== Proof.Own.Launch.lean ====
/-
  The altered ring's launch: the protocol's state made and dealt around, and the run of the whole program.
-/
module

public import proofs.«01_k».proof.Proof.Own.Body
public import Idealize.ShloMosaic.Lib.Pipeline.CollectiveSegs

@[expose] public section

noncomputable section

namespace Cert.Own

open Cert.Written Cert.Written.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig (Fin 15) (Elt F) ℕ UU ℕ

variable (m : (ℓ : Loc nD τ sig) → Buf (Elt F) ℓ) (ρ : Dev nD → PrngReg)

def s₀ : MemSt nD τ sig (Elt F) := ⟨m, fun _ => 0, ρ⟩

/-! ## The cells and their duties -/

theorem ownSemFacts : Pipeline.OwnSemFacts cfg0.spec osem := by decide +kernel

theorem share_eq (c : Dev nD) (w : Fin cfg0.W) : (dats m 0 c).share w = fullShare := by unfold Dat.share; split <;> rfl

theorem csem_injective : Function.Injective csem := by decide +kernel

theorem kcell_injective : Function.Injective (kcell : Dev nD × CI → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def ringCells : Finset (GSem nD τ sig) := Finset.univ.map ⟨kcell, kcell_injective⟩

/-- A device's own cells' duties: its barrier's two, and per array, end and hop one. -/
abbrev TI : Type := Bool ⊕ (Bool × Bool × Fin 15)
abbrev tokAt : TI → SemLoc sig × ℕ × Fin 15 := fun
  | .inl b => (csem iBar, 0, if b then 1 else 0)
  | .inr (o, false, h) => (osem (o, false), h.val, 0)
  | .inr (o, true, h) => (osem (o, true), 0, h)
abbrev tokOf (cj : Dev nD × TI) : GSem nD τ sig × ℕ × Fin 15 := (((cj.1 : Thread nD τ), (tokAt cj.2).1), (tokAt cj.2).2)
theorem tokAt_injective : Function.Injective tokAt := by decide +kernel
theorem tokOf_injective : Function.Injective (tokOf : Dev nD × TI → GSem nD τ sig × ℕ × Fin 15) := by
  rintro ⟨c, j⟩ ⟨c', j'⟩ h
  have h1 : c = c' := congrArg (fun x : GSem nD τ sig × ℕ × Fin 15 => x.1.1.1) h
  have h2 : tokAt j = tokAt j' :=
    Prod.ext (congrArg (fun x : GSem nD τ sig × ℕ × Fin 15 => x.1.2) h) (congrArg (fun x : GSem nD τ sig × ℕ × Fin 15 => x.2) h)
  rw [h1, tokAt_injective h2]
def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

omit [FloatOps F] in
theorem big_unit (Φ : Unit → sProp 𝕄) : bigSep Finset.univ Φ = Φ () := by
  rw [bigSep_univ_eq_bigSepL [()] (by decide) (by decide), bigSepL_singleton]
omit [FloatOps F] in
theorem big_bool (Φ : Bool → sProp 𝕄) : bigSep Finset.univ Φ = iprop(Φ false ∗ Φ true) := by
  rw [bigSep_univ_eq_bigSepL [false, true] (by decide) (by decide), bigSepL_cons_cons, bigSepL_singleton]; rfl

omit [FloatOps F] in
/-- A product over the kernel's own semaphores, listed. -/
theorem big_KI (Φ : KI → sProp 𝕄) : bigSep Finset.univ Φ
    = iprop((Φ (false, false) ∗ Φ (false, true)) ∗ Φ (true, false) ∗ Φ (true, true)) := by
  rw [bigSep_univ_prod, big_bool, big_bool, big_bool]
omit [FloatOps F] in
theorem big_CI (Φ : CI → sProp 𝕄) : bigSep Finset.univ Φ
    = iprop(Φ iBar ∗ (Φ iQS ∗ Φ iQR) ∗ Φ iOS ∗ Φ iOR) := by
  rw [BI.bigSep_univ_sum, big_unit, big_KI]; rfl
omit [FloatOps F] in
theorem big_TI (Φ : TI → sProp 𝕄) : bigSep Finset.univ Φ
    = iprop((Φ (.inl false) ∗ Φ (.inl true))
      ∗ ((bigSep Finset.univ fun h : Fin 15 => Φ (.inr (false, false, h))) ∗ bigSep Finset.univ fun h : Fin 15 => Φ (.inr (false, true, h)))
      ∗ (bigSep Finset.univ fun h : Fin 15 => Φ (.inr (true, false, h))) ∗ bigSep Finset.univ fun h : Fin 15 => Φ (.inr (true, true, h))) := by
  rw [BI.bigSep_univ_sum, big_bool, bigSep_univ_prod, big_bool, bigSep_univ_prod, bigSep_univ_prod, big_bool, big_bool]; rfl

/-- The duty tokens of device `c`'s own cells. -/
def toks (c : Dev nD) : sProp 𝕄 :=
  iprop((dutyTok EH (barC c) 0 0 ∗ dutyTok EH (barC c) 0 1)
    ∗ ((bigSep Finset.univ fun h : Fin 15 => dutyTok EH (qSC c) h.val 0) ∗ bigSep Finset.univ fun h : Fin 15 => dutyTok EH (qRC c) 0 h)
    ∗ (bigSep Finset.univ fun h : Fin 15 => dutyTok EH (oSC c) h.val 0) ∗ bigSep Finset.univ fun h : Fin 15 => dutyTok EH (oRC c) 0 h)

/-- What the launch deals device `c`, -/
def G (c : Dev nD) : sProp 𝕄 :=
  iprop((bigSep Finset.univ fun k : CI => roundState EH (rd m) (kcell (c, k)) 0)
    ∗ (bigSep Finset.univ fun k : CI => iprop(atPos EH (kcell (c, k)) 0 ∅ 0 ∗ reached EH (kcell (c, k)) 0)) ∗ toks c)
/-- and what is made of it. -/
def G' (c : Dev nD) : sProp 𝕄 := iprop(∃ K, ghost m K c)

omit [FloatOps F] in
theorem fund_ring : BI.own (EH (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok EH x.1 x.2.1 x.2.2 : sProp 𝕄)) = bigSep Finset.univ fun c : Dev nD => toks c := by
    unfold ringToks; rw [bigSep_map, bigSep_univ_prod]
    exact bigSep_congr fun c _ => by unfold toks; rw [big_TI]; rfl
  iintro HX
  imod (Rounds.fund EH (rd m) ringCells ringToks) $$ HX with ⟨Hst, Hr, Hat, Htok⟩
  imodintro
  ihave Hst' := (Entails.of_eq (hX fun g => roundState EH (rd m) g 0)) $$ Hst
  ihave Hat' := (Entails.of_eq (hX fun g => atPos EH g 0 ∅ 0)) $$ Hat
  ihave Hr' := (Entails.of_eq (hX fun g => reached EH g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
/-- The barrier semaphore is the one the launch does not scope. -/
theorem unscopedSems0_eq (c : Dev nD) : (unscopedSems0 c : sProp 𝕄) = semVal (barC c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Fin 15) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, BI.bigSep_univ_sum, big_unit]
  unfold Pipeline.ownSems0
  show iprop((bigSep Finset.univ fun k : KI => semVal ((c : Thread nD τ), osem k) 0) ∗ semVal (barC c) 0)
    ⊢ (iprop(semVal (barC c) 0 ∗ bigSep Finset.univ fun k : KI => semVal ((c : Thread nD τ), osem k) 0) : sProp 𝕄)
  iintro ⟨HS, HB⟩
  isplitl [HB]; · iexact HB
  iexact HS

omit [FloatOps F] in
theorem core_alloc (c : Dev nD) :
    iprop(Pipeline.ownSems0 (Ix := Fin 15) (Name := ℕ) (U := UU) (Lvl := ℕ) (Val := Elt F) (τ := τ) osem c ∗ unscopedSems0 c ∗ G m c)
      ⊢ |={Set.univ}=> iprop((bigSep Finset.univ fun k => iprop(∃ κ : ℕ, cellInv EH (rd m) κ (kcell (c, k))))
          ∗ (bigSep Finset.univ fun k => iprop(atPos EH (kcell (c, k)) 0 ∅ 0 ∗ reached EH (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState EH (rd m) (kcell (c, k)) 0)
      ⊢ (|={Set.univ}=> bigSep Finset.univ fun k => iprop(∃ κ : ℕ, cellInv EH (rd m) κ (kcell (c, k))) : sProp 𝕄) from by
        rw [← bigSep_sep']
        exact (bigSep_mono fun k _ => (Rounds.body_intro EH (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around -/

/-- The tokens of the duties device `c` pays. -/
def payToks (c : Dev nD) : sProp 𝕄 :=
  iprop((dutyTok EH (barC (nxt c)) 0 0 ∗ dutyTok EH (barC (prv c)) 0 1)
    ∗ ((bigSep Finset.univ fun h : Fin 15 => dutyTok EH (qSC c) h.val 0) ∗ bigSep Finset.univ fun h : Fin 15 => dutyTok EH (qRC (nxt c)) 0 h)
    ∗ (bigSep Finset.univ fun h : Fin 15 => dutyTok EH (oSC c) h.val 0) ∗ bigSep Finset.univ fun h : Fin 15 => dutyTok EH (oRC (nxt c)) 0 h)

omit [FloatOps F] in
theorem toks_around : (bigSep Finset.univ fun c : Dev nD => (toks (F := F) c)) = bigSep Finset.univ fun c : Dev nD => payToks (F := F) c := by
  unfold toks payToks
  simp only [bigSep_sep']
  rw [bigSep_univ_equiv around (fun c : Dev nD => (dutyTok EH (barC c) 0 0 : sProp 𝕄)),
    bigSep_univ_equiv around.symm (fun c : Dev nD => (dutyTok EH (barC c) 0 1 : sProp 𝕄)),
    bigSep_univ_equiv around (fun c : Dev nD => (bigSep Finset.univ fun h : Fin 15 => dutyTok EH (qRC c) 0 h : sProp 𝕄)),
    bigSep_univ_equiv around (fun c : Dev nD => (bigSep Finset.univ fun h : Fin 15 => dutyTok EH (oRC c) 0 h : sProp 𝕄))]
  rfl

/-- What stays with device `c`: its positions and those tokens. -/
def linear (c : Dev nD) : sProp 𝕄 := iprop((bigSep Finset.univ fun k : CI => (atPos EH (kcell (c, k)) 0 ∅ 0 : sProp 𝕄)) ∗ payToks c)

omit [FloatOps F] in
theorem ghost_intro (K : Dev nD × CI → ℕ) (c : Dev nD) : iprop(records m K ∗ linear (F := F) c) ⊢ G' m c := by
  unfold linear payToks G' ghost
  rw [big_CI]
  have hp : bigSep Finset.univ (pass (F := F) c) = iprop((bigSep Finset.univ fun h : Fin 15 => dutyTok EH (qSC c) h.val 0)
      ∗ (bigSep Finset.univ fun h : Fin 15 => dutyTok EH (oSC c) h.val 0)
      ∗ (bigSep Finset.univ fun h : Fin 15 => dutyTok EH (qRC (nxt c)) 0 h) ∗ (bigSep Finset.univ fun h : Fin 15 => dutyTok EH (oRC (nxt c)) 0 h)) := by
    unfold pass; simp only [bigSep_sep']
  rw [hp]
  iintro ⟨HR, ⟨HaB, ⟨HaQ, HaQR⟩, HaO, HaOR⟩, ⟨HtB, HtP⟩, ⟨HtQ, HtQR⟩, HtO, HtOR⟩
  iexists K
  isplitl [HR]; · iexact HR
  isplitl [HaB]; · iexact HaB
  isplitl [HaQ HaQR]
  · isplitl [HaQ]; · iexact HaQ
    iexact HaQR
  isplitl [HaO HaOR]
  · isplitl [HaO]; · iexact HaO
    iexact HaOR
  isplitl [HtB]; · iexact HtB
  isplitl [HtP]; · iexact HtP
  isplitl [HtQ]; · iexact HtQ
  isplitl [HtO]; · iexact HtO
  isplitl [HtQR]; · iexact HtQR
  iexact HtOR

omit [FloatOps F] in
theorem big_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv EH (rd m) κ (kcell (c, k))))
          ∗ (bigSep Finset.univ fun k => iprop(atPos EH (kcell (c, k)) 0 ∅ 0 ∗ reached EH (kcell (c, k)) 0)) ∗ toks c) : sProp 𝕄)
      ⊢ bigSep Finset.univ (G' m) := by
  rw [bigSep_sep', bigSep_sep', ← bigSep_univ_prod (fun ck : Dev nD × CI => iprop(∃ κ : ℕ, cellInv EH (rd m) κ (kcell ck))),
    bigSep_congr (s := Finset.univ) (fun (c : Dev nD) _ => bigSep_sep' Finset.univ (fun k : CI => (atPos EH (kcell (c, k)) 0 ∅ 0 : sProp 𝕄)) (fun k => reached EH (kcell (c, k)) 0)),
    bigSep_sep', ← bigSep_univ_prod (fun ck : Dev nD × CI => (reached EH (kcell ck) 0 : sProp 𝕄)), toks_around]
  iintro ⟨HI, ⟨Hat, #HR⟩, Htk⟩
  ihave HK := (BI.bigSep_exists_pi Finset.univ (fun (ck : Dev nD × CI) (κ : ℕ) => (cellInv EH (rd m) κ (kcell ck) : sProp 𝕄))) $$ HI
  icases HK with ⟨%K, #HI⟩
  iapply (big_with_persistent (R := records m K) fun c _ => ghost_intro m K c)
  isplitr
  · unfold records; isplitl; · iexact HI
    iexact HR
  · iapply (Entails.of_eq (bigSep_sep' Finset.univ (fun c : Dev nD => bigSep Finset.univ fun k : CI => (atPos EH (kcell (c, k)) 0 ∅ 0 : sProp 𝕄)) (payToks (F := F))).symm)
    isplitl [Hat]; · iexact Hat
    iexact Htk

omit [FloatOps F] in
theorem glob : (bigSep Finset.univ fun c => iprop(Pipeline.ownSems0 (Ix := Fin 15) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What the devices owe, by the cell's device. -/
def dueAt (c : Dev nD) : CellTallies nD τ sig (Fin 15) :=
  (∑ h : Fin 15, (tallyAt (oRC c) h NO + tallyAt (qRC c) h NQ)) + tallyAt (barC c) 0 1 + tallyAt (barC c) 0 1

theorem owed_sum : (∑ d, owed₀ d) = ∑ d, dueAt d := by
  unfold owed₀ owed₁ owed dueAt
  rw [later_zero]
  simp only [Finset.sum_add_distrib]
  have e1 := Equiv.sum_comp around (fun d : Dev nD => (∑ h : Fin 15, tallyAt (oRC d) h NO : CellTallies nD τ sig (Fin 15)))
  have e2 := Equiv.sum_comp around (fun d : Dev nD => (∑ h : Fin 15, tallyAt (qRC d) h NQ : CellTallies nD τ sig (Fin 15)))
  have e3 := Equiv.sum_comp around (fun d : Dev nD => (tallyAt (barC d) 0 1 : CellTallies nD τ sig (Fin 15)))
  have e4 := Equiv.sum_comp around.symm (fun d : Dev nD => (tallyAt (barC d) 0 1 : CellTallies nD τ sig (Fin 15)))
  exact congrArg₂ (· + ·) (congrArg₂ (· + ·) (congrArg₂ (· + ·) e1 e2) e3) e4

theorem tallyAt_off {g g' : GSem nD τ sig} (ι : Fin 15) (n : ℕ) (h : g' ≠ g) : (tallyAt g ι n : CellTallies nD τ sig (Fin 15)) g' = 0 :=
  Finsupp.ext fun u => by rw [tallyAt_ne_cell h]

theorem dueAt_own (d : Dev nD) (g : GSem nD τ sig) (h : dueAt d g ≠ 0) : g.1 = (d : Thread nD τ) := by
  by_contra hn
  refine h ?_
  have hne (sm : SemLoc sig) : g ≠ ((d : Thread nD τ), sm) := fun e => hn (congrArg Prod.fst e)
  unfold dueAt
  rw [Pi.add_apply, Pi.add_apply, tallyAt_off _ _ (hne _), add_zero, add_zero, Finset.sum_apply]
  exact Finset.sum_eq_zero fun h _ => by rw [Pi.add_apply, tallyAt_off _ _ (hne _), tallyAt_off _ _ (hne _), add_zero]

omit [FloatOps F] in
theorem cred_add' (a b : CellTallies nD τ sig (Fin 15)) : (cred (a + b) : sProp 𝕄) = iprop(cred a ∗ cred b) :=
  BI.Entails.antisymm (cred_add _ _).1 (cred_add _ _).2

omit [FloatOps F] in
theorem due_intro (c : Dev nD) : (bigSep Finset.univ (fun h : Fin 15 => cred (tallyAt (oRC c) h NO + tallyAt (qRC c) h NQ)) : sProp 𝕄)
    ⊢ bigSep Finset.univ (due (F := F) c) :=
  bigSep_mono fun h _ => by
    rw [cred_add']; unfold due
    show iprop(cred (tallyAt (oRC c) h NO) ∗ cred (tallyAt (qRC c) h NQ)) ⊢ (iprop(cred (tallyAt (qRC c) h NQ) ∗ cred (tallyAt (oRC c) h NO)) : sProp 𝕄)
    iintro ⟨H1, H2⟩
    isplitl [H2]; · iexact H2
    iexact H1

omit [FloatOps F] in
theorem creds (c : Dev nD) :
    (Pipeline.launchCred owed₀ c : sProp 𝕄) ⊢ iprop(cred (tallyAt (barC c) 0 2) ∗ bigSep Finset.univ (due (F := F) c)) := by
  rw [Pipeline.launchCred_of_sum owed₀ dueAt owed_sum dueAt_own c]
  unfold dueAt
  rw [add_assoc, tallyAt_add, cred_add', Pipeline.cred_finsetSum]
  iintro ⟨H1, H2⟩
  isplitl [H2]; · iexact H2
  ihave H := (due_intro (F := F) c) $$ H1
  iexact H

/-! ## The side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨Hs, -, -⟩
  iexact Hs

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = rest c from rfl, scopedRest0_eq, unscopedSems0_eq]
  unfold rest Pipeline.ownSems0
  rw [big_KI]
  iintro ⟨HQ, HO, HzB⟩
  isplitl [HzB]; · iexact HzB
  isplitl
  · isplitl [HQ]; · iexact HQ
    iexact HO
  · iempintro

theorem waits (c : Dev nD) : (levAts L lv : sProp 𝕄) ⊢ Pipeline.cellsWaits cfgs (dats m) (0 : Fin 15) 0 c :=
  Pipeline.cellsWaits_intro cfgs (dats m) (0 : Fin 15) 0 c fun w s t =>
    mayWait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every weakly fair run of the program on the sixteen devices ends, with each window's array at its final contents and
    every semaphore at zero. -/
theorem run_main : θ_run (lateDefs (F := F)) (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) (0 : Fin 15) cellOf_inj (0 : Fin 1)
    winFacts0.to₀ ownSemFacts (Pipeline.PreFacts.none _) EP lateDefs₀ 𝒱₀ m ρ main
    (hmain := fun _ => rfl)
    (hbody := body_obligation m) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem finalA_arg0 (c : Dev nD) : finalA m c (0 : Fin 4) = m ((c : Thread nD τ).loc main_arg0) :=
  (dats (F := F) m 0 c).arrAt_in (0 : Fin 4) rfl _
theorem finalA_arg1 (c : Dev nD) : finalA m c (1 : Fin 4) = m ((c : Thread nD τ).loc main_arg1) :=
  (dats (F := F) m 0 c).arrAt_in (1 : Fin 4) rfl _

omit [FloatOps F] in
theorem read_out0 (f : Vec F S16x512x256 .bf16) : (win0_2.blk (0 : Fin 1)).view.read (Elt F) f = f :=
  Memref.read_access_unit_zero (Elt F) main_v1_0 (funext fun a => by fin_cases a <;> decide) (fun a => by fin_cases a <;> decide) f
omit [FloatOps F] in
theorem read_out1 (f : Vec F S16x256x512 .bf16) : (win0_3.blk (0 : Fin 1)).view.read (Elt F) f = f :=
  Memref.read_access_unit_zero (Elt F) main_v1_1 (funext fun a => by fin_cases a <;> decide) (fun a => by fin_cases a <;> decide) f

theorem finalA_out0 (c : Dev nD) : finalA m c (2 : Fin 4) = gotQ m c := by
  refine (read_out0 (F := F) _).symm.trans ?_
  unfold finalA
  rw [show cfg0.N = ((0 : Fin 1) : Fin cfg0.N).val + 1 from rfl, (dats m 0 c).arrAt_succ (2 : Fin 4) (0 : Fin 1)]
  rw [show (cfg0.win 2).flush (0 : Fin 1) = true from by decide, if_pos rfl]
  exact View.read_write_univ _ _
theorem finalA_out1 (c : Dev nD) : finalA m c (3 : Fin 4) = gotO m c := by
  refine (read_out1 (F := F) _).symm.trans ?_
  unfold finalA
  rw [show cfg0.N = ((0 : Fin 1) : Fin cfg0.N).val + 1 from rfl, (dats m 0 c).arrAt_succ (3 : Fin 4) (0 : Fin 1)]
  rw [show (cfg0.win 3).flush (0 : Fin 1) = true from by decide, if_pos rfl]
  exact View.read_write_univ _ _

end Cert.Own

end
-- ==== Proof.Sim.Base.lean ====
/-
  Two programs side by side that differ only in where some transfers read. `T` names the elements of memory the two may come to
  disagree on. A transfer of the one and its counterpart of the other write the same places; what they bring must agree wherever the
  element written lies outside `T`. Nothing else reads inside `T`. Then each step of the one machine is a step of the other by the
  same agent, and a statement about the final memory of the one that does not look inside `T` holds of the other.
-/
module

public import Idealize.ShloMosaic.Machine.Run

@[expose] public section

namespace Cert.Sim
open Idealize.SL.Sem Idealize.ShloMosaic

variable {nD : Nat} {τ : Topo} {sig : RefSig} {Val : EltTy → Type} {Λ : Labels}

/-! ## What may differ -/

/-- The elements two memories need not agree on. -/
abbrev Loose (nD : Nat) (τ : Topo) (sig : RefSig) : Type := (ℓ : Loc nD τ sig) → Idx ℓ → Prop

/-- Two memories agree off `T`. -/
def Agree (T : Loose nD τ sig) (f g : (ℓ : Loc nD τ sig) → Buf Val ℓ) : Prop := ∀ ℓ i, ¬ T ℓ i → f ℓ i = g ℓ i

theorem Agree.swap {T : Loose nD τ sig} {f g : (ℓ : Loc nD τ sig) → Buf Val ℓ} (h : Agree T f g) : Agree T g f :=
  fun ℓ i hi => (h ℓ i hi).symm

theorem Agree.self (T : Loose nD τ sig) (f : (ℓ : Loc nD τ sig) → Buf Val ℓ) : Agree T f f := fun _ _ _ => rfl

/-- A transfer into `u` on thread `c'`, read on thread `c` through `v` in the one program and through `v'` in the other: off agreeing
    memories the two bring the same to every element outside `T`. -/
def Moves (T : Loose nD τ sig) (c : Thread nD τ) {sp sp' : Space} {s₀ s : Shape} {e₀ e : EltTy} (v v' : View sig c.2.kind sp s₀ e₀)
    (via : ReadAs Val s₀ e₀ s e) (c' : Thread nD τ) (u : View sig c'.2.kind sp' s e) : Prop :=
  ∀ f g : (ℓ : Loc nD τ sig) → Buf Val ℓ, Agree T f g → ∀ x, ¬ T (u.loc c') (u.emb x) →
    via.apply (v.read Val (f (v.loc c))) x = via.apply (v'.read Val (g (v'.loc c))) x

section
variable {T : Loose nD τ sig} {c c' : Thread nD τ} {sp sp' : Space} {s₀ s : Shape} {e₀ e : EltTy} {v v' : View sig c.2.kind sp s₀ e₀}
  {via : ReadAs Val s₀ e₀ s e} {u : View sig c'.2.kind sp' s e}
theorem Moves.swap (h : Moves T c v v' via c' u) : Moves T c v' v via c' u := fun f g hfg x hx => (h g f hfg.swap x hx).symm
end

/-- A pending transfer and its counterpart. -/
inductive Twin (T : Loose nD τ sig) : Dma nD τ sig Val → Dma nD τ sig Val → Prop
  | mk {s : Shape} {e : EltTy} {c : Thread nD τ} {sp : Space} {s₀ : Shape} {e₀ : EltTy} {v v' : View sig c.2.kind sp s₀ e₀}
      {via : ReadAs Val s₀ e₀ s e} {c' : Thread nD τ} {sp' : Space} {u : View sig c'.2.kind sp' s e} {p : Option (GSem nD τ sig)}
      {q : GSem nD τ sig} {b b' : s.Idx → Val e} {R W : Finset s.Idx} {i j n : Nat}
      (hb : ∀ x, ¬ T (u.loc c') (u.emb x) → b x = b' x) (hv : Moves T c v v' via c' u) :
      Twin T ⟨s, e, c, sp, s₀, e₀, v, via, c', sp', u, p, q, b, R, W, i, j, n⟩ ⟨s, e, c, sp, s₀, e₀, v', via, c', sp', u, p, q, b', R, W, i, j, n⟩

theorem Twin.swap {T : Loose nD τ sig} {d d' : Dma nD τ sig Val} (h : Twin T d d') : Twin T d' d := by
  cases h with
  | mk hb hv => exact .mk (fun x hx => (hb x hx).symm) hv.swap

/-- The two machines' states: memories agree off `T`, transfers are counterparts one by one, the rest is the same; no stream is held
    and no operation pending. -/
structure Beside (T : Loose nD τ sig) (s s' : Phys nD τ sig Val) : Prop where
  mem : Agree T s.mem.mem s'.mem.mem
  sem : s.mem.sem = s'.mem.sem
  prng : s.mem.prng = s'.mem.prng
  dmas : List.Forall₂ (Twin T) s.dmas s'.dmas
  streams : s.streams = []
  streams' : s'.streams = []
  sigs : s.sigs = s'.sigs
  ops : s.ops = fun _ => none
  ops' : s'.ops = fun _ => none
  issued : s.issued = s'.issued

/-! ## Lists of counterparts -/
section Lists
variable {A B : Type} {R : A → B → Prop}

theorem all₂_at {l : List A} {l' : List B} (h : List.Forall₂ R l l') : ∀ {i : Nat} {a : A}, l[i]? = some a → ∃ b, l'[i]? = some b ∧ R a b := by
  induction h with
  | nil => intro i a ha; cases ha
  | cons hab _ ih =>
    intro i a ha
    cases i with
    | zero => cases ha; exact ⟨_, rfl, hab⟩
    | succ i => exact ih ha

theorem all₂_set {l : List A} {l' : List B} (h : List.Forall₂ R l l') {a : A} {b : B} (hab : R a b) : ∀ i : Nat, List.Forall₂ R (l.set i a) (l'.set i b) := by
  induction h with
  | nil => intro i; exact .nil
  | cons h₁ h₂ ih =>
    intro i
    cases i with
    | zero => exact .cons hab h₂
    | succ i => exact .cons h₁ (ih i)

theorem all₂_erase {l : List A} {l' : List B} (h : List.Forall₂ R l l') : ∀ i : Nat, List.Forall₂ R (l.eraseIdx i) (l'.eraseIdx i) := by
  induction h with
  | nil => intro i; exact .nil
  | cons h₁ h₂ ih =>
    intro i
    cases i with
    | zero => exact h₂
    | succ i => exact .cons h₁ (ih i)

theorem all₂_swap {R' : B → A → Prop} (hR : ∀ a b, R a b → R' b a) {l : List A} {l' : List B} (h : List.Forall₂ R l l') : List.Forall₂ R' l' l := by
  induction h with
  | nil => exact .nil
  | cons h₁ _ ih => exact .cons (hR _ _ h₁) ih

end Lists

theorem Beside.swap {T : Loose nD τ sig} {s s' : Phys nD τ sig Val} (h : Beside T s s') : Beside T s' s :=
  ⟨h.mem.swap, h.sem.symm, h.prng.symm, all₂_swap (fun _ _ => Twin.swap) h.dmas, h.streams', h.streams, h.sigs.symm, h.ops', h.ops, h.issued.symm⟩

/-! ## Programs -/

/-- An effect and its counterpart: the same but for the source of a transfer. A load must not see inside `T`. -/
inductive Mate (T : Loose nD τ sig) (c : Thread nD τ) : {β : Type} → TpuEff nD τ sig Val Λ c.2 β → TpuEff nD τ sig Val Λ c.2 β → Prop
  | load {cs : CoreSpace} {s : Shape} {e : EltTy} (m : Memref sig c.2.kind cs s e) (r : LoadRect s) (h : m.view.LoadsAt r)
      (hx : ∀ f g : (ℓ : Loc nD τ sig) → Buf Val ℓ, Agree T f g → m.view.readAt Val r (f (m.view.loc c)) = m.view.readAt Val r (g (m.view.loc c))) :
      Mate T c (.load m r h) (.load m r h)
  | store {cs : CoreSpace} {s : Shape} {e : EltTy} (m : Memref sig c.2.kind cs s e) (r : Rect s) (w : r.shape.Idx → Val e)
      (M : Finset r.shape.Idx) (h : (m.access r).Stores M) (hm : M = Finset.univ ∨ ∀ a, r.stride a = 1) :
      Mate T c (.store m r w M h hm) (.store m r w M h hm)
  | havoc {cs : CoreSpace} {s : Shape} {e : EltTy} (m : Memref sig c.2.kind cs s e) : Mate T c (.havoc m) (.havoc m)
  | assume (P : Prop) (d : Decidable P) : Mate T c (.assume P d) (.assume P d)
  | semSignal (dst : Thread nD τ) (sem : Sem sig) (n : Int) : Mate T c (.semSignal dst sem n) (.semSignal dst sem n)
  | semWait (sem : Sem sig) (n : Int) : Mate T c (.semWait sem n) (.semWait sem n)
  | send {sp sp' : Space} {s₀ : Shape} {e₀ : EltTy} {s : Shape} {e : EltTy} (src src' : Memref sig c.2.kind sp s₀ e₀)
      (tgt : DmaTarget nD τ sig c.2 sp' s e) (via : ReadAs Val s₀ e₀ s e) (sem : SemLoc sig)
      (h₁ : src.view.WordExact) (h₁' : src'.view.WordExact) (h₂ : tgt.view.WordExact) (h₃ : tgt.Typed sp sem)
      (hx : Moves T c src.view src'.view via (tgt.thread c.1) (tgt.viewAt c.1)) :
      Mate T c (.enqueueDmaAs src tgt via sem h₁ h₂ h₃) (.enqueueDmaAs src' tgt via sem h₁' h₂ h₃)
  | waitDma {κ : Kind} (sem : DmaSem sig) (b : Ref sig κ) (s : Shape) (e : EltTy) (hk : c.2 = .tc ∨ b.HasMemref s e) :
      Mate T c (.waitDma sem b s e hk) (.waitDma sem b s e hk)
  | kernelExit : Mate T c .kernelExit .kernelExit

/-- A program and its counterpart: counterpart effects in turn, every answer leading to counterparts. -/
inductive Along (T : Loose nD τ sig) (c : Thread nD τ) {α : Type} : Prog (TpuEff nD τ sig Val Λ c.2) α → Prog (TpuEff nD τ sig Val Λ c.2) α → Prop
  | ret (a : α) : Along T c (.ret a) (.ret a)
  | op {β : Type} {e e' : TpuEff nD τ sig Val Λ c.2 β} {k k' : β → Prog (TpuEff nD τ sig Val Λ c.2) α} :
      Mate T c e e' → (∀ x, Along T c (k x) (k' x)) → Along T c (.op e k) (.op e' k')
  | device {k k' : Dev nD → Prog (TpuEff nD τ sig Val Λ c.2) α} : Along T c (k c.1) (k' c.1) → Along T c (.op .deviceId k) (.op .deviceId k')
  | call (ℓ : Λ.Label) (a : Λ.Args ℓ) {k k' : Λ.Result ℓ → Prog (TpuEff nD τ sig Val Λ c.2) α} :
      (∀ x, Along T c (k x) (k' x)) → Along T c (.op (.call ℓ a) k) (.op (.call ℓ a) k')
  | customCall (ℓ : Λ.Label) (a : Λ.Args ℓ) {k k' : Λ.Result ℓ → Prog (TpuEff nD τ sig Val Λ c.2) α} :
      (∀ x, Along T c (k x) (k' x)) → Along T c (.op (.customCall ℓ a) k) (.op (.customCall ℓ a) k')

/-- Two tables of bodies, label by label. -/
def Tables (T : Loose nD τ sig) (D D' : Defs nD τ sig Val Λ) : Prop := ∀ (c : Thread nD τ) (ℓ : Λ.Label) (a : Λ.Args ℓ), Along T c (D c.2 ℓ a) (D' c.2 ℓ a)

/-- What is left of a thread's program: both done, or both going on as counterparts. -/
inductive Rest (T : Loose nD τ sig) (c : Thread nD τ) : Option (Prog (TpuEff nD τ sig Val Λ c.2) PUnit) → Option (Prog (TpuEff nD τ sig Val Λ c.2) PUnit) → Prop
  | done : Rest T c none none
  | on {p p' : Prog (TpuEff nD τ sig Val Λ c.2) PUnit} (h : Along T c p p') : Rest T c (some p) (some p')

section
variable {T : Loose nD τ sig} {c : Thread nD τ} {α β : Type}

theorem Mate.swap {e e' : TpuEff nD τ sig Val Λ c.2 β} (h : Mate T c e e') : Mate T c e' e := by
  cases h with
  | send src src' tgt via sem h₁ h₁' h₂ h₃ hx => exact .send src' src tgt via sem h₁' h₁ h₂ h₃ hx.swap
  | _ => constructor <;> assumption

theorem Along.swap {p p' : Prog (TpuEff nD τ sig Val Λ c.2) α} (h : Along T c p p') : Along T c p' p := by
  induction h with
  | ret a => exact .ret a
  | op he _ ih => exact .op he.swap ih
  | device _ ih => exact .device ih
  | call ℓ a _ ih => exact .call ℓ a ih
  | customCall ℓ a _ ih => exact .customCall ℓ a ih

theorem Along.andThen {p p' : Prog (TpuEff nD τ sig Val Λ c.2) α} {k k' : α → Prog (TpuEff nD τ sig Val Λ c.2) β}
    (h : Along T c p p') (hk : ∀ a, Along T c (k a) (k' a)) : Along T c (p >>= k) (p' >>= k') := by
  induction h with
  | ret a => exact hk a
  | op he _ ih => exact .op he ih
  | device _ ih => exact .device ih
  | call ℓ a _ ih => exact .call ℓ a ih
  | customCall ℓ a _ ih => exact .customCall ℓ a ih

theorem Tables.swap {D D' : Defs nD τ sig Val Λ} (h : Tables T D D') : Tables T D' D := fun c ℓ a => (h c ℓ a).swap

theorem Rest.swap {p p' : Option (Prog (TpuEff nD τ sig Val Λ c.2) PUnit)} (h : Rest T c p p') : Rest T c p' p := by
  cases h with
  | done => exact .done
  | on h => exact .on h.swap
end

/-- The two running machines. -/
structure Runs (T : Loose nD τ sig) (s s' : RunSt nD τ sig Val Λ) : Prop where
  phys : Beside T s.toPhys s'.toPhys
  prog : ∀ c, Rest T c (s.prog c) (s'.prog c)

theorem Runs.swap {T : Loose nD τ sig} {s s' : RunSt nD τ sig Val Λ} (h : Runs T s s') : Runs T s' s := ⟨h.phys.swap, fun c => (h.prog c).swap⟩

theorem Runs.final {T : Loose nD τ sig} {s s' : RunSt nD τ sig Val Λ} (h : Runs T s s') (hf : Final s) : Final s' := fun c => by
  have hc := h.prog c
  rw [hf c] at hc
  revert hc
  generalize s'.prog c = q
  intro hc
  cases hc
  rfl

/-! ## Memories after a write -/
section Writes
variable {T : Loose nD τ sig}

theorem Agree.write {m m' : MemSt nD τ sig Val} (h : Agree T m.mem m'.mem) (c : Thread nD τ) {sp : Space} {s : Shape} {e : EltTy}
    (v : View sig c.2.kind sp s e) (w w' : s.Idx → Val e) (M : Finset s.Idx) (hw : ∀ x, ¬ T (v.loc c) (v.emb x) → w x = w' x) :
    Agree T (m.writeView c v w M).mem (m'.writeView c v w' M).mem := by
  intro ℓ i hi
  by_cases hℓ : ℓ = v.loc c
  · subst hℓ
    rw [writeView_mem_self, writeView_mem_self]
    by_cases hM : i ∈ v.setOn M
    · obtain ⟨x, hx, rfl⟩ := Finset.mem_map.mp hM
      rw [View.write_emb_of_mem _ _ hx, View.write_emb_of_mem _ _ hx, hw x hi]
    · rw [View.write_of_not_mem _ _ _ hM, View.write_of_not_mem _ _ _ hM]
      exact h _ i hi
  · rw [writeView_mem_ne hℓ, writeView_mem_ne hℓ]
    exact h ℓ i hi

theorem Agree.forget {m m' : MemSt nD τ sig Val} (h : Agree T m.mem m'.mem) (d : Dev nD) (B : Finset (DevRef τ sig)) (g : Valuation τ sig Val) :
    Agree T (m.writeBufs d B g).mem (m'.writeBufs d B g).mem := by
  intro ℓ i hi
  show (if ℓ.1 = d ∧ ℓ.2 ∈ B then g ℓ.2 else m.mem ℓ) i = (if ℓ.1 = d ∧ ℓ.2 ∈ B then g ℓ.2 else m'.mem ℓ) i
  split
  · rfl
  · exact h ℓ i hi

end Writes

/-! ## One step of a thread -/
section Threads
variable {T : Loose nD τ sig} {s s' : Phys nD τ sig Val}

theorem touch_none {X : Type} (d : Dev nD) (b : DevRef τ sig) (M : Finset X) : Phys.touch (sig := sig) (Val := Val) (fun _ => none) d b M = fun _ => none := rfl
theorem touchSem_none (g : GSem nD τ sig) : Phys.touchSem (Val := Val) (fun _ => none) g = fun _ => none := rfl

theorem Beside.store (h : Beside T s s') (c : Thread nD τ) {sp : Space} {sh : Shape} {e : EltTy} (v : View sig c.2.kind sp sh e)
    (w : sh.Idx → Val e) (M : Finset sh.Idx) {X : Type} (d : Dev nD) (b : DevRef τ sig) (N : Finset X) :
    Beside T { s.writeView c v w M with ops := Phys.touch s.ops d b N } { s'.writeView c v w M with ops := Phys.touch s'.ops d b N } where
  mem := h.mem.write c v w w M fun _ _ => rfl
  sem := h.sem
  prng := h.prng
  dmas := h.dmas
  streams := h.streams
  streams' := h.streams'
  sigs := h.sigs
  ops := by show Phys.touch s.ops d b N = _; rw [h.ops]; rfl
  ops' := by show Phys.touch s'.ops d b N = _; rw [h.ops']; rfl
  issued := h.issued

theorem Beside.take (h : Beside T s s') (g : GSem nD τ sig) (k : Int) : Beside T (s.subSem g k) (s'.subSem g k) where
  mem := h.mem
  sem := by show Function.update s.mem.sem g (s.mem.sem g - k) = Function.update s'.mem.sem g (s'.mem.sem g - k); rw [h.sem]
  prng := h.prng
  dmas := h.dmas
  streams := h.streams
  streams' := h.streams'
  sigs := h.sigs
  ops := h.ops
  ops' := h.ops'
  issued := h.issued

theorem Beside.post (h : Beside T s s') (g : GSem nD τ sig) (k : Int) : Beside T (s.signal g k) (s'.signal g k) where
  mem := h.mem
  sem := h.sem
  prng := h.prng
  dmas := h.dmas
  streams := h.streams
  streams' := h.streams'
  sigs := by show (⟨g, k, s.issued⟩ :: s.sigs : List (Signal nD τ sig)) = ⟨g, k, s'.issued⟩ :: s'.sigs; rw [h.issued, h.sigs]
  ops := h.ops
  ops' := h.ops'
  issued := congrArg (· + 1) h.issued

theorem Beside.forget (h : Beside T s s') (c : Thread nD τ) (ω : Valuation τ sig Val) : Beside T (s.forget c ω) (s'.forget c ω) where
  mem := h.mem.forget _ _ _
  sem := h.sem
  prng := h.prng
  dmas := h.dmas
  streams := h.streams
  streams' := h.streams'
  sigs := h.sigs
  ops := h.ops
  ops' := h.ops'
  issued := h.issued

theorem Beside.start (h : Beside T s s') (d d' : Nat → Dma nD τ sig Val) (hd : ∀ n, Twin T (d n) (d' n)) : Beside T (s.enqueue d) (s'.enqueue d') where
  mem := h.mem
  sem := h.sem
  prng := h.prng
  dmas := by
    show List.Forall₂ (Twin T) (d s.issued :: s.dmas) (d' s'.issued :: s'.dmas)
    rw [h.issued]
    exact .cons (hd _) h.dmas
  streams := h.streams
  streams' := h.streams'
  sigs := h.sigs
  ops := h.ops
  ops' := h.ops'
  issued := congrArg (· + 1) h.issued

theorem Beside.zero (h : Beside T s s') (c : Thread nD τ) : s.scopedZero c = s'.scopedZero c := by unfold Phys.scopedZero; rw [h.sem]

theorem effect_step {c : Thread nD τ} {t : Phys nD τ sig Val} {ω : Valuation τ sig Val} {β : Type} {e e' : TpuEff nD τ sig Val Λ c.2 β} {x : β}
    (he : Mate T c e e') (hs : Beside T s s') (h : effStep c s ω e = some (x, t)) : ∃ t', effStep c s' ω e' = some (x, t') ∧ Beside T t t' := by
  cases he with
  | load m r hl hx => cases h; exact ⟨s', by show some _ = some _; rw [hx _ _ hs.mem], hs⟩
  | store m r w M hst hm => cases h; exact ⟨_, rfl, hs.store c (m.access r) w M _ _ M⟩
  | havoc m => cases h; exact ⟨_, rfl, hs.store c m.view _ _ _ _ _⟩
  | assume P d =>
    cases d with
    | isFalse hn => cases h
    | isTrue hp => cases h; exact ⟨_, rfl, hs⟩
  | semSignal dst sem n =>
    cases h
    refine ⟨_, rfl, ?_⟩
    split
    · exact hs.post _ _
    · exact hs
  | semWait sem n =>
    simp only [effStep] at h ⊢
    rw [hs.sem] at h
    split at h
    · rename_i hc
      cases h
      exact ⟨_, if_pos hc, hs.take _ _⟩
    · cases h
  | send src src' tgt via sem h₁ h₁' h₂ h₃ hx =>
    simp only [effStep] at h ⊢
    split at h
    · rename_i hc
      cases h
      exact ⟨_, if_pos hc, hs.start _ _ fun n => .mk (fun y hy => hx _ _ hs.mem y hy) hx⟩
    · cases h
  | waitDma sem b sh e hk =>
    simp only [effStep] at h ⊢
    rw [hs.sem] at h
    split at h
    · rename_i hc
      cases h
      exact ⟨_, if_pos hc, hs.take _ _⟩
    · cases h
  | kernelExit =>
    simp only [effStep] at h ⊢
    rw [hs.zero] at h
    split at h
    · rename_i hc
      cases h
      exact ⟨_, if_pos hc, hs.forget _ _⟩
    · cases h

theorem Mate.inner {c : Thread nD τ} {β : Type} {e e' : TpuEff nD τ sig Val Λ c.2 β} (he : Mate T c e e') (D : Defs nD τ sig Val Λ)
    (m : RunSt nD τ sig Val Λ) (ω : Valuation τ sig Val) (k : β → Prog (TpuEff nD τ sig Val Λ c.2) PUnit) :
    coreStepInner D c m ω (.op e k) = (effStep c m.toPhys ω e).map fun r => (some (k r.1), m.withPhys r.2) := by
  cases he <;> rfl

theorem thread_step {D D' : Defs nD τ sig Val Λ} (hD : Tables T D D') {c : Thread nD τ} {m m' : RunSt nD τ sig Val Λ} (hm : Beside T m.toPhys m'.toPhys)
    {ω : Valuation τ sig Val} {p p' : Prog (TpuEff nD τ sig Val Λ c.2) PUnit} (hp : Along T c p p')
    {q : Option (Prog (TpuEff nD τ sig Val Λ c.2) PUnit)} {n : RunSt nD τ sig Val Λ} (h : coreStepInner D c m ω p = some (q, n)) :
    ∃ q' n', coreStepInner D' c m' ω p' = some (q', n') ∧ Rest T c q q' ∧ Beside T n.toPhys n'.toPhys ∧ n.prog = m.prog ∧ n'.prog = m'.prog := by
  cases hp with
  | ret a => cases h; exact ⟨_, _, rfl, .done, hm, rfl, rfl⟩
  | device hk => cases h; exact ⟨_, _, rfl, .on hk, hm, rfl, rfl⟩
  | call ℓ a hk => cases h; exact ⟨_, _, rfl, .on ((hD c ℓ a).andThen hk), hm, rfl, rfl⟩
  | customCall ℓ a hk => cases h; exact ⟨_, _, rfl, .on ((hD c ℓ a).andThen fun r => .op .kernelExit fun _ => hk r), hm.forget c ω, rfl, rfl⟩
  | op he hk =>
    rw [he.inner] at h
    obtain ⟨⟨x, t⟩, h₁, h₂⟩ := Option.map_eq_some_iff.mp h
    cases h₂
    obtain ⟨t', h₃, h₄⟩ := effect_step he hm h₁
    exact ⟨_, m'.withPhys t', by rw [he.swap.inner, h₃]; rfl, .on (hk x), h₄, rfl, rfl⟩

end Threads

/-! ## One step of the engine, or a delivery -/
section Engine
variable {T : Loose nD τ sig} {s s' : Phys nD τ sig Val}

theorem Beside.quiet (h : Beside T s s') (a : Dev nD) (b : DevRef τ sig) : s.opWrites a b = false ∧ s'.opWrites a b = false := by
  unfold Phys.opWrites
  rw [h.ops, h.ops']
  constructor <;> exact decide_eq_false fun ⟨p, hp⟩ => by cases hp

theorem Beside.swapAt (h : Beside T s s') (i : Nat) {d d' : Dma nD τ sig Val} (hd : Twin T d d') (m m' : MemSt nD τ sig Val)
    (hm : Agree T m.mem m'.mem) (hsem : m.sem = m'.sem) (hp : m.prng = m'.prng) (o o' : Thread nD τ → Option (PendingOp τ sig Val))
    (ho : o = fun _ => none) (ho' : o' = fun _ => none) :
    Beside T ⟨m, s.dmas.set i d, s.streams, s.sigs, o, s.issued⟩ ⟨m', s'.dmas.set i d', s'.streams, s'.sigs, o', s'.issued⟩ where
  mem := hm
  sem := hsem
  prng := hp
  dmas := all₂_set h.dmas hd i
  streams := h.streams
  streams' := h.streams'
  sigs := h.sigs
  ops := ho
  ops' := ho'
  issued := h.issued

theorem Beside.read (h : Beside T s s') (i : Nat) {d d' : Dma nD τ sig Val} (hd : Twin T d d') (M : Finset d.shape.Idx) (hM : d.Reads M) (alt : Buf Val d.src) :
    ∃ (M' : Finset d'.shape.Idx) (alt' : Buf Val d'.src), d'.Reads M' ∧ d'.stamp = d.stamp ∧ Beside T (s.dmaRead i d M alt) (s'.dmaRead i d' M' alt') := by
  cases hd with
  | @mk sh e c sp s₀ e₀ v v' via c' sp' u p q b b' R W j k n hb hv =>
    refine ⟨M, s'.mem.mem (v'.loc c), hM, rfl, ?_⟩
    refine h.swapAt i ?_ _ _ h.mem h.sem h.prng _ _ h.ops h.ops'
    refine Twin.mk (fun x hx => ?_) hv
    have h₁ := (h.quiet (v.loc c).1 (v.loc c).2).1
    have h₂ := (h.quiet (v'.loc c).1 (v'.loc c).2).2
    dsimp only
    split
    · show via.apply (v.read Val (if s.opWrites (v.loc c).1 (v.loc c).2 = true then alt else s.mem.mem (v.loc c))) x
        = via.apply (v'.read Val (if s'.opWrites (v'.loc c).1 (v'.loc c).2 = true then s'.mem.mem (v'.loc c) else s'.mem.mem (v'.loc c))) x
      rw [if_neg (by rw [h₁]; exact Bool.false_ne_true), if_neg (by rw [h₂]; exact Bool.false_ne_true)]
      exact hv _ _ h.mem x hx
    · exact hb x hx

theorem Beside.wrote (h : Beside T s s') (i : Nat) {d d' : Dma nD τ sig Val} (hd : Twin T d d') (M : Finset d.shape.Idx) (hM : d.Writes M) :
    ∃ M' : Finset d'.shape.Idx, d'.Writes M' ∧ d'.stamp = d.stamp ∧ Beside T (s.dmaWrite i d M) (s'.dmaWrite i d' M') := by
  cases hd with
  | @mk sh e c sp s₀ e₀ v v' via c' sp' u p q b b' R W j k n hb hv =>
    refine ⟨M, hM, rfl, ?_⟩
    exact h.swapAt i (.mk hb hv) _ _ (h.mem.write c' u b b' M hb) h.sem h.prng _ _ (by rw [h.ops]; rfl) (by rw [h.ops']; rfl)

theorem Beside.paySrc (h : Beside T s s') (i : Nat) {d d' : Dma nD τ sig Val} (hd : Twin T d d') (k : Nat) (hk : d.PaysSrc k) :
    d'.PaysSrc k ∧ d'.stamp = d.stamp ∧ Beside T (s.dmaPaySrc i d k) (s'.dmaPaySrc i d' k) := by
  cases hd with
  | @mk sh e c sp s₀ e₀ v v' via c' sp' u p q b b' R W j l n hb hv =>
    refine ⟨hk, rfl, ?_⟩
    refine h.swapAt i (.mk hb hv) _ _ ?_ ?_ ?_ _ _ ?_ ?_
    · cases p <;> exact h.mem
    · cases p with
      | none => exact h.sem
      | some g => show Function.update s.mem.sem g (s.mem.sem g + k) = Function.update s'.mem.sem g (s'.mem.sem g + k); rw [h.sem]
    · cases p <;> exact h.prng
    · cases p <;> (dsimp only; rw [h.ops]); rfl
    · cases p <;> (dsimp only; rw [h.ops']); rfl

theorem Beside.payDst (h : Beside T s s') (i : Nat) {d d' : Dma nD τ sig Val} (hd : Twin T d d') (k : Nat) (hk : d.PaysDst k) :
    d'.PaysDst k ∧ d'.stamp = d.stamp ∧ Beside T (s.dmaPayDst i d k) (s'.dmaPayDst i d' k) := by
  cases hd with
  | @mk sh e c sp s₀ e₀ v v' via c' sp' u p q b b' R W j l n hb hv =>
    refine ⟨hk, rfl, ?_⟩
    refine h.swapAt i (.mk hb hv) (s.mem.addSem q k) (s'.mem.addSem q k) h.mem ?_ h.prng (Phys.touchSem s.ops q) (Phys.touchSem s'.ops q) ?_ ?_
    rotate_left
    · show Phys.touchSem s.ops q = _
      rw [h.ops]; rfl
    · show Phys.touchSem s'.ops q = _
      rw [h.ops']; rfl
    show Function.update s.mem.sem q (s.mem.sem q + k) = Function.update s'.mem.sem q (s'.mem.sem q + k)
    rw [h.sem]

theorem Beside.retire (h : Beside T s s') (i : Nat) {d d' : Dma nD τ sig Val} (hd : Twin T d d') (hk : d.Retires) :
    d'.Retires ∧ d'.stamp = d.stamp ∧ Beside T (s.dmaRetire i) (s'.dmaRetire i) := by
  refine ⟨?_, ?_, h.mem, h.sem, h.prng, all₂_erase h.dmas i, h.streams, h.streams', h.sigs, h.ops, h.ops', h.issued⟩
  · cases hd; exact hk
  · cases hd; rfl

theorem Beside.deliver (h : Beside T s s') (i : Nat) (sg : Signal nD τ sig) : Beside T (s.deliver i sg) (s'.deliver i sg) where
  mem := h.mem
  sem := by show Function.update s.mem.sem sg.cell (s.mem.sem sg.cell + sg.amount) = Function.update s'.mem.sem sg.cell (s'.mem.sem sg.cell + sg.amount); rw [h.sem]
  prng := h.prng
  dmas := h.dmas
  streams := h.streams
  streams' := h.streams'
  sigs := by show s.sigs.eraseIdx i = s'.sigs.eraseIdx i; rw [h.sigs]
  ops := by show Phys.touchSem s.ops _ = _; rw [h.ops]; rfl
  ops' := by show Phys.touchSem s'.ops _ = _; rw [h.ops']; rfl
  issued := h.issued

end Engine

/-! ## One step of the mesh, and whole runs -/
section Mesh
variable {T : Loose nD τ sig} {D D' : Defs nD τ sig Val Λ}

theorem mesh_step (hD : Tables T D D') {s s' t : RunSt nD τ sig Val Λ} {a : Agent nD τ} (hs : Runs T s s') (h : MeshStep D a s t) :
    ∃ t', MeshStep D' a s' t' ∧ Runs T t t' := by
  cases h with
  | @core c ω _ q n hstep =>
    unfold coreStep at hstep
    have hc := hs.prog c
    generalize hp : s.prog c = o at hc hstep
    generalize hp' : s'.prog c = o' at hc
    cases hc with
    | done => cases hstep
    | on hpp =>
      obtain ⟨q', n', h₁, h₂, h₃, h₄, h₅⟩ := thread_step hD hs.phys hpp hstep
      refine ⟨n'.setProg c q', .core c ω (by unfold coreStep; rw [hp']; exact h₁), h₃, fun b => ?_⟩
      show Rest T b (Function.update n.prog c q b) (Function.update n'.prog c q' b)
      by_cases hb : b = c
      · subst hb; rw [Function.update_self, Function.update_self]; exact h₂
      · rw [Function.update_of_ne hb, Function.update_of_ne hb, h₄, h₅]; exact hs.prog b
  | dmaRead i M alt hd hM =>
    obtain ⟨d', hd', ht⟩ := all₂_at hs.phys.dmas hd
    obtain ⟨M', alt', hM', hst, hb⟩ := hs.phys.read i ht M hM alt
    exact ⟨s'.withPhys _, hst ▸ .dmaRead i M' alt' hd' hM', hb, hs.prog⟩
  | dmaWrite i M hd hM =>
    obtain ⟨d', hd', ht⟩ := all₂_at hs.phys.dmas hd
    obtain ⟨M', hM', hst, hb⟩ := hs.phys.wrote i ht M hM
    exact ⟨s'.withPhys _, hst ▸ .dmaWrite i M' hd' hM', hb, hs.prog⟩
  | dmaPaySrc i k hd hk =>
    obtain ⟨d', hd', ht⟩ := all₂_at hs.phys.dmas hd
    obtain ⟨hk', hst, hb⟩ := hs.phys.paySrc i ht k hk
    exact ⟨s'.withPhys _, hst ▸ .dmaPaySrc i k hd' hk', hb, hs.prog⟩
  | dmaPayDst i k hd hk =>
    obtain ⟨d', hd', ht⟩ := all₂_at hs.phys.dmas hd
    obtain ⟨hk', hst, hb⟩ := hs.phys.payDst i ht k hk
    exact ⟨s'.withPhys _, hst ▸ .dmaPayDst i k hd' hk', hb, hs.prog⟩
  | dmaRetire i hd hk =>
    obtain ⟨d', hd', ht⟩ := all₂_at hs.phys.dmas hd
    obtain ⟨hk', hst, hb⟩ := hs.phys.retire i ht hk
    exact ⟨s'.withPhys _, hst ▸ .dmaRetire i hd' hk', hb, hs.prog⟩
  | serve i k alt hS hk => rw [hs.phys.streams] at hS; cases hS
  | deliver i hg => exact ⟨s'.withPhys _, .deliver i (hs.phys.sigs ▸ hg), hs.phys.deliver i _, hs.prog⟩

theorem reach (hD : Tables T D D') {s s' t : RunSt nD τ sig Val Λ} (hs : Runs T s s') (h : Reaches D s t) : ∃ t', Reaches D' s' t' ∧ Runs T t t' := by
  unfold Reaches at h
  induction h with
  | refl => exact ⟨s', .refl, hs⟩
  | tail _ hst ih =>
    obtain ⟨u, hu, hrel⟩ := ih
    obtain ⟨hn, a, hstep⟩ := hst
    obtain ⟨t', h₁, h₂⟩ := mesh_step hD hrel hstep
    exact ⟨t', hu.tail ⟨fun hf => hn (hrel.swap.final hf), a, h₁⟩, h₂⟩

/-- An endless run of the one has a companion of the other, state by state. -/
theorem endless (hD : Tables T D D') {s s' : RunSt nD τ sig Val Λ} (hs : Runs T s s') (ρ : InfRun D s) :
    ∃ ρ' : InfRun D' s', (∀ n, Runs T (ρ.st n) (ρ'.st n)) ∧ ρ'.ag = ρ.ag := by
  classical
  have next : ∀ n (t' : RunSt nD τ sig Val Λ), Runs T (ρ.st n) t' → ∃ u', MeshStep D' (ρ.ag n) t' u' ∧ Runs T (ρ.st (n + 1)) u' :=
    fun n t' ht => mesh_step hD ht (ρ.step n).2
  let f : (n : Nat) → {t' : RunSt nD τ sig Val Λ // Runs T (ρ.st n) t'} := fun n =>
    Nat.rec ⟨s', by rw [ρ.head]; exact hs⟩ (fun n t => ⟨Classical.choose (next n t.1 t.2), (Classical.choose_spec (next n t.1 t.2)).2⟩) n
  refine ⟨⟨fun n => (f n).1, ρ.ag, rfl, fun n => ⟨fun hf => (ρ.step n).1 ((f n).2.swap.final hf), ?_⟩⟩, fun n => (f n).2, rfl⟩
  exact (Classical.choose_spec (next n (f n).1 (f n).2)).1

theorem carry (hD : Tables T D D') {s s' : RunSt nD τ sig Val Λ} (hs : Runs T s s') {Q Q' : MemSt nD τ sig Val → Prop}
    (hQ : ∀ m m' : MemSt nD τ sig Val, Agree T m.mem m'.mem → m.sem = m'.sem → Q' m' → Q m) (h : MeshRun D' Q' s') : MeshRun D Q s where
  post t ht hf := by
    obtain ⟨t', h₁, h₂⟩ := reach hD hs ht
    exact hQ _ _ h₂.phys.mem h₂.phys.sem (h.post t' h₁ (h₂.final hf))
  progress t ht hn := by
    obtain ⟨t', h₁, h₂⟩ := reach hD hs ht
    obtain ⟨a, u', hu'⟩ := h.progress t' h₁ fun hf => hn (h₂.swap.final hf)
    obtain ⟨u, hu, -⟩ := mesh_step hD.swap h₂.swap hu'
    exact ⟨a, u, hu⟩
  fair ρ hρ := by
    obtain ⟨ρ', h₁, h₂⟩ := endless hD hs ρ
    refine h.fair ρ' fun a n hen => ?_
    rw [h₂]
    refine hρ a n fun m hm => ?_
    obtain ⟨u', hu'⟩ := hen m hm
    obtain ⟨u, hu, -⟩ := mesh_step hD.swap (h₁ m).swap hu'
    exact ⟨u, hu⟩

/-- What the other program's runs from `m` end in holds of the one's, if it does not look inside `T`. -/
theorem carry_run (hD : Tables T D D') {p p' : (c : Thread nD τ) → Prog (TpuEff nD τ sig Val Λ c.2) PUnit} (hp : ∀ c, Along T c (p c) (p' c))
    (m : MemSt nD τ sig Val) {Q Q' : PUnit × MemSt nD τ sig Val → Prop}
    (hQ : ∀ m₁ m₂ : MemSt nD τ sig Val, Agree T m₁.mem m₂.mem → m₁.sem = m₂.sem → Q' (⟨⟩, m₂) → Q (⟨⟩, m₁)) (h : θ_run D' p' m Q') : θ_run D p m Q :=
  carry (s := load p m) (s' := load p' m) (Q := fun m₁ => Q (⟨⟩, m₁)) (Q' := fun m₂ => Q' (⟨⟩, m₂)) hD ⟨⟨Agree.self T _, rfl, rfl, .nil, rfl, rfl, rfl, rfl, rfl, rfl⟩, fun c => .on (hp c)⟩ hQ h

end Mesh

end Cert.Sim
-- ==== Proof.Sim.Pipe.lean ====
/-
  Pipelined calls side by side: two tables of kernel bodies that go along with each other give two tables of pipelines that do,
  when every copy of a window's block, in or out, carries agreeing elements to agreeing elements.
-/
module

public import proofs.«01_k».proof.Proof.Sim.Base
public import Idealize.ShloMosaic.Lib.Pipeline
public import Idealize.ShloMosaic.Lib.Scf

@[expose] public section

namespace Cert.Sim
open Idealize.SL.Sem Idealize.ShloMosaic

/-! ## Counted loops and lifted bodies -/
section Parts
variable {nD : Nat} {τ : Topo} {sig : RefSig} {Val : EltTy → Type} {Λ Λ' : Labels} {T : Loose nD τ sig} {c : Thread nD τ} {α : Type}

theorem along_trips {w : Nat} {σ : Type} (l : Scf.Loop w) (hl : l.OK) (s₀ : σ) {f g : Fin l.trips → σ → Prog (TpuEff nD τ sig Val Λ c.2) σ}
    (h : ∀ t s, Along T c (f t s) (g t s)) : Along T c (l.for hl s₀ f) (l.for hl s₀ g) := by
  unfold Scf.Loop.for
  rw [Scf.for_eq, Scf.for_eq]
  suffices H : ∀ (ts : List (Fin l.trips)) (s : σ), Along T c (Scf.forFrom f ts s) (Scf.forFrom g ts s) from H _ _
  intro ts
  induction ts with
  | nil => exact fun s => .ret s
  | cons t ts ih => exact fun s => (h t s).andThen ih

theorem Mate.wide {β : Type} {e e' : TpuEff nD τ sig Val Λ c.2 β} (h : Mate T c e e') : Mate T c (e.inl (Λ' := Λ')) (e'.inl (Λ' := Λ')) := by
  cases h <;> constructor <;> assumption

theorem Along.wide {p p' : Prog (TpuEff nD τ sig Val Λ c.2) α} (h : Along T c p p') :
    Along T c (TpuEff.inlProg (Λ' := Λ') p) (TpuEff.inlProg (Λ' := Λ') p') := by
  induction h with
  | ret a => exact .ret a
  | op he _ ih => exact .op he.wide ih
  | device _ ih => exact .device ih
  | call ℓ a _ ih => exact .call (Labels.inl ℓ) a ih
  | customCall ℓ a _ ih => exact .customCall (Labels.inl ℓ) a ih

theorem Along.tc {p p' : Dev nD → Prog (TpuEff nD τ sig Val Λ .tc) PUnit} (h : ∀ d : Dev nD, Along T (d, .tc) (p d) (p' d)) :
    ∀ c : Thread nD τ, Along T c (onTc p c) (onTc p' c)
  | (d, .tc) => h d
  | (_, .scScalar _) => .ret _
  | (_, .scVector _ _) => .ret _

theorem Tables.tc {D D' : (ℓ : Λ.Label) → Λ.Args ℓ → Prog (TpuEff nD τ sig Val Λ .tc) (Λ.Result ℓ)}
    (h : ∀ (d : Dev nD) ℓ a, Along T (d, .tc) (D ℓ a) (D' ℓ a)) : Tables T (Defs.onTc D) (Defs.onTc D')
  | (d, .tc), ℓ, a => h d ℓ a
  | (_, .scScalar _), ℓ, a => .call ℓ a fun _ => .ret _
  | (_, .scVector _ _), ℓ, a => .call ℓ a fun _ => .ret _

end Parts

/-! ## A pipeline's copies -/
section Pipes
variable {nD : Nat} {τ : Topo} {sig : RefSig} {Val : EltTy → Type} {Λ₀ : Labels} {P : Type} {T : Loose nD τ sig}

/-- Only an output window is written back. -/
theorem flush_out {G : Pipeline.Grid} {w : Pipeline.Window sig G} {t : Fin G.N} (h : w.flush t = true) : w.isOut = true :=
  (Bool.and_eq_true_iff.mp h).1

/-- Every copy of a block of this pipeline carries agreeing elements to agreeing elements. -/
structure Copies (T : Loose nD τ sig) (Val : EltTy → Type) (cfg : Pipeline.Cfg sig Λ₀) : Prop where
  into : ∀ (d : Dev nD) (w : Fin cfg.W) (t : Fin cfg.N),
    Moves (Val := Val) T (d, .tc) ((cfg.win w).blk t).view ((cfg.win w).blk t).view .same (d, .tc) ((cfg.win w).stg t (cfg.slots t w)).view
  out : ∀ (d : Dev nD) (w : Fin cfg.W) (t : Fin cfg.N), (cfg.win w).isOut = true →
    Moves (Val := Val) T (d, .tc) ((cfg.win w).stg t (cfg.slots t w)).view ((cfg.win w).stg t (cfg.slots t w)).view .same (d, .tc) ((cfg.win w).blk t).view

section One
variable {A : P → Type} {p : P} (d : Dev nD) (cfg : Pipeline.Cfg sig Λ₀)
local notation "ℙ" => Prog (TpuEff nD τ sig Val (Pipeline.Sig Λ₀ P A) Proc.tc) PUnit

theorem along_each (q : Fin cfg.W → Bool) {f : Fin cfg.W → ℙ → ℙ} (hf : ∀ w k, q w = true → Along T (d, .tc) k k → Along T (d, .tc) (f w k) (f w k)) {k : ℙ}
    (hk : Along T (d, .tc) k k) : Along T (d, .tc) (cfg.eachWin q f k) (cfg.eachWin q f k) := by
  unfold Pipeline.Cfg.eachWin
  induction List.finRange cfg.W with
  | nil => exact hk
  | cons w l ih =>
    rw [List.foldr_cons]
    split
    · exact hf w _ (by assumption) ih
    · exact ih

theorem along_at (t n : Nat) {f : Fin cfg.N → ℙ → ℙ} (hf : ∀ u k, Along T (d, .tc) k k → Along T (d, .tc) (f u k) (f u k)) {k : ℙ}
    (hk : Along T (d, .tc) k k) : Along T (d, .tc) (cfg.atPoint t n f k) (cfg.atPoint t n f k) := by
  unfold Pipeline.Cfg.atPoint
  split
  · exact hf _ _ hk
  · exact hk

variable {cfg} (hc : Copies T Val cfg)
include hc

theorem along_fetch (w : Fin cfg.W) (t : Fin cfg.N) {k : ℙ} (hk : Along T (d, .tc) k k) : Along T (d, .tc) (cfg.fetchIn w t k) (cfg.fetchIn w t k) := by
  unfold Pipeline.Cfg.fetchIn
  split
  · exact .op (.havoc _) fun _ => .op (.send _ _ _ _ _ _ _ _ _ (hc.into d w t)) fun _ => hk
  · exact .op (.send _ _ _ _ _ _ _ _ _ (hc.into d w t)) fun _ => hk

theorem along_flush (w : Fin cfg.W) (t : Fin cfg.N) (h : (cfg.win w).isOut = true) {k : ℙ} (hk : Along T (d, .tc) k k) :
    Along T (d, .tc) (.op (cfg.startOut w t) fun _ => k) (.op (cfg.startOut w t) fun _ => k) :=
  .op (.send _ _ _ _ _ _ _ _ _ (hc.out d w t h)) fun _ => hk

theorem along_iter (a : A p) (ℓ : Nat) : Along T (d, .tc) (cfg.iter (nD := nD) (τ := τ) (Val := Val) (p := p) a ℓ) (cfg.iter (p := p) a ℓ) := by
  refine along_at d cfg _ _ (fun u k hk => along_each d cfg _ (fun w k _ hk => along_fetch d hc w u hk) hk) ?_
  refine along_at d cfg _ _ (fun u k hk => along_each d cfg _ (fun w k _ hk => along_fetch d hc w u hk) hk) ?_
  refine along_at d cfg _ _ (fun u k hk => ?_) ?_
  · refine along_each d cfg _ (fun w k _ hk => .op (.waitDma _ _ _ _ _) fun _ => hk) (.call _ _ fun _ => ?_)
    refine along_each d cfg _ (fun w k hw hk => along_flush d hc w u (flush_out (by first | exact hw | exact (Bool.and_eq_true_iff.mp hw).2)) hk) ?_
    exact along_each d cfg _ (fun w k _ hk => .op (.waitDma _ _ _ _ _) fun _ => hk) hk
  · refine along_at d cfg _ _ (fun u k hk => along_each d cfg _ (fun w k _ hk => .op (.waitDma _ _ _ _ _) fun _ => hk) hk) ?_
    split
    · exact .call _ _ fun _ => .ret _
    · exact .ret _

theorem along_straight (h : cfg.N = 1) : Along T (d, .tc) (cfg.straight (nD := nD) (τ := τ) (Val := Val) (P := P) (A := A) h) (cfg.straight h) := by
  refine along_each d cfg _ (fun w k _ hk => along_fetch d hc w _ hk) ?_
  refine along_each d cfg _ (fun w k _ hk => .op (.waitDma _ _ _ _ _) fun _ => hk) (.call _ _ fun _ => ?_)
  refine along_each d cfg _ (fun w k hw hk => along_flush d hc w _ (flush_out (by first | exact hw | exact (Bool.and_eq_true_iff.mp hw).2)) hk) ?_
  exact along_each d cfg _ (fun w k _ hk => .op (.waitDma _ _ _ _ _) fun _ => hk) (.ret _)

theorem along_region (a : A p) : Along T (d, .tc) (cfg.runAt (nD := nD) (τ := τ) (Val := Val) p a) (cfg.runAt p a) := by
  unfold Pipeline.Cfg.runAt
  split
  · exact .ret _
  · split
    · exact along_straight d hc _
    · exact .call _ _ fun _ => .ret _

end One

/-! ## Whole tables -/

theorem tables_pipelined {W : P → Pipeline.Cfg sig Λ₀} (hW : ∀ p, Copies T Val (W p)) {D D' : Defs nD τ sig Val Λ₀} (h : Tables T D D') :
    Tables T (Pipeline.defs (fun p => (W p).toPCfg) D) (Pipeline.defs (fun p => (W p).toPCfg) D') := by
  rintro ⟨d, pr⟩ (ℓ | ⟨p⟩ | ⟨p⟩) a
  · exact (h (d, pr) ℓ a).wide
  · cases pr with
    | tc => exact .op (.assume _ _) fun _ => along_region d (hW p) _
    | scScalar _ => exact .call _ _ fun _ => .ret _
    | scVector _ _ => exact .call _ _ fun _ => .ret _
  · cases pr with
    | tc =>
      obtain ⟨a, ℓ⟩ := a
      exact along_iter (A := fun q => ((W q).toPCfg (Val := Val)).Adm) (p := p) d (hW p) a ℓ
    | scScalar _ => exact .call _ _ fun _ => .ret _
    | scVector _ _ => exact .call _ _ fun _ => .ret _

end Pipes
end Cert.Sim
-- ==== Proof.Own.Beside.lean ====
/-
  The ring as it is written beside the altered one. They may come to disagree only in the slots of age two and more, the ones
  that a later hop brings: the first hop reads a device's own slot in both, and every later hop's slot is such a slot.
-/
module

public import proofs.«01_k».proof.Proof.Own.Ring
public import proofs.«01_k».proof.Proof.Sim.Pipe

@[expose] public section

noncomputable section

namespace Cert.Own

open Cert.Written Cert.Written.Gen
open Idealize.ShloMosaic Idealize.ShloMosaic.TcCoe
open Idealize.SL Idealize.SL.Sem
open Cert.Sim

variable {F : FTy → Type} [FloatOps F]

/-! ## Where the two may disagree -/

/-- The buffers of the two gathered arrays, as the kernel fills them and as it hands them out. -/
def gathered : List (DevRef τ sig) :=
  [(Proc.tc : Proc τ).devRef cc0_stg2_0, (Proc.tc : Proc τ).devRef cc0_stg3_0, (Proc.tc : Proc τ).devRef main_v1_0, (Proc.tc : Proc τ).devRef main_v1_1]

/-- The slots of age two and more of those. -/
def Far : Loose nD τ sig := fun ℓ i => ℓ.2 ∈ gathered ∧ ∃ h : 0 < ℓ.2.ty.shape.rank, 2 ≤ age ℓ.1 (i ⟨0, h⟩).val

theorem not_far (d : Dev nD) {b : Ref sig .tc} (h : (Proc.tc : Proc τ).devRef b ∉ gathered) (i : Idx ((d : Thread nD τ).loc b)) : ¬ Far ((d : Thread nD τ).loc b) i :=
  fun hf => h hf.1

theorem not_far_q (d : Dev nD) (i : S16x512x256.Idx) (h : age d (i 0).val < 2) : ¬ Far ((d : Thread nD τ).loc cc0_stg2_0) i := fun ⟨_, _, h2⟩ =>
  absurd h (Nat.not_lt.mpr h2)
theorem not_far_o (d : Dev nD) (i : S16x256x512.Idx) (h : age d (i 0).val < 2) : ¬ Far ((d : Thread nD τ).loc cc0_stg3_0) i := fun ⟨_, _, h2⟩ =>
  absurd h (Nat.not_lt.mpr h2)
theorem not_far_v0 (d : Dev nD) (i : S16x512x256.Idx) (h : age d (i 0).val < 2) : ¬ Far ((d : Thread nD τ).loc main_v1_0) i := fun ⟨_, _, h2⟩ =>
  absurd h (Nat.not_lt.mpr h2)
theorem not_far_v1 (d : Dev nD) (i : S16x256x512.Idx) (h : age d (i 0).val < 2) : ¬ Far ((d : Thread nD τ).loc main_v1_1) i := fun ⟨_, _, h2⟩ =>
  absurd h (Nat.not_lt.mpr h2)
theorem far_q (d : Dev nD) (i : S16x512x256.Idx) (h : 2 ≤ age d (i 0).val) : Far ((d : Thread nD τ).loc cc0_stg2_0) i :=
  ⟨show (Proc.tc : Proc τ).devRef cc0_stg2_0 ∈ gathered from by decide, Nat.succ_pos _, h⟩
theorem far_o (d : Dev nD) (i : S16x256x512.Idx) (h : 2 ≤ age d (i 0).val) : Far ((d : Thread nD τ).loc cc0_stg3_0) i :=
  ⟨show (Proc.tc : Proc τ).devRef cc0_stg3_0 ∈ gathered from by decide, Nat.succ_pos _, h⟩
theorem far_v0 (d : Dev nD) (i : S16x512x256.Idx) (h : 2 ≤ age d (i 0).val) : Far ((d : Thread nD τ).loc main_v1_0) i :=
  ⟨show (Proc.tc : Proc τ).devRef main_v1_0 ∈ gathered from by decide, Nat.succ_pos _, h⟩
theorem far_v1 (d : Dev nD) (i : S16x256x512.Idx) (h : 2 ≤ age d (i 0).val) : Far ((d : Thread nD τ).loc main_v1_1) i :=
  ⟨show (Proc.tc : Proc τ).devRef main_v1_1 ∈ gathered from by decide, Nat.succ_pos _, h⟩

/-! ## Copies -/

section
variable {c c' : Thread nD τ} {sp sp' : Space} {s : Shape} {e : EltTy} {v : View sig c.2.kind sp s e} {u : View sig c'.2.kind sp' s e}

/-- A copy whose far elements go to far elements. -/
theorem moves_same (h : ∀ x, Far (v.loc c) (v.emb x) → Far (u.loc c') (u.emb x)) : Moves (Val := Elt F) Far c v v .same c' u := fun f g hfg x hx =>
  congrArg (_root_.cast (congrArg (Elt F) v.elt_eq)) (hfg _ _ fun hf => hx (h x hf))
/-- A copy that writes far elements only. -/
theorem moves_far {v' : View sig c.2.kind sp s e} (h : ∀ x, Far (u.loc c') (u.emb x)) : Moves (Val := Elt F) Far c v v' .same c' u := fun _ _ _ x hx =>
  absurd (h x) hx
end

/-- The pipeline's copies. -/
theorem copies : Copies Far (Elt F) cfg0 where
  into d w t := by
    rw [fin_N0 t]
    fin_cases w
    · exact moves_same fun x hf => absurd hf (not_far d (b := main_arg0) (by decide) _)
    · exact moves_same fun x hf => absurd hf (not_far d (b := main_arg1) (by decide) _)
    · refine moves_same fun x hf => far_q d _ (le_of_le_of_eq hf.2.2 (congrArg (age d) ?_))
      show 0 * 16 + 1 * (x 0).val = 0 + 1 * (x 0).val
      omega
    · refine moves_same fun x hf => far_o d _ (le_of_le_of_eq hf.2.2 (congrArg (age d) ?_))
      show 0 * 16 + 1 * (x 0).val = 0 + 1 * (x 0).val
      omega
  out d w t ho := by
    rw [fin_N0 t]
    fin_cases w
    · exact absurd ho (by decide)
    · exact absurd ho (by decide)
    · refine moves_same fun x hf => far_v0 d _ (le_of_le_of_eq hf.2.2 (congrArg (age d) ?_))
      show 0 + 1 * (x 0).val = 0 * 16 + 1 * (x 0).val
      omega
    · refine moves_same fun x hf => far_v1 d _ (le_of_le_of_eq hf.2.2 (congrArg (age d) ?_))
      show 0 + 1 * (x 0).val = 0 * 16 + 1 * (x 0).val
      omega

/-! ## The body -/

/-- The first hop's slot on the next device is the device's own, and a later hop's is of age two at least. -/
theorem age_slot (c : Dev nD) (t : Trip) (y : S512x256.Idx) : age c ((qAt c t).view.emb y 0).val = t.val := by
  have h : (qAt c t).view.emb y ∈ slotQ c t.val := by rw [← qSlot_set c t]; exact Finset.mem_map.mpr ⟨y, Finset.mem_univ _, rfl⟩
  exact (Finset.mem_filter.mp h).2
theorem age_slot' (c : Dev nD) (t : Trip) (y : S256x512.Idx) : age c ((oAt c t).view.emb y 0).val = t.val := by
  have h : (oAt c t).view.emb y ∈ slotO c t.val := by rw [← oSlot_set c t]; exact Finset.mem_map.mpr ⟨y, Finset.mem_univ _, rfl⟩
  exact (Finset.mem_filter.mp h).2

theorem moves_q (c n : Dev nD) (hn : n = nxt c) (t : Trip) :
    Moves (Val := Elt F) Far (c, .tc) (qAt c t).view (qAt c hop0).view .same (n, .tc) (qAt c t).view := by
  subst hn
  rcases Nat.eq_zero_or_pos t.val with h | h
  · obtain rfl : t = hop0 := Fin.ext h
    exact moves_same fun x hf => absurd hf (not_far_q c _ (by rw [age_slot]; decide))
  · refine moves_far fun x => far_q (nxt c) _ (le_of_le_of_eq (Nat.succ_le_succ h) ?_)
    exact ((age_nxt c _ t.val ((qAt c t).view.emb x 0).isLt (t_lt t)).mpr (age_slot c t x)).symm
theorem moves_o (c n : Dev nD) (hn : n = nxt c) (t : Trip) :
    Moves (Val := Elt F) Far (c, .tc) (oAt c t).view (oAt c hop0).view .same (n, .tc) (oAt c t).view := by
  subst hn
  rcases Nat.eq_zero_or_pos t.val with h | h
  · obtain rfl : t = hop0 := Fin.ext h
    exact moves_same fun x hf => absurd hf (not_far_o c _ (by rw [age_slot']; decide))
  · refine moves_far fun x => far_o (nxt c) _ (le_of_le_of_eq (Nat.succ_le_succ h) ?_)
    exact ((age_nxt c _ t.val ((oAt c t).view.emb x 0).isLt (t_lt t)).mpr (age_slot' c t x)).symm

theorem along_hop (c : Dev nD) (t : Trip) (u : Unit) :
    Along Far (c, .tc) (hopOf (F := F) (fun t => t) c t u) (hopOf (F := F) (fun _ => hop0) c t u) :=
  .op (.send _ _ _ _ _ _ _ _ _ (moves_q c _ (dev3_nxt c) t)) fun _ =>
  .op (.send _ _ _ _ _ _ _ _ _ (moves_o c _ (dev4_nxt c) t)) fun _ =>
  .op (.waitDma _ _ _ _ _) fun _ => .op (.waitDma _ _ _ _ _) fun _ => .op (.waitDma _ _ _ _ _) fun _ => .op (.waitDma _ _ _ _ _) fun _ => .ret _

theorem loads_own_q (d c : Dev nD) (f g : (ℓ : Loc nD τ sig) → Buf (Elt F) ℓ) (h : Agree Far f g) (hd : d = c) :
    qM.view.readAt (Elt F) (rQ c).toLoadRect (f (qM.view.loc (d : Thread nD τ))) = qM.view.readAt (Elt F) (rQ c).toLoadRect (g (qM.view.loc (d : Thread nD τ))) := by
  subst hd
  funext x
  refine h _ _ (not_far_q d _ ?_)
  have hx : (qM.access (rQ d) : View sig .tc _ _ _).emb x ∈ slotQ d 0 := by rw [← accQ_set d]; exact Finset.mem_map.mpr ⟨x, Finset.mem_univ _, rfl⟩
  exact lt_of_eq_of_lt (Finset.mem_filter.mp hx).2 (by decide)
theorem loads_own_o (d c : Dev nD) (f g : (ℓ : Loc nD τ sig) → Buf (Elt F) ℓ) (h : Agree Far f g) (hd : d = c) :
    oM.view.readAt (Elt F) (rO c).toLoadRect (f (oM.view.loc (d : Thread nD τ))) = oM.view.readAt (Elt F) (rO c).toLoadRect (g (oM.view.loc (d : Thread nD τ))) := by
  subst hd
  funext x
  refine h _ _ (not_far_o d _ ?_)
  have hx : (oM.access (rO d) : View sig .tc _ _ _).emb x ∈ slotO d 0 := by rw [← accO_set d]; exact Finset.mem_map.mpr ⟨x, Finset.mem_univ _, rfl⟩
  exact lt_of_eq_of_lt (Finset.mem_filter.mp hx).2 (by decide)

theorem along_body (d : Dev nD) : Along Far (d, .tc) (bodyOf (F := F) fun t => t) (bodyOf (F := F) fun _ => hop0) :=
  .device <| .op (.semSignal _ _ _) fun _ => .op (.semSignal _ _ _) fun _ => .op (.semWait _ _) fun _ =>
  .op (.load _ _ _ fun f g h => funext fun x => h _ _ (not_far d (b := cc0_stg0_0) (by decide) _)) fun x =>
  .op (.load _ _ _ fun f g h => loads_own_q d d f g h rfl) fun _ => .op (.store _ _ _ _ _ _) fun _ =>
  .op (.load _ _ _ fun f g h => funext fun x => h _ _ (not_far d (b := cc0_stg1_0) (by decide) _)) fun y =>
  .op (.load _ _ _ fun f g h => loads_own_o d d f g h rfl) fun _ => .op (.store _ _ _ _ _ _) fun _ =>
  (along_trips _ k0_t1_ok _ fun t u => along_hop d t u).andThen fun _ => .ret _

/-- The two tables. -/
theorem along_defs : Tables Far (defs (F := F)) lateDefs := by
  unfold defs lateDefs
  refine tables_pipelined (fun _ => copies) ?_
  unfold defs₀ lateDefs₀
  refine Tables.tc fun d ℓ a => ?_
  match ℓ, a with
  | ⟨0, _⟩, (t, s) =>
    refine Eq.mpr (congrArg (fun p => Along Far (d, .tc) p _) ?_) (along_body (F := F) d)
    refine Eq.trans ?_ body_written
    rfl
  | ⟨_ + 1, h⟩, _ => exact absurd h (Nat.not_lt.2 (Nat.le_add_left _ _))

theorem along_main (c : Thread nD τ) : Along Far c (onTc (τ := τ) (main (F := F)) c) (onTc (τ := τ) (main (F := F)) c) :=
  Along.tc (fun d => .customCall _ _ fun _ => .ret _) c

end Cert.Own

end
-- ==== Proof.Own.Claims.lean ====
/-
  The claims of the ring as it is written: it runs to rest, and on every device a device's own slot and the slot that the first
  hop brings hold what the gathered array holds there.
-/
module

public import proofs.«01_k».proof.Defs
public import proofs.«01_k».proof.Proof.Own.Launch
public import proofs.«01_k».proof.Proof.Own.Beside
public import proofs.«01_k».proof.Proof.Gen.Gathers
public import proofs.«01_k».proof.Proof.Gen.Gathers.Run
public import proofs.«01_k».proof.Proof.Gen.On_first_hop
public import Idealize.ShloMosaic.Lib.Quiescent
public import Idealize.ShloMosaic.Lib.PointwiseCore

@[expose] public section

noncomputable section

namespace Cert.Own

open Idealize.ShloMosaic Idealize.SL.Sem

variable {F : FTy → Type} [FloatOps F]

/-! ## The run -/

section Run
open Cert.Written Cert.Written.Gen

/-- The end of the ring as it is written: the two near slots of both gathered arrays on every device, the shards unchanged,
    every semaphore at zero. -/
theorem run_written (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      (∀ i : S16x512x256.Idx, age c (i 0).val < 2 → r.2.mem ((c.tc : Thread nD τ).loc main_v1_0) i = gotQ m c i)
      ∧ (∀ i : S16x256x512.Idx, age c (i 0).val < 2 → r.2.mem ((c.tc : Thread nD τ).loc main_v1_1) i = gotO m c i)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Cert.Sim.carry_run along_defs along_main _ (fun m₁ m₂ ha hs h => ⟨fun c =>
    ⟨fun i hi => (ha ((c.tc : Thread nD τ).loc main_v1_0) i (not_far_v0 c i hi)).trans (congrFun ((h.1 c 2).trans (finalA_out0 m c)) i),
      fun i hi => (ha ((c.tc : Thread nD τ).loc main_v1_1) i (not_far_v1 c i hi)).trans (congrFun ((h.1 c 3).trans (finalA_out1 m c)) i),
      funext fun i => (ha _ i (not_far c (b := main_arg0) (by decide) i)).trans (congrFun ((h.1 c 0).trans (finalA_arg0 m c)) i),
      funext fun i => (ha _ i (not_far c (b := main_arg1) (by decide) i)).trans (congrFun ((h.1 c 1).trans (finalA_arg1 m c)) i)⟩,
    hs.trans h.2⟩) (run_main m ρ)

theorem near_is (c : Dev nD) (j : Fin 16) (h : age c j.val < 2) : (if j.val = c.val then c else prv c) = j := by
  have hc : c.val < 16 := c.isLt
  have hj := j.isLt
  unfold age at h
  split
  · next e => exact Fin.ext e.symm
  · next e => refine Fin.ext ?_; show (c.val + 15) % 16 = j.val; omega

end Run

theorem frame_written : Cert.quiescent_Written := fun m ρ _ =>
  (θ_run (Cert.Written.defs (F := Bits)) _ _).mono (fun _ h => ⟨fun c => (h.1 c).2.2, h.2⟩) (run_written (F := Bits) m ρ)

theorem frame_gathers : Cert.quiescent_Gathers := fun m ρ _ =>
  (θ_run (Cert.Gathers.defs (F := Bits)) _ _).mono (fun r h => ⟨fun c => (h c).2.2, sem_eq_zero_of_no_sems rfl r.2⟩)
    (Cert.Gathers.Value.run m ρ)

/-! ## The gathered arrays, once for each device -/

section Many
open Cert.Gathers Cert.Gathers.Gen

/-- The columns of the whole array in sixteen blocks, the block's number in front; the whole of it sixteen times. -/
def manyQ (v : Vec F S512x4096 .bf16) : Vec F S256x512x256 .bf16 :=
  shapeCast _ (broadcastInDim S16x16x512x256 ![0, 1, 2, 3] bcast_S1x16x512x256_S16x16x512x256_0_1_2_3
    (broadcastInDim S1x16x512x256 ![1, 2, 3] bcast_S16x512x256_S1x16x512x256_1_2_3
      (transpose S16x512x256 [1, 0, 2] (shapeCast _ v shapeCasts_S512x4096_S512x16x256) transposes_S512x16x256_S16x512x256_1_0_2)))
    shapeCasts_S16x16x512x256_S256x512x256
/-- The same of the rows. -/
def manyO (v : Vec F S4096x512 .bf16) : Vec F S256x256x512 .bf16 :=
  shapeCast _ (broadcastInDim S16x16x256x512 ![0, 1, 2, 3] bcast_S1x16x256x512_S16x16x256x512_0_1_2_3
    (broadcastInDim S1x16x256x512 ![1, 2, 3] bcast_S16x256x512_S1x16x256x512_1_2_3 (shapeCast _ v shapeCasts_S4096x512_S16x256x512)))
    shapeCasts_S16x16x256x512_S256x256x512

theorem manyQ_apply (v : Vec F S512x4096 .bf16) (c j : Fin 16) (a : Fin 512) (b : Fin 256) :
    manyQ v (ix3 ⟨c.val * 16 + j.val, by omega⟩ a b) = v (ix2 a ⟨j.val * 256 + b.val, by omega⟩) := by
  pointwise [manyQ]
theorem manyO_apply (v : Vec F S4096x512 .bf16) (c j : Fin 16) (a : Fin 256) (b : Fin 512) :
    manyO v (ix3 ⟨c.val * 16 + j.val, by omega⟩ a b) = v (ix2 ⟨j.val * 256 + a.val, by omega⟩ b) := by
  pointwise [manyO]

end Many

/-! ## Where the claim looks -/

/-- Row `r` of the sixteen arrays laid one after another: is it a near slot? -/
def near (r : Fin 256) : BitVec 1 :=
  IntOp.cmpi .slt (IntOp.remsi .host (IntOp.subi (IntOp.addi (IntOp.divsi .host (BitVec.ofNat 32 r.val) 16#32) 16#32)
    (IntOp.remsi .host (BitVec.ofNat 32 r.val) 16#32)) 16#32) 2#32

theorem near_age : ∀ c j : Fin 16, near ⟨c.val * 16 + j.val, by omega⟩ = 1#1 → age c j.val < 2 := by decide +kernel

section Mask
open Cert.On_first_hop
theorem mask_q (a : FVec F S512x4096 .bf16) (b : FVec F S4096x512 .bf16) (i : S256x512x256.Idx) : (fn a b).1 i = near (i 0) := by
  simp only [fn, fn_part1, cmpi, Host.remsi, subi, addi, Host.divsi, iotaInDim, constantI, broadcastInDim, near]
theorem mask_o (a : FVec F S512x4096 .bf16) (b : FVec F S4096x512 .bf16) (i : S256x256x512.Idx) : (fn a b).2 i = near (i 0) := by
  simp only [fn, fn_part1, cmpi, Host.remsi, subi, addi, Host.divsi, iotaInDim, constantI, broadcastInDim, near]
end Mask

/-! ## The values -/

section Values

theorem near_slot (c j : Fin 16) (r : Fin 256) (hr : r.val = c.val * 16 + j.val) (h : near r = 1#1) : age c j.val < 2 :=
  near_age c j ((congrArg near (Fin.ext hr)).symm.trans h)

theorem row_lt (c j : Fin 16) : c.val * 16 + j.val < 256 := by omega

/-- A near slot of device `c` holds what the gathered array holds there. -/
theorem gotQ_whole (m : (ℓ : Loc Cert.Written.nD Cert.Written.τ Cert.Written.sig) → Buf (Elt F) ℓ) (v : Vec F Cert.Gathers.S512x4096 .bf16)
    (h : ∀ c : Dev Cert.Written.nD, shardQ m c = Layout.block ⟨2, ![512, 256]⟩ ⟨2, ![512, 4096]⟩ 1 16 c v (by decide)) (c : Dev Cert.Written.nD)
    (i : Cert.Written.S16x512x256.Idx) (hi : age c (i 0).val < 2) :
    gotQ m c i = Layout.block ⟨3, ![16, 512, 256]⟩ ⟨3, ![256, 512, 256]⟩ 0 16 c (manyQ v) (by decide) i := by
  have e : Layout.block ⟨3, ![16, 512, 256]⟩ ⟨3, ![256, 512, 256]⟩ 0 16 c (manyQ v) (by decide) i
      = manyQ v (ix3 ⟨c.val * 16 + (i 0).val, row_lt c (i 0)⟩ (i 1) (i 2)) :=
    congrArg (manyQ v) (funext fun x => Fin.ext (by match x with | 0 => rfl | 1 => rfl | 2 => rfl))
  refine Eq.trans ?_ (e.trans (manyQ_apply v c (i 0) (i 1) (i 2))).symm
  show shardQ m (if (i 0).val = c.val then c else prv c) (ix2 (i 1) (i 2)) = _
  exact (congrArg (fun d => shardQ m d (ix2 (i 1) (i 2))) (near_is c (i 0) hi)).trans ((congrFun (h (i 0)) (ix2 (i 1) (i 2))).trans
    (congrArg v (funext fun x => Fin.ext (by match x with | 0 => rfl | 1 => rfl))))
theorem gotO_whole (m : (ℓ : Loc Cert.Written.nD Cert.Written.τ Cert.Written.sig) → Buf (Elt F) ℓ) (v : Vec F Cert.Gathers.S4096x512 .bf16)
    (h : ∀ c : Dev Cert.Written.nD, shardO m c = Layout.block ⟨2, ![256, 512]⟩ ⟨2, ![4096, 512]⟩ 0 16 c v (by decide)) (c : Dev Cert.Written.nD)
    (i : Cert.Written.S16x256x512.Idx) (hi : age c (i 0).val < 2) :
    gotO m c i = Layout.block ⟨3, ![16, 256, 512]⟩ ⟨3, ![256, 256, 512]⟩ 0 16 c (manyO v) (by decide) i := by
  have e : Layout.block ⟨3, ![16, 256, 512]⟩ ⟨3, ![256, 256, 512]⟩ 0 16 c (manyO v) (by decide) i
      = manyO v (ix3 ⟨c.val * 16 + (i 0).val, row_lt c (i 0)⟩ (i 1) (i 2)) :=
    congrArg (manyO v) (funext fun x => Fin.ext (by match x with | 0 => rfl | 1 => rfl | 2 => rfl))
  refine Eq.trans ?_ (e.trans (manyO_apply v c (i 0) (i 1) (i 2))).symm
  show shardO m (if (i 0).val = c.val then c else prv c) (ix2 (i 1) (i 2)) = _
  exact (congrArg (fun d => shardO m d (ix2 (i 1) (i 2))) (near_is c (i 0) hi)).trans ((congrFun (h (i 0)) (ix2 (i 1) (i 2))).trans
    (congrArg v (funext fun x => Fin.ext (by match x with | 0 => rfl | 1 => rfl))))

/-- Where the mask is one on device `c`, the slot is near. -/
theorem mask_block_q (a : FVec F Cert.On_first_hop.S512x4096 .bf16) (b : FVec F Cert.On_first_hop.S4096x512 .bf16) (c : Fin 16)
    (i : (⟨3, ![16, 512, 256]⟩ : Shape).Idx)
    (h : Layout.block ⟨3, ![16, 512, 256]⟩ ⟨3, ![256, 512, 256]⟩ 0 16 c (Cert.On_first_hop.fn a b).1 (by decide) i = 1#1) : age c (i 0).val < 2 :=
  near_slot c (i 0) _ rfl ((mask_q a b _).symm.trans h)
theorem mask_block_o (a : FVec F Cert.On_first_hop.S512x4096 .bf16) (b : FVec F Cert.On_first_hop.S4096x512 .bf16) (c : Fin 16)
    (i : (⟨3, ![16, 256, 512]⟩ : Shape).Idx)
    (h : Layout.block ⟨3, ![16, 256, 512]⟩ ⟨3, ![256, 256, 512]⟩ 0 16 c (Cert.On_first_hop.fn a b).2 (by decide) i = 1#1) : age c (i 0).val < 2 :=
  near_slot c (i 0) _ rfl ((mask_o a b _).symm.trans h)

theorem written_values : Cert.bitexact_Written_Gathers_on_first_hop := fun m ρ m' ρ' _ hargs =>
  ⟨manyQ (m' (((0 : Dev Cert.Gathers.nD).tc : Thread Cert.Gathers.nD Cert.Gathers.τ).loc Cert.Gathers.main_arg0)),
    manyO (m' (((0 : Dev Cert.Gathers.nD).tc : Thread Cert.Gathers.nD Cert.Gathers.τ).loc Cert.Gathers.main_arg1)),
    (θ_run (Cert.Written.defs (F := Bits)) _ _).mono (fun _ h c =>
      ⟨fun i hi => ((h.1 c).1 i (mask_block_q _ _ c i hi)).trans (gotQ_whole m _ (fun d => (hargs d).1) c i (mask_block_q _ _ c i hi)),
        fun i hi => ((h.1 c).2.1 i (mask_block_o _ _ c i hi)).trans (gotO_whole m _ (fun d => (hargs d).2) c i (mask_block_o _ _ c i hi)), (h.1 c).2.2⟩)
      (run_written (F := Bits) m ρ),
    (θ_run (Cert.Gathers.defs (F := Bits)) _ _).mono (fun _ h =>
      ⟨fun i _ => congrFun (h 0).1 i, fun i _ => congrFun (h 0).2.1 i, (h 0).2.2⟩) (Cert.Gathers.Value.run m' ρ')⟩

end Values

end Cert.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Ring
public import proofs.«01_k».proof.Proof.Gen.Ring.Skeleton
public import proofs.«01_k».proof.Proof.Gen.Ring.Launch
public import proofs.«01_k».proof.Proof.Gen.Ring.Points
public import proofs.«01_k».proof.Proof.Gen.Gather
public import proofs.«01_k».proof.Proof.Gen.Gather.Run
public import proofs.«01_k».proof.Proof.Gen.Written
public import proofs.«01_k».proof.Proof.Gen.Written.Skeleton
public import proofs.«01_k».proof.Proof.Gen.Written.Launch
public import proofs.«01_k».proof.Proof.Gen.Written.Points
public import proofs.«01_k».proof.Proof.Gen.Gathers
public import proofs.«01_k».proof.Proof.Gen.Gathers.Run
public import proofs.«01_k».proof.Proof.Gen.On_first_hop
public import proofs.«01_k».proof.Proof.Attn.Claims
public import proofs.«01_k».proof.Proof.Sim.Facts
public import proofs.«01_k».proof.Proof.Hop.Claims
public import proofs.«01_k».proof.Proof.Own.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Ring.Gen.facts, Cert.Gather.Gen.facts,
    Cert.Written.Gen.facts, Cert.Gathers.Gen.facts, Cert.On_first_hop.Gen.facts,
    AttnClaim.frame_kernel, AttnClaim.frame_ideal, AttnClaim.frame_reference, Hop.frame_ring, Hop.frame_gather,
    Own.frame_written, Own.frame_gathers, trivial, AttnClaim.values, Hop.ring_values, Own.written_values⟩

end Cert.Proof

end
